-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v121)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v121) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v19_0)) (v1 : (c : Dev Cert.Kernel5Ideal.nD) → Buf (Elt Ideal) ((c.tc : Thread Cert.Kernel5Ideal.nD Cert.Kernel5Ideal.τ).loc Cert.Kernel5Ideal.main_v19_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v19_0) = v0 c
          ∧ r.2.mem ((c.tc : Thread Cert.Kernel5Ideal.nD Cert.Kernel5Ideal.τ).loc Cert.Kernel5Ideal.main_v19_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_v29) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v49)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v49) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v71) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_scores_finite.lean ====
abbrev S65536x1536 : Shape := ⟨2, ![65536, 1536]⟩
abbrev S256x65536 : Shape := ⟨2, ![256, 65536]⟩
abbrev S256x1536 : Shape := ⟨2, ![256, 1536]⟩
abbrev S1x16 : Shape := ⟨2, ![1, 16]⟩
abbrev S256x512 : Shape := ⟨2, ![256, 512]⟩
abbrev S256x4x2x64 : Shape := ⟨4, ![256, 4, 2, 64]⟩
abbrev S256x4x1x64 : Shape := ⟨4, ![256, 4, 1, 64]⟩
abbrev S256x4x64 : Shape := ⟨3, ![256, 4, 64]⟩
abbrev S65536x1024 : Shape := ⟨2, ![65536, 1024]⟩
abbrev S_ : Shape := ⟨0, ![]⟩

class Facts : Prop where
  slices_S256x1536_S256x512_0_1024 : S256x1536.Slices ![0, 1024] S256x512
  shapeCasts_S256x512_S256x4x2x64 : S256x512.ShapeCasts S256x4x2x64
  slices_S256x4x2x64_S256x4x1x64_0_0_1_0 : S256x4x2x64.Slices ![0, 0, 1, 0] S256x4x1x64
  shapeCasts_S256x4x1x64_S256x4x64 : S256x4x1x64.ShapeCasts S256x4x64
  slices_S65536x1536_S65536x1024_0_0 : S65536x1536.Slices ![0, 0] S65536x1024
  bitsLt_bf16_f32 : FTy.bits .bf16 < FTy.bits .f32
  bcast_S_S65536x1024 : S_.BroadcastsInDim S65536x1024 (![] : Fin 0 → Fin S65536x1024.rank)
  bcast_S_S256x65536 : S_.BroadcastsInDim S256x65536 (![] : Fin 0 → Fin S256x65536.rank)
  bcast_S_S256x4x64 : S_.BroadcastsInDim S256x4x64 (![] : Fin 0 → Fin S256x4x64.rank)
  bcast_S_S1x16 : S_.BroadcastsInDim S1x16 (![] : Fin 0 → Fin S1x16.rank)

variable [Facts]

def fn {F : FTy → Type} [FloatOps F] (main_arg0 : FVec F S65536x1536 .bf16) (main_arg1 : FVec F S256x65536 .bf16) (main_arg2 : FVec F S256x1536 .bf16) (main_arg3 : FVec F S1x16 .f32) : IVec S65536x1024 1 × IVec S256x65536 1 × IVec S256x4x64 1 × IVec S1x16 1 :=
  let main_v0 : FVec F S256x512 .bf16 := (extractStridedSlice S256x512 ![0, 1024] · slices_S256x1536_S256x512_0_1024) main_arg2
  let main_v1 : FVec F S256x4x2x64 .bf16 := shapeCast S256x4x2x64 main_v0 shapeCasts_S256x512_S256x4x2x64
  let main_v2 : FVec F S256x4x1x64 .bf16 := (extractStridedSlice S256x4x1x64 ![0, 0, 1, 0] · slices_S256x4x2x64_S256x4x1x64_0_0_1_0) main_v1
  let main_v3 : FVec F S256x4x64 .bf16 := shapeCast S256x4x64 main_v2 shapeCasts_S256x4x1x64_S256x4x64
  let main_v4 : FVec F S65536x1024 .bf16 := (extractStridedSlice S65536x1024 ![0, 0] · slices_S65536x1536_S65536x1024_0_0) main_arg0
  let main_v5 : FVec F S65536x1024 .f32 := (extf .f32 · bitsLt_bf16_f32) main_v4
  let main_v6 : FVec F S65536x1024 .f32 := Host.absf main_v5
  let main_cst : FVec F S_ .f32 := constant S_ .f32 0x7F800000#32
  let main_v7 : FVec F S65536x1024 .f32 := broadcastInDim S65536x1024 ![] bcast_S_S65536x1024 main_cst
  let main_v8 : IVec S65536x1024 1 := cmpf .olt main_v6 main_v7
  let main_v9 : FVec F S256x65536 .f32 := (extf .f32 · bitsLt_bf16_f32) main_arg1
  let main_v10 : FVec F S256x65536 .f32 := Host.absf main_v9
  let main_cst_0 : FVec F S_ .f32 := constant S_ .f32 0x7F800000#32
  let main_v11 : FVec F S256x65536 .f32 := broadcastInDim S256x65536 ![] bcast_S_S256x65536 main_cst_0
  let main_v12 : IVec S256x65536 1 := cmpf .olt main_v10 main_v11
  let main_v13 : FVec F S256x4x64 .f32 := (extf .f32 · bitsLt_bf16_f32) main_v3
  let main_v14 : FVec F S256x4x64 .f32 := Host.absf main_v13
  let main_cst_1 : FVec F S_ .f32 := constant S_ .f32 0x7F800000#32
  let main_v15 : FVec F S256x4x64 .f32 := broadcastInDim S256x4x64 ![] bcast_S_S256x4x64 main_cst_1
  let main_v16 : IVec S256x4x64 1 := cmpf .olt main_v14 main_v15
  let main_cst_2 : FVec F S_ .f32 := constant S_ .f32 0x7F800000#32
  let main_v17 : FVec F S1x16 .f32 := broadcastInDim S1x16 ![] bcast_S_S1x16 main_cst_2
  let main_v18 : IVec S1x16 1 := cmpf .olt main_arg3 main_v17
  (main_v8, main_v12, main_v16, main_v18)
-- ==== Kernel.lean ====
abbrev S65536x1536 : Shape := ⟨2, ![65536, 1536]⟩
abbrev S256x65536 : Shape := ⟨2, ![256, 65536]⟩
abbrev S256x1536 : Shape := ⟨2, ![256, 1536]⟩
abbrev S1x16 : Shape := ⟨2, ![1, 16]⟩
abbrev S256x512 : Shape := ⟨2, ![256, 512]⟩
abbrev S16x16x4x2x64 : Shape := ⟨5, ![16, 16, 4, 2, 64]⟩
abbrev S16x16x4x1x64 : Shape := ⟨5, ![16, 16, 4, 1, 64]⟩
abbrev S16x16x4x64 : Shape := ⟨4, ![16, 16, 4, 64]⟩
abbrev S16x16x256 : Shape := ⟨3, ![16, 16, 256]⟩
abbrev S16x256x16 : Shape := ⟨3, ![16, 256, 16]⟩
abbrev S_ : Shape := ⟨0, ![]⟩
abbrev S16x256x128 : Shape := ⟨3, ![16, 256, 128]⟩
abbrev S16 : Shape := ⟨1, ![16]⟩
abbrev S128 : Shape := ⟨1, ![128]⟩
abbrev S128x1 : Shape := ⟨2, ![128, 1]⟩
abbrev S512 : Shape := ⟨1, ![512]⟩
abbrev S1x512 : Shape := ⟨2, ![1, 512]⟩
abbrev S128x512 : Shape := ⟨2, ![128, 512]⟩
abbrev S1x128x512 : Shape := ⟨3, ![1, 128, 512]⟩
abbrev S16x1x1 : Shape := ⟨3, ![16, 1, 1]⟩
abbrev S16x128x512 : Shape := ⟨3, ![16, 128, 512]⟩
abbrev S1x1x512 : Shape := ⟨3, ![1, 1, 512]⟩
abbrev S1x16x128x512 : Shape := ⟨4, ![1, 16, 128, 512]⟩
abbrev S3x16x128x512 : Shape := ⟨4, ![3, 16, 128, 512]⟩
abbrev S3x4x512x512 : Shape := ⟨4, ![3, 4, 512, 512]⟩
abbrev S1x128 : Shape := ⟨2, ![1, 128]⟩
abbrev S16x128 : Shape := ⟨2, ![16, 128]⟩
abbrev S2048 : Shape := ⟨1, ![2048]⟩
abbrev S2048x1 : Shape := ⟨2, ![2048, 1]⟩
abbrev S2048x128 : Shape := ⟨2, ![2048, 128]⟩
abbrev S4x512x128 : Shape := ⟨3, ![4, 512, 128]⟩
abbrev S65536x1024 : Shape := ⟨2, ![65536, 1024]⟩
abbrev S1024x1536 : Shape := ⟨2, ![1024, 1536]⟩
abbrev S16x512 : Shape := ⟨2, ![16, 512]⟩
abbrev S256x128 : Shape := ⟨2, ![256, 128]⟩
abbrev S256x1024 : Shape := ⟨2, ![256, 1024]⟩
abbrev S1x256x128 : Shape := ⟨3, ![1, 256, 128]⟩
abbrev S1x4x512x512 : Shape := ⟨4, ![1, 4, 512, 512]⟩
abbrev S1024x1024 : Shape := ⟨2, ![1024, 1024]⟩
abbrev S112x128 : Shape := ⟨2, ![112, 128]⟩
abbrev S128x128 : Shape := ⟨2, ![128, 128]⟩
abbrev S64x128 : Shape := ⟨2, ![64, 128]⟩
abbrev S512x128 : Shape := ⟨2, ![512, 128]⟩
abbrev S1x64x128 : Shape := ⟨3, ![1, 64, 128]⟩
abbrev S64x512 : Shape := ⟨2, ![64, 512]⟩
abbrev S512x512 : Shape := ⟨2, ![512, 512]⟩
abbrev S1x1x512x512 : Shape := ⟨4, ![1, 1, 512, 512]⟩
abbrev S1x512x128 : Shape := ⟨3, ![1, 512, 128]⟩
abbrev S512x1 : Shape := ⟨2, ![512, 1]⟩
abbrev S128x256 : Shape := ⟨2, ![128, 256]⟩

abbrev nBuf : Space → Nat
  | .hbm => 196
  | .vmem => 24
  | .smem => 0
  | _ => 0

abbrev hbmTy0_0 (i : Nat) : BufTy := match i % 128 with
  | 0 => ⟨S65536x1536, .bf16⟩
  | 1 => ⟨S256x65536, .bf16⟩
  | 2 => ⟨S256x1536, .bf16⟩
  | 3 => ⟨S1x16, .f32⟩
  | 4 => ⟨S256x512, .bf16⟩
  | 5 => ⟨S16x16x4x2x64, .bf16⟩
  | 6 => ⟨S16x16x4x1x64, .bf16⟩
  | 7 => ⟨S16x16x4x64, .bf16⟩
  | 8 => ⟨S16x16x256, .bf16⟩
  | 9 => ⟨S16x256x16, .bf16⟩
  | 10 => ⟨S_, .i32⟩
  | 11 => ⟨S_, .bf16⟩
  | 12 => ⟨S16x256x128, .bf16⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S16, .f32⟩
  | 28 => ⟨S128, .i32⟩
  | 29 => ⟨S128x1, .i32⟩
  | 30 => ⟨S512, .i32⟩
  | 31 => ⟨S1x512, .i32⟩
  | 32 => ⟨S_, .i32⟩
  | 33 => ⟨S1x512, .i32⟩
  | 34 => ⟨S1x512, .i32⟩
  | 35 => ⟨S128x512, .i32⟩
  | 36 => ⟨S128x512, .i32⟩
  | 37 => ⟨S128x512, .i32⟩
  | 38 => ⟨S128x512, .i32⟩
  | 39 => ⟨S_, .i32⟩
  | 40 => ⟨S_, .i32⟩
  | 41 => ⟨S1x512, .i32⟩
  | 42 => ⟨S1x512, .i32⟩
  | 43 => ⟨S1x512, .i32⟩
  | 44 => ⟨S_, .i32⟩
  | 45 => ⟨S1x512, .i32⟩
  | 46 => ⟨S1x512, .i1⟩
  | 47 => ⟨S1x512, .i32⟩
  | 48 => ⟨S1x512, .i32⟩
  | 49 => ⟨S_, .i32⟩
  | 50 => ⟨S1x512, .i32⟩
  | 51 => ⟨S1x512, .i1⟩
  | 52 => ⟨S1x512, .i1⟩
  | 53 => ⟨S_, .i32⟩
  | 54 => ⟨S1x512, .i32⟩
  | 55 => ⟨S1x512, .i32⟩
  | 56 => ⟨S1x512, .i32⟩
  | 57 => ⟨S_, .i32⟩
  | 58 => ⟨S1x512, .i32⟩
  | 59 => ⟨S1x512, .i1⟩
  | 60 => ⟨S_, .i32⟩
  | 61 => ⟨S128x512, .i32⟩
  | 62 => ⟨S128x512, .i1⟩
  | 63 => ⟨S128x512, .i1⟩
  | 64 => ⟨S128x512, .i1⟩
  | 65 => ⟨S_, .i32⟩
  | 66 => ⟨S1x512, .i32⟩
  | 67 => ⟨S1x512, .i1⟩
  | 68 => ⟨S_, .i32⟩
  | 69 => ⟨S1x512, .i32⟩
  | 70 => ⟨S1x512, .i1⟩
  | 71 => ⟨S1x512, .i1⟩
  | 72 => ⟨S_, .i32⟩
  | 73 => ⟨S1x512, .i32⟩
  | 74 => ⟨S1x512, .i1⟩
  | 75 => ⟨S_, .i32⟩
  | 76 => ⟨S128x1, .i32⟩
  | 77 => ⟨S128x1, .i32⟩
  | 78 => ⟨S_, .i32⟩
  | 79 => ⟨S1x512, .i32⟩
  | 80 => ⟨S1x512, .i32⟩
  | 81 => ⟨S128x512, .i32⟩
  | 82 => ⟨S128x512, .i32⟩
  | 83 => ⟨S128x512, .i32⟩
  | 84 => ⟨S_, .i32⟩
  | 85 => ⟨S_, .i32⟩
  | 86 => ⟨S128x512, .i1⟩
  | 87 => ⟨S128x512, .i32⟩
  | 88 => ⟨S128x512, .i32⟩
  | 89 => ⟨S128x512, .i32⟩
  | 90 => ⟨S128x512, .f32⟩
  | 91 => ⟨S128x512, .i1⟩
  | 92 => ⟨S128x512, .i1⟩
  | 93 => ⟨S1x128x512, .i1⟩
  | 94 => ⟨S16x1x1, .f32⟩
  | 95 => ⟨S16x1x1, .f32⟩
  | 96 => ⟨S1x128x512, .f32⟩
  | 97 => ⟨S16x128x512, .f32⟩
  | 98 => ⟨S16x128x512, .f32⟩
  | 99 => ⟨S16x128x512, .f32⟩
  | 100 => ⟨S_, .f32⟩
  | 101 => ⟨S_, .f32⟩
  | 102 => ⟨S16x128x512, .i1⟩
  | 103 => ⟨S16x128x512, .f32⟩
  | 104 => ⟨S16x128x512, .f32⟩
  | 105 => ⟨S1x1x512, .i1⟩
  | 106 => ⟨S16x1x1, .f32⟩
  | 107 => ⟨S16x128x512, .i1⟩
  | 108 => ⟨S16x128x512, .f32⟩
  | 109 => ⟨S16x128x512, .f32⟩
  | 110 => ⟨S_, .i32⟩
  | 111 => ⟨S1x512, .i32⟩
  | 112 => ⟨S1x512, .i1⟩
  | 113 => ⟨S128x512, .i1⟩
  | 114 => ⟨S128x512, .i1⟩
  | 115 => ⟨S_, .i32⟩
  | 116 => ⟨S_, .i32⟩
  | 117 => ⟨S128x512, .i1⟩
  | 118 => ⟨S128x512, .i32⟩
  | 119 => ⟨S128x512, .i32⟩
  | 120 => ⟨S128x512, .i32⟩
  | 121 => ⟨S128x512, .f32⟩
  | 122 => ⟨S128x512, .i1⟩
  | 123 => ⟨S128x512, .i1⟩
  | 124 => ⟨S1x128x512, .i1⟩
  | 125 => ⟨S16x1x1, .f32⟩
  | 126 => ⟨S16x1x1, .f32⟩
  | 127 => ⟨S1x128x512, .f32⟩
  | _ => ⟨S65536x1536, .bf16⟩

abbrev hbmTy0_1 (i : Nat) : BufTy := match i % 128 with
  | 0 => ⟨S16x128x512, .f32⟩
  | 1 => ⟨S16x128x512, .f32⟩
  | 2 => ⟨S16x128x512, .f32⟩
  | 3 => ⟨S_, .f32⟩
  | 4 => ⟨S_, .f32⟩
  | 5 => ⟨S16x128x512, .i1⟩
  | 6 => ⟨S16x128x512, .f32⟩
  | 7 => ⟨S16x128x512, .f32⟩
  | 8 => ⟨S1x1x512, .i1⟩
  | 9 => ⟨S16x1x1, .f32⟩
  | 10 => ⟨S16x128x512, .i1⟩
  | 11 => ⟨S16x128x512, .f32⟩
  | 12 => ⟨S16x128x512, .f32⟩
  | 13 => ⟨S_, .i32⟩
  | 14 => ⟨S1x512, .i32⟩
  | 15 => ⟨S1x512, .i1⟩
  | 16 => ⟨S128x512, .i1⟩
  | 17 => ⟨S128x512, .i1⟩
  | 18 => ⟨S_, .i32⟩
  | 19 => ⟨S_, .i32⟩
  | 20 => ⟨S128x512, .i1⟩
  | 21 => ⟨S128x512, .i32⟩
  | 22 => ⟨S128x512, .i32⟩
  | 23 => ⟨S128x512, .i32⟩
  | 24 => ⟨S128x512, .f32⟩
  | 25 => ⟨S128x512, .i1⟩
  | 26 => ⟨S128x512, .i1⟩
  | 27 => ⟨S1x128x512, .i1⟩
  | 28 => ⟨S16x1x1, .f32⟩
  | 29 => ⟨S16x1x1, .f32⟩
  | 30 => ⟨S1x128x512, .f32⟩
  | 31 => ⟨S16x128x512, .f32⟩
  | 32 => ⟨S16x128x512, .f32⟩
  | 33 => ⟨S16x128x512, .f32⟩
  | 34 => ⟨S_, .f32⟩
  | 35 => ⟨S_, .f32⟩
  | 36 => ⟨S16x128x512, .i1⟩
  | 37 => ⟨S16x128x512, .f32⟩
  | 38 => ⟨S16x128x512, .f32⟩
  | 39 => ⟨S1x1x512, .i1⟩
  | 40 => ⟨S16x1x1, .f32⟩
  | 41 => ⟨S16x128x512, .i1⟩
  | 42 => ⟨S16x128x512, .f32⟩
  | 43 => ⟨S16x128x512, .f32⟩
  | 44 => ⟨S1x16x128x512, .f32⟩
  | 45 => ⟨S1x16x128x512, .f32⟩
  | 46 => ⟨S1x16x128x512, .f32⟩
  | 47 => ⟨S3x16x128x512, .f32⟩
  | 48 => ⟨S3x4x512x512, .f32⟩
  | 49 => ⟨S128, .i32⟩
  | 50 => ⟨S1x128, .i32⟩
  | 51 => ⟨S_, .i32⟩
  | 52 => ⟨S1x128, .i32⟩
  | 53 => ⟨S1x128, .i1⟩
  | 54 => ⟨S_, .f32⟩
  | 55 => ⟨S16, .f32⟩
  | 56 => ⟨S16, .f32⟩
  | 57 => ⟨S16x128, .f32⟩
  | 58 => ⟨S2048, .f32⟩
  | 59 => ⟨S2048x1, .f32⟩
  | 60 => ⟨S_, .f32⟩
  | 61 => ⟨S_, .f32⟩
  | 62 => ⟨S2048x128, .i1⟩
  | 63 => ⟨S2048x128, .f32⟩
  | 64 => ⟨S2048x128, .f32⟩
  | 65 => ⟨S2048x128, .f32⟩
  | 66 => ⟨S4x512x128, .f32⟩
  | 67 => ⟨S65536x1024, .bf16⟩
  | _ => ⟨S65536x1536, .bf16⟩

abbrev hbmTy (i : Nat) : BufTy := match i / 128 with
  | 0 => hbmTy0_0 i
  | 1 => hbmTy0_1 i
  | _ => ⟨S65536x1536, .bf16⟩

abbrev bufTy : (tb : Table) → Fin (tcTables nBuf tb) → BufTy
  | .hbm, ⟨i, _⟩ => hbmTy i
  | .local _ .vmem, ⟨0, _⟩ => ⟨S1024x1536, .bf16⟩
  | .local _ .vmem, ⟨1, _⟩ => ⟨S1024x1536, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S16x512, .bf16⟩
  | .local _ .vmem, ⟨7, _⟩ => ⟨S16x512, .bf16⟩
  | .local _ .vmem, ⟨8, _⟩ => ⟨S256x128, .bf16⟩
  | .local _ .vmem, ⟨9, _⟩ => ⟨S256x128, .bf16⟩
  | .local _ .vmem, ⟨10, _⟩ => ⟨S256x1024, .bf16⟩
  | .local _ .vmem, ⟨11, _⟩ => ⟨S256x1024, .bf16⟩
  | .local _ .vmem, ⟨12, _⟩ => ⟨S256x128, .bf16⟩
  | .local _ .vmem, ⟨13, _⟩ => ⟨S256x128, .bf16⟩
  | .local _ .vmem, ⟨14, _⟩ => ⟨S1x256x128, .bf16⟩
  | .local _ .vmem, ⟨15, _⟩ => ⟨S1x256x128, .bf16⟩
  | .local _ .vmem, ⟨16, _⟩ => ⟨S1x4x512x512, .f32⟩
  | .local _ .vmem, ⟨17, _⟩ => ⟨S1x4x512x512, .f32⟩
  | .local _ .vmem, ⟨18, _⟩ => ⟨S1x4x512x512, .f32⟩
  | .local _ .vmem, ⟨19, _⟩ => ⟨S1x4x512x512, .f32⟩
  | .local _ .vmem, ⟨20, _⟩ => ⟨S1x4x512x512, .f32⟩
  | .local _ .vmem, ⟨21, _⟩ => ⟨S4x512x128, .f32⟩
  | .local _ .vmem, ⟨22, _⟩ => ⟨S1024x1024, .bf16⟩
  | .local _ .vmem, ⟨23, _⟩ => ⟨S1024x1024, .bf16⟩
  | _, _ => ⟨S65536x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v28 : Ref sig .tc := ⟨.hbm, 56, rfl⟩
abbrev main_c_5 : Ref sig .tc := ⟨.hbm, 57, rfl⟩
abbrev main_v29 : Ref sig .tc := ⟨.hbm, 58, rfl⟩
abbrev main_v30 : Ref sig .tc := ⟨.hbm, 59, rfl⟩
abbrev main_c_6 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c_7 : Ref sig .tc := ⟨.hbm, 65, rfl⟩
abbrev main_v35 : Ref sig .tc := ⟨.hbm, 66, rfl⟩
abbrev main_v36 : Ref sig .tc := ⟨.hbm, 67, rfl⟩
abbrev main_c_8 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_c_9 : Ref sig .tc := ⟨.hbm, 72, rfl⟩
abbrev main_v40 : Ref sig .tc := ⟨.hbm, 73, rfl⟩
abbrev main_v41 : Ref sig .tc := ⟨.hbm, 74, rfl⟩
abbrev main_c_10 : Ref sig .tc := ⟨.hbm, 75, rfl⟩
abbrev main_v42 : Ref sig .tc := ⟨.hbm, 76, rfl⟩
abbrev main_v43 : Ref sig .tc := ⟨.hbm, 77, rfl⟩
abbrev main_c_11 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_c_12 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_13 : Ref sig .tc := ⟨.hbm, 100, rfl⟩
abbrev main_call4_v0 : Ref sig .tc := ⟨.hbm, 101, rfl⟩
abbrev main_call4_v1 : Ref sig .tc := ⟨.hbm, 102, rfl⟩
abbrev main_call4_v2 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_call5_v0 : Ref sig .tc := ⟨.hbm, 107, rfl⟩
abbrev main_call5_v1 : Ref sig .tc := ⟨.hbm, 108, rfl⟩
abbrev main_v64 : Ref sig .tc := ⟨.hbm, 109, rfl⟩
abbrev main_c_14 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_c_15 : Ref sig .tc := ⟨.hbm, 115, rfl⟩
abbrev main_call6_v0 : Ref sig .tc := ⟨.hbm, 116, rfl⟩
abbrev main_call6_v1 : Ref sig .tc := ⟨.hbm, 117, rfl⟩
abbrev main_call6_v2 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_cst_16 : Ref sig .tc := ⟨.hbm, 131, rfl⟩
abbrev main_call8_v0 : Ref sig .tc := ⟨.hbm, 132, rfl⟩
abbrev main_call8_v1 : Ref sig .tc := ⟨.hbm, 133, rfl⟩
abbrev main_call8_v2 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_call9_v0 : Ref sig .tc := ⟨.hbm, 138, rfl⟩
abbrev main_call9_v1 : Ref sig .tc := ⟨.hbm, 139, rfl⟩
abbrev main_v84 : Ref sig .tc := ⟨.hbm, 140, rfl⟩
abbrev main_c_17 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_c_18 : Ref sig .tc := ⟨.hbm, 146, rfl⟩
abbrev main_call10_v0 : Ref sig .tc := ⟨.hbm, 147, rfl⟩
abbrev main_call10_v1 : Ref sig .tc := ⟨.hbm, 148, rfl⟩
abbrev main_call10_v2 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_cst_19 : Ref sig .tc := ⟨.hbm, 162, rfl⟩
abbrev main_call12_v0 : Ref sig .tc := ⟨.hbm, 163, rfl⟩
abbrev main_call12_v1 : Ref sig .tc := ⟨.hbm, 164, rfl⟩
abbrev main_call12_v2 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_call13_v0 : Ref sig .tc := ⟨.hbm, 169, rfl⟩
abbrev main_call13_v1 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_c_20 : Ref sig .tc := ⟨.hbm, 179, rfl⟩
abbrev main_v112 : Ref sig .tc := ⟨.hbm, 180, rfl⟩
abbrev main_v113 : Ref sig .tc := ⟨.hbm, 181, rfl⟩
abbrev main_cst_21 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_cst_22 : Ref sig .tc := ⟨.hbm, 188, rfl⟩
abbrev main_call14_v0 : Ref sig .tc := ⟨.hbm, 189, rfl⟩
abbrev main_call14_v1 : Ref sig .tc := ⟨.hbm, 190, rfl⟩
abbrev main_call14_v2 : Ref sig .tc := ⟨.hbm, 191, rfl⟩
abbrev main_call14_v3 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c8_i32 : BitVec 32 := 8#32
  let v1 : BitVec 32 := Scalar.muli c8_i32 arg1
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c2_i32 : BitVec 32 := 2#32
  let c0_i32_0 : BitVec 32 := 0#32
  ![v4.toNat, c2_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c8_i32 : BitVec 32 := 8#32
  let v1 : BitVec 32 := Scalar.muli c8_i32 arg1
  let c8_i32_0 : BitVec 32 := 8#32
  let v2 : BitVec 32 := Scalar.addi v1 c8_i32_0
  let c31_i32 : BitVec 32 := 31#32
  let v3 : BitVec 32 := Scalar.minsi v2 c31_i32
  let v4 : BitVec 32 := Scalar.addi v0 v3
  let c2_i32 : BitVec 32 := 2#32
  let c0_i32 : BitVec 32 := 0#32
  ![v4.toNat, c2_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c8_i32 : BitVec 32 := 8#32
  let v1 : BitVec 32 := Scalar.muli c8_i32 arg1
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![c0_i32_0.toNat, v4.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c8_i32 : BitVec 32 := 8#32
  let v1 : BitVec 32 := Scalar.muli c8_i32 arg1
  let c8_i32_0 : BitVec 32 := 8#32
  let v2 : BitVec 32 := Scalar.addi v1 c8_i32_0
  let c31_i32 : BitVec 32 := 31#32
  let v3 : BitVec 32 := Scalar.minsi v2 c31_i32
  let v4 : BitVec 32 := Scalar.addi v0 v3
  let c0_i32 : BitVec 32 := 0#32
  let c0_i32_1 : BitVec 32 := 0#32
  ![c0_i32.toNat, v4.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c1_i32 : BitVec 32 := 1#32
  let c0_i32_0 : BitVec 32 := 0#32
  let v1 : BitVec 32 := Scalar.select v0 c1_i32 c0_i32_0
  let c0_i32_1 : BitVec 32 := 0#32
  let c0_i32_2 : BitVec 32 := 0#32
  let c0_i32_3 : BitVec 32 := 0#32
  let c0_i32_4 : BitVec 32 := 0#32
  ![v1.toNat, c0_i32_1.toNat, c0_i32_2.toNat, c0_i32_3.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg1 c3_i32
  let c2_i32 : BitVec 32 := 2#32
  let c0_i32 : BitVec 32 := 0#32
  let v1 : BitVec 32 := Scalar.select v0 c2_i32 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x4x512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x4x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S4x512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S65536x1536 : Shape := ⟨2, ![65536, 1536]⟩
abbrev S256x65536 : Shape := ⟨2, ![256, 65536]⟩
abbrev S256x1536 : Shape := ⟨2, ![256, 1536]⟩
abbrev S1x16 : Shape := ⟨2, ![1, 16]⟩
abbrev S16x16x1536 : Shape := ⟨3, ![16, 16, 1536]⟩
abbrev S16x4096x1536 : Shape := ⟨3, ![16, 4096, 1536]⟩
abbrev S16x4112x1536 : Shape := ⟨3, ![16, 4112, 1536]⟩
abbrev S16x4112x1024 : Shape := ⟨3, ![16, 4112, 1024]⟩
abbrev S16x4112x512 : Shape := ⟨3, ![16, 4112, 512]⟩
abbrev S16x4112x4x2x64 : Shape := ⟨5, ![16, 4112, 4, 2, 64]⟩
abbrev S16x4112x4x1x64 : Shape := ⟨5, ![16, 4112, 4, 1, 64]⟩
abbrev S16x4112x4x64 : Shape := ⟨4, ![16, 4112, 4, 64]⟩
abbrev S256x512 : Shape := ⟨2, ![256, 512]⟩
abbrev S16x16x4x2x64 : Shape := ⟨5, ![16, 16, 4, 2, 64]⟩
abbrev S16x16x4x1x64 : Shape := ⟨5, ![16, 16, 4, 1, 64]⟩
abbrev S16x16x4x64 : Shape := ⟨4, ![16, 16, 4, 64]⟩
abbrev S65536x256 : Shape := ⟨2, ![65536, 256]⟩
abbrev S16x4096x4x64 : Shape := ⟨4, ![16, 4096, 4, 64]⟩
abbrev S16 : Shape := ⟨1, ![16]⟩
abbrev S_ : Shape := ⟨0, ![]⟩
abbrev S16x4224x1024 : Shape := ⟨3, ![16, 4224, 1024]⟩
abbrev S16x33x128x4x4x64 : Shape := ⟨6, ![16, 33, 128, 4, 4, 64]⟩
abbrev S16x4224x4x64 : Shape := ⟨4, ![16, 4224, 4, 64]⟩
abbrev S16x4480x4x64 : Shape := ⟨4, ![16, 4480, 4, 64]⟩
abbrev S16x35x128x4x64 : Shape := ⟨5, ![16, 35, 128, 4, 64]⟩
abbrev S16x33x128x4x64 : Shape := ⟨5, ![16, 33, 128, 4, 64]⟩
abbrev S16x33x384x4x64 : Shape := ⟨5, ![16, 33, 384, 4, 64]⟩
abbrev S4224 : Shape := ⟨1, ![4224]⟩
abbrev S33x128 : Shape := ⟨2, ![33, 128]⟩
abbrev S33 : Shape := ⟨1, ![33]⟩
abbrev S33x1 : Shape := ⟨2, ![33, 1]⟩
abbrev S384 : Shape := ⟨1, ![384]⟩
abbrev S1x384 : Shape := ⟨2, ![1, 384]⟩
abbrev S33x384 : Shape := ⟨2, ![33, 384]⟩
abbrev S33x128x1 : Shape := ⟨3, ![33, 128, 1]⟩
abbrev S33x1x384 : Shape := ⟨3, ![33, 1, 384]⟩
abbrev S33x128x384 : Shape := ⟨3, ![33, 128, 384]⟩
abbrev S1x1x16 : Shape := ⟨3, ![1, 1, 16]⟩
abbrev S33x128x16 : Shape := ⟨3, ![33, 128, 16]⟩
abbrev S4x4 : Shape := ⟨2, ![4, 4]⟩
abbrev S1x1x4x4x1x1 : Shape := ⟨6, ![1, 1, 4, 4, 1, 1]⟩
abbrev S16x33x4x384x128x4 : Shape := ⟨6, ![16, 33, 4, 384, 128, 4]⟩
abbrev S16x33x4x4x128x384 : Shape := ⟨6, ![16, 33, 4, 4, 128, 384]⟩
abbrev S1x33x1x1x128x384 : Shape := ⟨6, ![1, 33, 1, 1, 128, 384]⟩
abbrev S1x33x4x4x128x384 : Shape := ⟨6, ![1, 33, 4, 4, 128, 384]⟩
abbrev S16x4x16x33x128x4 : Shape := ⟨6, ![16, 4, 16, 33, 128, 4]⟩
abbrev S16x33x4x4x128x16 : Shape := ⟨6, ![16, 33, 4, 4, 128, 16]⟩
abbrev S1x33x1x1x128x16 : Shape := ⟨6, ![1, 33, 1, 1, 128, 16]⟩
abbrev S1x33x4x4x128x16 : Shape := ⟨6, ![1, 33, 4, 4, 128, 16]⟩
abbrev S16x33x4x4x128x1 : Shape := ⟨6, ![16, 33, 4, 4, 128, 1]⟩
abbrev S16x33x4x4x128x401 : Shape := ⟨6, ![16, 33, 4, 4, 128, 401]⟩
abbrev S16x33x4x4x128 : Shape := ⟨5, ![16, 33, 4, 4, 128]⟩
abbrev S16x33x4x64x4x128 : Shape := ⟨6, ![16, 33, 4, 64, 4, 128]⟩
abbrev S16x4x64x33x4x128 : Shape := ⟨6, ![16, 4, 64, 33, 4, 128]⟩
abbrev S16x4096x1024 : Shape := ⟨3, ![16, 4096, 1024]⟩
abbrev S65536x1024 : Shape := ⟨2, ![65536, 1024]⟩

abbrev nBuf : Space → Nat
  | .hbm => 166
  | .vmem => 0
  | .smem => 0
  | _ => 0

abbrev hbmTy0_0 (i : Nat) : BufTy := match i % 128 with
  | 0 => ⟨S65536x1536, .bf16⟩
  | 1 => ⟨S256x65536, .bf16⟩
  | 2 => ⟨S256x1536, .bf16⟩
  | 3 => ⟨S1x16, .f32⟩
  | 4 => ⟨S256x1536, .f32⟩
  | 5 => ⟨S16x16x1536, .f32⟩
  | 6 => ⟨S65536x1536, .f32⟩
  | 7 => ⟨S16x4096x1536, .f32⟩
  | 8 => ⟨S16x4112x1536, .f32⟩
  | 9 => ⟨S16x4112x1024, .f32⟩
  | 10 => ⟨S16x4112x512, .f32⟩
  | 11 => ⟨S16x4112x4x2x64, .f32⟩
  | 12 => ⟨S16x4112x4x1x64, .f32⟩
  | 13 => ⟨S16x4112x4x64, .f32⟩
  | 14 => ⟨S256x1536, .f32⟩
  | 15 => ⟨S256x512, .f32⟩
  | 16 => ⟨S16x16x4x2x64, .f32⟩
  | 17 => ⟨S16x16x4x1x64, .f32⟩
  | 18 => ⟨S16x16x4x64, .f32⟩
  | 19 => ⟨S256x65536, .f32⟩
  | 20 => ⟨S65536x256, .f32⟩
  | 21 => ⟨S16x4096x4x64, .f32⟩
  | 22 => ⟨S16x4112x4x64, .f32⟩
  | 23 => ⟨S16, .f32⟩
  | 24 => ⟨S_, .i32⟩
  | 25 => ⟨S_, .f32⟩
  | 26 => ⟨S16x4224x1024, .f32⟩
  | 27 => ⟨S16x33x128x4x4x64, .f32⟩
  | 28 => ⟨S_, .i32⟩
  | 29 => ⟨S_, .f32⟩
  | 30 => ⟨S16x4224x4x64, .f32⟩
  | 31 => ⟨S_, .i32⟩
  | 32 => ⟨S_, .f32⟩
  | 33 => ⟨S16x4224x4x64, .f32⟩
  | 34 => ⟨S16x16x4x64, .f32⟩
  | 35 => ⟨S16x16x4x64, .f32⟩
  | 36 => ⟨S_, .i32⟩
  | 37 => ⟨S_, .f32⟩
  | 38 => ⟨S16x4480x4x64, .f32⟩
  | 39 => ⟨S16x35x128x4x64, .f32⟩
  | 40 => ⟨S16x33x128x4x64, .f32⟩
  | 41 => ⟨S16x33x128x4x64, .f32⟩
  | 42 => ⟨S16x33x128x4x64, .f32⟩
  | 43 => ⟨S16x33x384x4x64, .f32⟩
  | 44 => ⟨S_, .i32⟩
  | 45 => ⟨S_, .f32⟩
  | 46 => ⟨S16x4480x4x64, .f32⟩
  | 47 => ⟨S16x35x128x4x64, .f32⟩
  | 48 => ⟨S16x33x128x4x64, .f32⟩
  | 49 => ⟨S16x33x128x4x64, .f32⟩
  | 50 => ⟨S16x33x128x4x64, .f32⟩
  | 51 => ⟨S16x33x384x4x64, .f32⟩
  | 52 => ⟨S4224, .i32⟩
  | 53 => ⟨S33x128, .i32⟩
  | 54 => ⟨S33, .i32⟩
  | 55 => ⟨S33x1, .i32⟩
  | 56 => ⟨S_, .i32⟩
  | 57 => ⟨S33x1, .i32⟩
  | 58 => ⟨S33x1, .i32⟩
  | 59 => ⟨S_, .i32⟩
  | 60 => ⟨S33x1, .i32⟩
  | 61 => ⟨S33x1, .i32⟩
  | 62 => ⟨S384, .i32⟩
  | 63 => ⟨S1x384, .i32⟩
  | 64 => ⟨S33x384, .i32⟩
  | 65 => ⟨S33x384, .i32⟩
  | 66 => ⟨S33x384, .i32⟩
  | 67 => ⟨S16, .i32⟩
  | 68 => ⟨S_, .i32⟩
  | 69 => ⟨S16, .i32⟩
  | 70 => ⟨S16, .i32⟩
  | 71 => ⟨S33x128x1, .i32⟩
  | 72 => ⟨S33x1x384, .i32⟩
  | 73 => ⟨S33x128x384, .i32⟩
  | 74 => ⟨S33x128x384, .i32⟩
  | 75 => ⟨S33x128x384, .i32⟩
  | 76 => ⟨S33x128x384, .i32⟩
  | 77 => ⟨S_, .i32⟩
  | 78 => ⟨S33x384, .i32⟩
  | 79 => ⟨S33x384, .i1⟩
  | 80 => ⟨S_, .i32⟩
  | 81 => ⟨S33x384, .i32⟩
  | 82 => ⟨S33x384, .i1⟩
  | 83 => ⟨S33x384, .i1⟩
  | 84 => ⟨S33x1x384, .i1⟩
  | 85 => ⟨S_, .i32⟩
  | 86 => ⟨S33x128x384, .i32⟩
  | 87 => ⟨S33x128x384, .i1⟩
  | 88 => ⟨S33x128x384, .i1⟩
  | 89 => ⟨S33x128x384, .i1⟩
  | 90 => ⟨S33x128x1, .i32⟩
  | 91 => ⟨S1x1x16, .i32⟩
  | 92 => ⟨S33x128x16, .i32⟩
  | 93 => ⟨S33x128x16, .i32⟩
  | 94 => ⟨S33x128x16, .i32⟩
  | 95 => ⟨S33x128x16, .i32⟩
  | 96 => ⟨S16, .f32⟩
  | 97 => ⟨S_, .f32⟩
  | 98 => ⟨S16, .f32⟩
  | 99 => ⟨S16, .f32⟩
  | 100 => ⟨S_, .f32⟩
  | 101 => ⟨S16, .f32⟩
  | 102 => ⟨S16, .f32⟩
  | 103 => ⟨S_, .f32⟩
  | 104 => ⟨S16, .f32⟩
  | 105 => ⟨S16, .f32⟩
  | 106 => ⟨S_, .f32⟩
  | 107 => ⟨S16, .f32⟩
  | 108 => ⟨S16, .f32⟩
  | 109 => ⟨S16, .f32⟩
  | 110 => ⟨S4x4, .f32⟩
  | 111 => ⟨S1x1x4x4x1x1, .f32⟩
  | 112 => ⟨S16x33x4x384x128x4, .f32⟩
  | 113 => ⟨S16x33x4x4x128x384, .f32⟩
  | 114 => ⟨S33x128x384, .f32⟩
  | 115 => ⟨S1x33x1x1x128x384, .f32⟩
  | 116 => ⟨S1x33x4x4x128x384, .f32⟩
  | 117 => ⟨S1x33x4x4x128x384, .f32⟩
  | 118 => ⟨S1x33x4x4x128x384, .f32⟩
  | 119 => ⟨S16x33x4x4x128x384, .f32⟩
  | 120 => ⟨S16x33x4x4x128x384, .f32⟩
  | 121 => ⟨S1x33x1x1x128x384, .i1⟩
  | 122 => ⟨S_, .f32⟩
  | 123 => ⟨S_, .f32⟩
  | 124 => ⟨S16x33x4x4x128x384, .i1⟩
  | 125 => ⟨S16x33x4x4x128x384, .f32⟩
  | 126 => ⟨S16x33x4x4x128x384, .f32⟩
  | 127 => ⟨S16x4x16x33x128x4, .f32⟩
  | _ => ⟨S65536x1536, .bf16⟩

abbrev hbmTy0_1 (i : Nat) : BufTy := match i % 128 with
  | 0 => ⟨S16x33x4x4x128x16, .f32⟩
  | 1 => ⟨S33x128x16, .f32⟩
  | 2 => ⟨S1x33x1x1x128x16, .f32⟩
  | 3 => ⟨S1x33x4x4x128x16, .f32⟩
  | 4 => ⟨S1x33x4x4x128x16, .f32⟩
  | 5 => ⟨S1x33x4x4x128x16, .f32⟩
  | 6 => ⟨S16x33x4x4x128x16, .f32⟩
  | 7 => ⟨S16x33x4x4x128x16, .f32⟩
  | 8 => ⟨S4x4, .f32⟩
  | 9 => ⟨S1x1x4x4x1x1, .f32⟩
  | 10 => ⟨S16x33x4x4x128x1, .f32⟩
  | 11 => ⟨S16x33x4x4x128x401, .f32⟩
  | 12 => ⟨S_, .f32⟩
  | 13 => ⟨S16x33x4x4x128, .f32⟩
  | 14 => ⟨S_, .f32⟩
  | 15 => ⟨S16x33x4x4x128, .f32⟩
  | 16 => ⟨S16x33x4x4x128, .f32⟩
  | 17 => ⟨S16x33x4x4x128x1, .f32⟩
  | 18 => ⟨S16x33x4x4x128x401, .f32⟩
  | 19 => ⟨S16x33x4x4x128x401, .f32⟩
  | 20 => ⟨S16x33x4x4x128x401, .f32⟩
  | 21 => ⟨S_, .f32⟩
  | 22 => ⟨S16x33x4x4x128, .f32⟩
  | 23 => ⟨S16x33x4x4x128x1, .f32⟩
  | 24 => ⟨S16x33x4x4x128x401, .f32⟩
  | 25 => ⟨S16x33x4x4x128x401, .f32⟩
  | 26 => ⟨S16x33x4x4x128x384, .f32⟩
  | 27 => ⟨S16x33x4x64x4x128, .f32⟩
  | 28 => ⟨S16x33x128x4x4x64, .f32⟩
  | 29 => ⟨S16x33x4x4x128x16, .f32⟩
  | 30 => ⟨S16x4x64x33x4x128, .f32⟩
  | 31 => ⟨S16x33x128x4x4x64, .f32⟩
  | 32 => ⟨S16x33x128x4x4x64, .f32⟩
  | 33 => ⟨S16x4224x1024, .f32⟩
  | 34 => ⟨S16x4112x1024, .f32⟩
  | 35 => ⟨S16x4096x1024, .f32⟩
  | 36 => ⟨S65536x1024, .f32⟩
  | 37 => ⟨S65536x1024, .bf16⟩
  | _ => ⟨S65536x1536, .bf16⟩

abbrev hbmTy (i : Nat) : BufTy := match i / 128 with
  | 0 => hbmTy0_0 i
  | 1 => hbmTy0_1 i
  | _ => ⟨S65536x1536, .bf16⟩

abbrev bufTy : (tb : Table) → Fin (tcTables nBuf tb) → BufTy
  | .hbm, ⟨i, _⟩ => hbmTy i
  | _, _ => ⟨S65536x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c : Ref sig .tc := ⟨.hbm, 24, rfl⟩
abbrev main_call0_v0 : Ref sig .tc := ⟨.hbm, 25, rfl⟩
abbrev main_v20 : Ref sig .tc := ⟨.hbm, 26, rfl⟩
abbrev main_v21 : Ref sig .tc := ⟨.hbm, 27, rfl⟩
abbrev main_c_0 : Ref sig .tc := ⟨.hbm, 28, rfl⟩
abbrev main_call1_v0 : Ref sig .tc := ⟨.hbm, 29, rfl⟩
abbrev main_v22 : Ref sig .tc := ⟨.hbm, 30, rfl⟩
abbrev main_c_1 : Ref sig .tc := ⟨.hbm, 31, rfl⟩
abbrev main_call2_v0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_2 : Ref sig .tc := ⟨.hbm, 36, rfl⟩
abbrev main_call3_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_3 : Ref sig .tc := ⟨.hbm, 44, rfl⟩
abbrev main_call4_v0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_4 : Ref sig .tc := ⟨.hbm, 56, rfl⟩
abbrev main_v42 : Ref sig .tc := ⟨.hbm, 57, rfl⟩
abbrev main_v43 : Ref sig .tc := ⟨.hbm, 58, rfl⟩
abbrev main_c_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_c_7 : Ref sig .tc := ⟨.hbm, 77, rfl⟩
abbrev main_v60 : Ref sig .tc := ⟨.hbm, 78, rfl⟩
abbrev main_v61 : Ref sig .tc := ⟨.hbm, 79, rfl⟩
abbrev main_c_8 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_c_9 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst : Ref sig .tc := ⟨.hbm, 97, rfl⟩
abbrev main_v77 : Ref sig .tc := ⟨.hbm, 98, rfl⟩
abbrev main_v78 : Ref sig .tc := ⟨.hbm, 99, rfl⟩
abbrev main_cst_10 : Ref sig .tc := ⟨.hbm, 100, rfl⟩
abbrev main_v79 : Ref sig .tc := ⟨.hbm, 101, rfl⟩
abbrev main_v80 : Ref sig .tc := ⟨.hbm, 102, rfl⟩
abbrev main_cst_11 : Ref sig .tc := ⟨.hbm, 103, rfl⟩
abbrev main_v81 : Ref sig .tc := ⟨.hbm, 104, rfl⟩
abbrev main_v82 : Ref sig .tc := ⟨.hbm, 105, rfl⟩
abbrev main_cst_12 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_cst_13 : Ref sig .tc := ⟨.hbm, 122, rfl⟩
abbrev main_call5_v0 : Ref sig .tc := ⟨.hbm, 123, rfl⟩
abbrev main_call5_v1 : Ref sig .tc := ⟨.hbm, 124, rfl⟩
abbrev main_call5_v2 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_cst_14 : Ref sig .tc := ⟨.hbm, 140, rfl⟩
abbrev main_v112 : Ref sig .tc := ⟨.hbm, 141, rfl⟩
abbrev main_cst_15 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_cst_16 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩

abbrev nD : Nat := 1
abbrev τ : Topo := Topo.v7x

variable {F : FTy → Type} [FloatOps F]
-- ==== Kernel2.lean ====
abbrev S65536x1024 : Shape := ⟨2, ![65536, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S_ : Shape := ⟨0, ![]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 23
  | .vmem => 12
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1x1024x4096, .f32⟩
  | .hbm, ⟨10, _⟩ => ⟨S1024x4096, .f32⟩
  | .hbm, ⟨11, _⟩ => ⟨S1024x4096, .bf16⟩
  | .hbm, ⟨12, _⟩ => ⟨S1x4096x1024, .f32⟩
  | .hbm, ⟨13, _⟩ => ⟨S4096x1024, .f32⟩
  | .hbm, ⟨14, _⟩ => ⟨S4096x1024, .bf16⟩
  | .hbm, ⟨15, _⟩ => ⟨S1024x1024, .f32⟩
  | .hbm, ⟨16, _⟩ => ⟨S1024x1024, .bf16⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x4096, .bf16⟩
  | .local _ .vmem, ⟨8, _⟩ => ⟨S4096x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S65536x1024 : Shape := ⟨2, ![65536, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S65536 : Shape := ⟨1, ![65536]⟩
abbrev S65536x1 : Shape := ⟨2, ![65536, 1]⟩
abbrev S1x1024x4096 : Shape := ⟨3, ![1, 1024, 4096]⟩
abbrev S1024x4096 : Shape := ⟨2, ![1024, 4096]⟩
abbrev S65536x4096 : Shape := ⟨2, ![65536, 4096]⟩
abbrev S1x4096x1024 : Shape := ⟨3, ![1, 4096, 1024]⟩
abbrev S4096x1024 : Shape := ⟨2, ![4096, 1024]⟩

abbrev nBuf : Space → Nat
  | .hbm => 56
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1024, .f32⟩
  | .hbm, ⟨7, _⟩ => ⟨S65536x1024, .f32⟩
  | .hbm, ⟨8, _⟩ => ⟨S1024x1024, .f32⟩
  | .hbm, ⟨9, _⟩ => ⟨S65536x1024, .f32⟩
  | .hbm, ⟨10, _⟩ => ⟨S65536x1024, .f32⟩
  | .hbm, ⟨11, _⟩ => ⟨S1x1024, .f32⟩
  | .hbm, ⟨12, _⟩ => ⟨S1024, .f32⟩
  | .hbm, ⟨13, _⟩ => ⟨S65536x1024, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S_, .f32⟩
  | .hbm, ⟨21, _⟩ => ⟨S65536x1, .f32⟩
  | .hbm, ⟨22, _⟩ => ⟨S65536x1, .f32⟩
  | .hbm, ⟨23, _⟩ => ⟨S65536x1, .f32⟩
  | .hbm, ⟨24, _⟩ => ⟨S65536x1024, .f32⟩
  | .hbm, ⟨25, _⟩ => ⟨S65536x1024, .f32⟩
  | .hbm, ⟨26, _⟩ => ⟨S1x1024, .f32⟩
  | .hbm, ⟨27, _⟩ => ⟨S65536x1024, .f32⟩
  | .hbm, ⟨28, _⟩ => ⟨S65536x1024, .f32⟩
  | .hbm, ⟨29, _⟩ => ⟨S1x1024x4096, .f32⟩
  | .hbm, ⟨30, _⟩ => ⟨S1024x4096, .f32⟩
  | .hbm, ⟨31, _⟩ => ⟨S65536x4096, .f32⟩
  | .hbm, ⟨32, _⟩ => ⟨S_, .f32⟩
  | .hbm, ⟨33, _⟩ => ⟨S65536x4096, .f32⟩
  | .hbm, ⟨34, _⟩ => ⟨S65536x4096, .f32⟩
  | .hbm, ⟨35, _⟩ => ⟨S65536x4096, .f32⟩
  | .hbm, ⟨36, _⟩ => ⟨S1x4096x1024, .f32⟩
  | .hbm, ⟨37, _⟩ => ⟨S4096x1024, .f32⟩
  | .hbm, ⟨38, _⟩ => ⟨S65536x1024, .f32⟩
  | .hbm, ⟨39, _⟩ => ⟨S65536x1024, .f32⟩
  | .hbm, ⟨40, _⟩ => ⟨S65536x1024, .f32⟩
  | .hbm, ⟨41, _⟩ => ⟨S_, .f32⟩
  | .hbm, ⟨42, _⟩ => ⟨S65536, .f32⟩
  | .hbm, ⟨43, _⟩ => ⟨S65536x1, .f32⟩
  | .hbm, ⟨44, _⟩ => ⟨S_, .f32⟩
  | .hbm, ⟨45, _⟩ => ⟨S65536x1, .f32⟩
  | .hbm, ⟨46, _⟩ => ⟨S65536x1, .f32⟩
  | .hbm, ⟨47, _⟩ => ⟨S_, .f32⟩
  | .hbm, ⟨48, _⟩ => ⟨S65536x1, .f32⟩
  | .hbm, ⟨49, _⟩ => ⟨S65536x1, .f32⟩
  | .hbm, ⟨50, _⟩ => ⟨S65536x1, .f32⟩
  | .hbm, ⟨51, _⟩ => ⟨S65536x1024, .f32⟩
  | .hbm, ⟨52, _⟩ => ⟨S65536x1024, .f32⟩
  | .hbm, ⟨53, _⟩ => ⟨S1x1024, .f32⟩
  | .hbm, ⟨54, _⟩ => ⟨S65536x1024, .f32⟩
  | .hbm, ⟨55, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_cst : Ref sig .tc := ⟨.hbm, 32, rfl⟩
abbrev main_call0_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel3.lean ====
abbrev S65536x1024 : Shape := ⟨2, ![65536, 1024]⟩
abbrev S1x1024x1024 : Shape := ⟨3, ![1, 1024, 1024]⟩
abbrev S1x1024 : Shape := ⟨2, ![1, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S_ : Shape := ⟨0, ![]⟩
abbrev S1024 : Shape := ⟨1, ![1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1024x1024 : Shape := ⟨2, ![1024, 1024]⟩
abbrev S1024x1 : Shape := ⟨2, ![1024, 1]⟩

abbrev nBuf : Space → Nat
  | .hbm => 24
  | .vmem => 12
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1x1024x1024, .f32⟩
  | .hbm, ⟨3, _⟩ => ⟨S1x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S_, .f32⟩
  | .hbm, ⟨8, _⟩ => ⟨S1024, .f32⟩
  | .hbm, ⟨9, _⟩ => ⟨S1x1024x4096, .f32⟩
  | .hbm, ⟨10, _⟩ => ⟨S1024x4096, .f32⟩
  | .hbm, ⟨11, _⟩ => ⟨S1024x4096, .bf16⟩
  | .hbm, ⟨12, _⟩ => ⟨S1x4096x1024, .f32⟩
  | .hbm, ⟨13, _⟩ => ⟨S4096x1024, .f32⟩
  | .hbm, ⟨14, _⟩ => ⟨S4096x1024, .bf16⟩
  | .hbm, ⟨15, _⟩ => ⟨S1024x1024, .f32⟩
  | .hbm, ⟨16, _⟩ => ⟨S1024x1024, .bf16⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x4096, .bf16⟩
  | .local _ .vmem, ⟨8, _⟩ => ⟨S4096x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S65536x1024 : Shape := ⟨2, ![65536, 1024]⟩
abbrev S1x1024x1024 : Shape := ⟨3, ![1, 1024, 1024]⟩
abbrev S1x1024 : Shape := ⟨2, ![1, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024x1024 : Shape := ⟨2, ![1024, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024x4096 : Shape := ⟨3, ![1, 1024, 4096]⟩
abbrev S1024x4096 : Shape := ⟨2, ![1024, 4096]⟩
abbrev S65536x4096 : Shape := ⟨2, ![65536, 4096]⟩
abbrev S1x4096x1024 : Shape := ⟨3, ![1, 4096, 1024]⟩
abbrev S4096x1024 : Shape := ⟨2, ![4096, 1024]⟩

abbrev nBuf : Space → Nat
  | .hbm => 44
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1x1024x1024, .f32⟩
  | .hbm, ⟨3, _⟩ => ⟨S1x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S65536x1024, .f32⟩
  | .hbm, ⟨8, _⟩ => ⟨S1024x1024, .f32⟩
  | .hbm, ⟨9, _⟩ => ⟨S65536x1024, .f32⟩
  | .hbm, ⟨10, _⟩ => ⟨S1024, .f32⟩
  | .hbm, ⟨11, _⟩ => ⟨S1x1024, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S1x1024, .f32⟩
  | .hbm, ⟨16, _⟩ => ⟨S1024, .f32⟩
  | .hbm, ⟨17, _⟩ => ⟨S65536x1024, .f32⟩
  | .hbm, ⟨18, _⟩ => ⟨S_, .f32⟩
  | .hbm, ⟨19, _⟩ => ⟨S65536, .f32⟩
  | .hbm, ⟨20, _⟩ => ⟨S65536x1, .f32⟩
  | .hbm, ⟨21, _⟩ => ⟨S_, .f32⟩
  | .hbm, ⟨22, _⟩ => ⟨S65536x1, .f32⟩
  | .hbm, ⟨23, _⟩ => ⟨S65536x1, .f32⟩
  | .hbm, ⟨24, _⟩ => ⟨S_, .f32⟩
  | .hbm, ⟨25, _⟩ => ⟨S65536x1, .f32⟩
  | .hbm, ⟨26, _⟩ => ⟨S65536x1, .f32⟩
  | .hbm, ⟨27, _⟩ => ⟨S65536x1, .f32⟩
  | .hbm, ⟨28, _⟩ => ⟨S65536x1024, .f32⟩
  | .hbm, ⟨29, _⟩ => ⟨S65536x1024, .f32⟩
  | .hbm, ⟨30, _⟩ => ⟨S1x1024, .f32⟩
  | .hbm, ⟨31, _⟩ => ⟨S65536x1024, .f32⟩
  | .hbm, ⟨32, _⟩ => ⟨S65536x1024, .f32⟩
  | .hbm, ⟨33, _⟩ => ⟨S1x1024x4096, .f32⟩
  | .hbm, ⟨34, _⟩ => ⟨S1024x4096, .f32⟩
  | .hbm, ⟨35, _⟩ => ⟨S65536x4096, .f32⟩
  | .hbm, ⟨36, _⟩ => ⟨S_, .f32⟩
  | .hbm, ⟨37, _⟩ => ⟨S65536x4096, .f32⟩
  | .hbm, ⟨38, _⟩ => ⟨S65536x4096, .f32⟩
  | .hbm, ⟨39, _⟩ => ⟨S65536x4096, .f32⟩
  | .hbm, ⟨40, _⟩ => ⟨S1x4096x1024, .f32⟩
  | .hbm, ⟨41, _⟩ => ⟨S4096x1024, .f32⟩
  | .hbm, ⟨42, _⟩ => ⟨S65536x1024, .f32⟩
  | .hbm, ⟨43, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_cst : Ref sig .tc := ⟨.hbm, 36, rfl⟩
abbrev main_call0_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel4.lean ====
abbrev S65536x1024 : Shape := ⟨2, ![65536, 1024]⟩
abbrev S2x1024 : Shape := ⟨2, ![2, 1024]⟩
abbrev S1x1024x3072 : Shape := ⟨3, ![1, 1024, 3072]⟩
abbrev S1x1024 : Shape := ⟨2, ![1, 1024]⟩
abbrev S1024 : Shape := ⟨1, ![1024]⟩
abbrev S1024x3072 : Shape := ⟨2, ![1024, 3072]⟩
abbrev S65536x3072 : Shape := ⟨2, ![65536, 3072]⟩
abbrev S1024x1024 : Shape := ⟨2, ![1024, 1024]⟩
abbrev S1024x1 : Shape := ⟨2, ![1024, 1]⟩

abbrev nBuf : Space → Nat
  | .hbm => 9
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S2x1024, .f32⟩
  | .hbm, ⟨2, _⟩ => ⟨S1x1024x3072, .f32⟩
  | .hbm, ⟨3, _⟩ => ⟨S1x1024, .f32⟩
  | .hbm, ⟨4, _⟩ => ⟨S1024, .f32⟩
  | .hbm, ⟨5, _⟩ => ⟨S1024x3072, .f32⟩
  | .hbm, ⟨6, _⟩ => ⟨S1024x3072, .bf16⟩
  | .hbm, ⟨7, _⟩ => ⟨S1x1024, .f32⟩
  | .hbm, ⟨8, _⟩ => ⟨S65536x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x3072, .bf16⟩
  | .local _ .vmem, ⟨5, _⟩ => ⟨S1024x3072, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S65536x1024 : Shape := ⟨2, ![65536, 1024]⟩
abbrev S2x1024 : Shape := ⟨2, ![2, 1024]⟩
abbrev S1x1024x3072 : Shape := ⟨3, ![1, 1024, 3072]⟩
abbrev S1x1024 : Shape := ⟨2, ![1, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1024x3072 : Shape := ⟨2, ![1024, 3072]⟩
abbrev S65536x3072 : Shape := ⟨2, ![65536, 3072]⟩

abbrev nBuf : Space → Nat
  | .hbm => 24
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S2x1024, .f32⟩
  | .hbm, ⟨2, _⟩ => ⟨S1x1024x3072, .f32⟩
  | .hbm, ⟨3, _⟩ => ⟨S1x1024, .f32⟩
  | .hbm, ⟨4, _⟩ => ⟨S1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S1024x3072, .f32⟩
  | .hbm, ⟨22, _⟩ => ⟨S65536x3072, .f32⟩
  | .hbm, ⟨23, _⟩ => ⟨S65536x3072, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel5.lean ====
abbrev S65536x1024 : Shape := ⟨2, ![65536, 1024]⟩
abbrev S2x1024 : Shape := ⟨2, ![2, 1024]⟩
abbrev S1x1024x1536 : Shape := ⟨3, ![1, 1024, 1536]⟩
abbrev S1024x1536 : Shape := ⟨2, ![1024, 1536]⟩
abbrev S1024x1024 : Shape := ⟨2, ![1024, 1024]⟩
abbrev S_ : Shape := ⟨0, ![]⟩
abbrev S1024x256 : Shape := ⟨2, ![1024, 256]⟩
abbrev S1024x4x64 : Shape := ⟨3, ![1024, 4, 64]⟩
abbrev S1024x4x1x64 : Shape := ⟨4, ![1024, 4, 1, 64]⟩
abbrev S1024x4x2x64 : Shape := ⟨4, ![1024, 4, 2, 64]⟩
abbrev S1024x512 : Shape := ⟨2, ![1024, 512]⟩
abbrev S256x1024 : Shape := ⟨2, ![256, 1024]⟩
abbrev S1x1024 : Shape := ⟨2, ![1, 1024]⟩
abbrev S1024 : Shape := ⟨1, ![1024]⟩
abbrev S65536x1536 : Shape := ⟨2, ![65536, 1536]⟩
abbrev S256x65536 : Shape := ⟨2, ![256, 65536]⟩
abbrev S1024x1 : Shape := ⟨2, ![1024, 1]⟩

abbrev nBuf : Space → Nat
  | .hbm => 25
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S2x1024, .f32⟩
  | .hbm, ⟨2, _⟩ => ⟨S1x1024x1536, .f32⟩
  | .hbm, ⟨3, _⟩ => ⟨S1024x1536, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x256, .f32⟩
  | .hbm, ⟨9, _⟩ => ⟨S1024x256, .f32⟩
  | .hbm, ⟨10, _⟩ => ⟨S1024x4x64, .f32⟩
  | .hbm, ⟨11, _⟩ => ⟨S1024x4x64, .f32⟩
  | .hbm, ⟨12, _⟩ => ⟨S1024x4x1x64, .f32⟩
  | .hbm, ⟨13, _⟩ => ⟨S1024x4x1x64, .f32⟩
  | .hbm, ⟨14, _⟩ => ⟨S1024x4x2x64, .f32⟩
  | .hbm, ⟨15, _⟩ => ⟨S1024x512, .f32⟩
  | .hbm, ⟨16, _⟩ => ⟨S1024x1536, .f32⟩
  | .hbm, ⟨17, _⟩ => ⟨S1024x1536, .bf16⟩
  | .hbm, ⟨18, _⟩ => ⟨S256x1024, .f32⟩
  | .hbm, ⟨19, _⟩ => ⟨S256x1024, .bf16⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S65536x1536, .bf16⟩
  | .hbm, ⟨24, _⟩ => ⟨S256x65536, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S256x1024, .bf16⟩
  | .local _ .vmem, ⟨5, _⟩ => ⟨S1024x1536, .bf16⟩
  | .local _ .vmem, ⟨6, _⟩ => ⟨S1024x1536, .bf16⟩
  | .local _ .vmem, ⟨7, _⟩ => ⟨S256x1024, .bf16⟩
  | .local _ .vmem, ⟨8, _⟩ => ⟨S256x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19_0 : Ref sig .tc := ⟨.hbm, 23, rfl⟩
abbrev main_v19_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S65536x1024 : Shape := ⟨2, ![65536, 1024]⟩
abbrev S2x1024 : Shape := ⟨2, ![2, 1024]⟩
abbrev S1x1024x1536 : Shape := ⟨3, ![1, 1024, 1536]⟩
abbrev S1x1024 : Shape := ⟨2, ![1, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1024x1536 : Shape := ⟨2, ![1024, 1536]⟩
abbrev S65536x1536 : Shape := ⟨2, ![65536, 1536]⟩
abbrev S65536x256 : Shape := ⟨2, ![65536, 256]⟩
abbrev S65536x4x1x64 : Shape := ⟨4, ![65536, 4, 1, 64]⟩
abbrev S65536x4x2x64 : Shape := ⟨4, ![65536, 4, 2, 64]⟩
abbrev S65536x512 : Shape := ⟨2, ![65536, 512]⟩
abbrev S256x65536 : Shape := ⟨2, ![256, 65536]⟩

abbrev nBuf : Space → Nat
  | .hbm => 37
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S2x1024, .f32⟩
  | .hbm, ⟨2, _⟩ => ⟨S1x1024x1536, .f32⟩
  | .hbm, ⟨3, _⟩ => ⟨S1x1024, .f32⟩
  | .hbm, ⟨4, _⟩ => ⟨S1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S1024x1536, .f32⟩
  | .hbm, ⟨22, _⟩ => ⟨S65536x1536, .f32⟩
  | .hbm, ⟨23, _⟩ => ⟨S65536x1024, .f32⟩
  | .hbm, ⟨24, _⟩ => ⟨S65536x256, .f32⟩
  | .hbm, ⟨25, _⟩ => ⟨S65536x256, .f32⟩
  | .hbm, ⟨26, _⟩ => ⟨S_, .f32⟩
  | .hbm, ⟨27, _⟩ => ⟨S65536x1024, .f32⟩
  | .hbm, ⟨28, _⟩ => ⟨S65536x1024, .f32⟩
  | .hbm, ⟨29, _⟩ => ⟨S65536x4x1x64, .f32⟩
  | .hbm, ⟨30, _⟩ => ⟨S65536x4x1x64, .f32⟩
  | .hbm, ⟨31, _⟩ => ⟨S65536x4x2x64, .f32⟩
  | .hbm, ⟨32, _⟩ => ⟨S65536x512, .f32⟩
  | .hbm, ⟨33, _⟩ => ⟨S65536x1536, .f32⟩
  | .hbm, ⟨34, _⟩ => ⟨S65536x1536, .bf16⟩
  | .hbm, ⟨35, _⟩ => ⟨S256x65536, .f32⟩
  | .hbm, ⟨36, _⟩ => ⟨S256x65536, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Kernel6.lean ====
abbrev S1x33x64 : Shape := ⟨3, ![1, 33, 64]⟩
abbrev S1x64 : Shape := ⟨2, ![1, 64]⟩
abbrev S1x64x64 : Shape := ⟨3, ![1, 64, 64]⟩
abbrev S1x64x4096 : Shape := ⟨3, ![1, 64, 4096]⟩
abbrev S33x64 : Shape := ⟨2, ![33, 64]⟩
abbrev S64 : Shape := ⟨1, ![64]⟩
abbrev S64x64 : Shape := ⟨2, ![64, 64]⟩
abbrev S64x4096 : Shape := ⟨2, ![64, 4096]⟩
abbrev S8192 : Shape := ⟨1, ![8192]⟩
abbrev S_ : Shape := ⟨0, ![]⟩
abbrev S15 : Shape := ⟨1, ![15]⟩
abbrev S1 : Shape := ⟨1, ![1]⟩
abbrev S16 : Shape := ⟨1, ![16]⟩
abbrev S1x16 : Shape := ⟨2, ![1, 16]⟩
abbrev S8192x1 : Shape := ⟨2, ![8192, 1]⟩
abbrev S8192x16 : Shape := ⟨2, ![8192, 16]⟩
abbrev S8192x7 : Shape := ⟨2, ![8192, 7]⟩
abbrev S8192x40 : Shape := ⟨2, ![8192, 40]⟩
abbrev S40x64 : Shape := ⟨2, ![40, 64]⟩
abbrev S1023 : Shape := ⟨1, ![1023]⟩
abbrev S1024 : Shape := ⟨1, ![1024]⟩
abbrev S1x1024 : Shape := ⟨2, ![1, 1024]⟩
abbrev S64x2x2x1024 : Shape := ⟨4, ![64, 2, 2, 1024]⟩
abbrev S2x64x2x1024 : Shape := ⟨4, ![2, 64, 2, 1024]⟩
abbrev S2x64x2048 : Shape := ⟨3, ![2, 64, 2048]⟩
abbrev S2x8192x1024 : Shape := ⟨3, ![2, 8192, 1024]⟩
abbrev S512x40 : Shape := ⟨2, ![512, 40]⟩
abbrev S1x64x2048 : Shape := ⟨3, ![1, 64, 2048]⟩
abbrev S2x512x1024 : Shape := ⟨3, ![2, 512, 1024]⟩
abbrev S512x64 : Shape := ⟨2, ![512, 64]⟩
abbrev S64x2048 : Shape := ⟨2, ![64, 2048]⟩
abbrev S512x2048 : Shape := ⟨2, ![512, 2048]⟩
abbrev S512x1 : Shape := ⟨2, ![512, 1]⟩
abbrev S512x1024 : Shape := ⟨2, ![512, 1024]⟩
abbrev S1x512x1024 : Shape := ⟨3, ![1, 512, 1024]⟩

abbrev nBuf : Space → Nat
  | .hbm => 110
  | .vmem => 14
  | .smem => 0
  | _ => 0

abbrev bufTy : (tb : Table) → Fin (tcTables nBuf tb) → BufTy
  | .hbm, ⟨0, _⟩ => ⟨S1x33x64, .f32⟩
  | .hbm, ⟨1, _⟩ => ⟨S1x64, .f32⟩
  | .hbm, ⟨2, _⟩ => ⟨S1x64x64, .f32⟩
  | .hbm, ⟨3, _⟩ => ⟨S1x64, .f32⟩
  | .hbm, ⟨4, _⟩ => ⟨S1x64x64, .f32⟩
  | .hbm, ⟨5, _⟩ => ⟨S1x64, .f32⟩
  | .hbm, ⟨6, _⟩ => ⟨S1x64x4096, .f32⟩
  | .hbm, ⟨7, _⟩ => ⟨S1x64, .f32⟩
  | .hbm, ⟨8, _⟩ => ⟨S33x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x4096, .f32⟩
  | .hbm, ⟨15, _⟩ => ⟨S64, .f32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i1⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S8192, .i32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .i32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S15, .f32⟩
  | .hbm, ⟨42, _⟩ => ⟨S_, .f32⟩
  | .hbm, ⟨43, _⟩ => ⟨S15, .f32⟩
  | .hbm, ⟨44, _⟩ => ⟨S15, .f32⟩
  | .hbm, ⟨45, _⟩ => ⟨S1, .f32⟩
  | .hbm, ⟨46, _⟩ => ⟨S_, .f32⟩
  | .hbm, ⟨47, _⟩ => ⟨S15, .f32⟩
  | .hbm, ⟨48, _⟩ => ⟨S15, .f32⟩
  | .hbm, ⟨49, _⟩ => ⟨S15, .f32⟩
  | .hbm, ⟨50, _⟩ => ⟨S15, .f32⟩
  | .hbm, ⟨51, _⟩ => ⟨S1, .f32⟩
  | .hbm, ⟨52, _⟩ => ⟨S15, .f32⟩
  | .hbm, ⟨53, _⟩ => ⟨S15, .f32⟩
  | .hbm, ⟨54, _⟩ => ⟨S15, .f32⟩
  | .hbm, ⟨55, _⟩ => ⟨S1, .f32⟩
  | .hbm, ⟨56, _⟩ => ⟨S16, .f32⟩
  | .hbm, ⟨57, _⟩ => ⟨S1x16, .f32⟩
  | .hbm, ⟨58, _⟩ => ⟨S8192x1, .f32⟩
  | .hbm, ⟨59, _⟩ => ⟨S8192x1, .f32⟩
  | .hbm, ⟨60, _⟩ => ⟨S8192x16, .f32⟩
  | .hbm, ⟨61, _⟩ => ⟨S8192x16, .f32⟩
  | .hbm, ⟨62, _⟩ => ⟨S8192x16, .f32⟩
  | .hbm, ⟨63, _⟩ => ⟨S8192x16, .f32⟩
  | .hbm, ⟨64, _⟩ => ⟨S8192x1, .f32⟩
  | .hbm, ⟨65, _⟩ => ⟨S8192x16, .f32⟩
  | .hbm, ⟨66, _⟩ => ⟨S8192x16, .f32⟩
  | .hbm, ⟨67, _⟩ => ⟨S8192x16, .f32⟩
  | .hbm, ⟨68, _⟩ => ⟨S8192x16, .f32⟩
  | .hbm, ⟨69, _⟩ => ⟨S8192x16, .f32⟩
  | .hbm, ⟨70, _⟩ => ⟨S_, .f32⟩
  | .hbm, ⟨71, _⟩ => ⟨S8192x7, .f32⟩
  | .hbm, ⟨72, _⟩ => ⟨S8192x40, .f32⟩
  | .hbm, ⟨73, _⟩ => ⟨S_, .i32⟩
  | .hbm, ⟨74, _⟩ => ⟨S_, .f32⟩
  | .hbm, ⟨75, _⟩ => ⟨S40x64, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S1023, .f32⟩
  | .hbm, ⟨84, _⟩ => ⟨S_, .f32⟩
  | .hbm, ⟨85, _⟩ => ⟨S1023, .f32⟩
  | .hbm, ⟨86, _⟩ => ⟨S1023, .f32⟩
  | .hbm, ⟨87, _⟩ => ⟨S1, .f32⟩
  | .hbm, ⟨88, _⟩ => ⟨S_, .f32⟩
  | .hbm, ⟨89, _⟩ => ⟨S1023, .f32⟩
  | .hbm, ⟨90, _⟩ => ⟨S1023, .f32⟩
  | .hbm, ⟨91, _⟩ => ⟨S1023, .f32⟩
  | .hbm, ⟨92, _⟩ => ⟨S1023, .f32⟩
  | .hbm, ⟨93, _⟩ => ⟨S1, .f32⟩
  | .hbm, ⟨94, _⟩ => ⟨S1023, .f32⟩
  | .hbm, ⟨95, _⟩ => ⟨S1023, .f32⟩
  | .hbm, ⟨96, _⟩ => ⟨S1023, .f32⟩
  | .hbm, ⟨97, _⟩ => ⟨S1, .f32⟩
  | .hbm, ⟨98, _⟩ => ⟨S1024, .f32⟩
  | .hbm, ⟨99, _⟩ => ⟨S1024, .f32⟩
  | .hbm, ⟨100, _⟩ => ⟨S1x1024, .f32⟩
  | .hbm, ⟨101, _⟩ => ⟨S64x2x2x1024, .f32⟩
  | .hbm, ⟨102, _⟩ => ⟨S2x64x2x1024, .f32⟩
  | .hbm, ⟨103, _⟩ => ⟨S2x64x2048, .f32⟩
  | .hbm, ⟨104, _⟩ => ⟨S2x64x2048, .bf16⟩
  | .hbm, ⟨105, _⟩ => ⟨S1x64, .f32⟩
  | .hbm, ⟨106, _⟩ => ⟨S1x64, .f32⟩
  | .hbm, ⟨107, _⟩ => ⟨S1x64, .f32⟩
  | .hbm, ⟨108, _⟩ => ⟨S1x64, .f32⟩
  | .hbm, ⟨109, _⟩ => ⟨S2x8192x1024, .f32⟩
  | .local _ .vmem, ⟨0, _⟩ => ⟨S512x40, .f32⟩
  | .local _ .vmem, ⟨1, _⟩ => ⟨S512x40, .f32⟩
  | .local _ .vmem, ⟨2, _⟩ => ⟨S40x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S1x64x2048, .bf16⟩
  | .local _ .vmem, ⟨10, _⟩ => ⟨S1x64x2048, .bf16⟩
  | .local _ .vmem, ⟨11, _⟩ => ⟨S1x1024, .f32⟩
  | .local _ .vmem, ⟨12, _⟩ => ⟨S2x512x1024, .f32⟩
  | .local _ .vmem, ⟨13, _⟩ => ⟨S2x512x1024, .f32⟩
  | _, _ => ⟨S1x33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_c_4 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_cst : Ref sig .tc := ⟨.hbm, 39, rfl⟩
abbrev main_call1_v3 : Ref sig .tc := ⟨.hbm, 40, rfl⟩
abbrev main_call1_v4 : Ref sig .tc := ⟨.hbm, 41, rfl⟩
abbrev main_call1_cst_0 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_cst_1 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_v15 : Ref sig .tc := ⟨.hbm, 54, rfl⟩
abbrev main_call1_v16 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst_5 : Ref sig .tc := ⟨.hbm, 70, rfl⟩
abbrev main_v35 : Ref sig .tc := ⟨.hbm, 71, rfl⟩
abbrev main_v36 : Ref sig .tc := ⟨.hbm, 72, rfl⟩
abbrev main_c_6 : Ref sig .tc := ⟨.hbm, 73, rfl⟩
abbrev main_call2_v0 : Ref sig .tc := ⟨.hbm, 74, rfl⟩
abbrev main_v37 : Ref sig .tc := ⟨.hbm, 75, rfl⟩
abbrev main_cst_7 : Ref sig .tc := ⟨.hbm, 76, rfl⟩
abbrev main_cst_8 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_cst : Ref sig .tc := ⟨.hbm, 81, rfl⟩
abbrev main_call3_v3 : Ref sig .tc := ⟨.hbm, 82, rfl⟩
abbrev main_call3_v4 : Ref sig .tc := ⟨.hbm, 83, rfl⟩
abbrev main_call3_cst_0 : Ref sig .tc := ⟨.hbm, 84, rfl⟩
abbrev main_call3_v5 : Ref sig .tc := ⟨.hbm, 85, rfl⟩
abbrev main_call3_v6 : Ref sig .tc := ⟨.hbm, 86, rfl⟩
abbrev main_call3_v7 : Ref sig .tc := ⟨.hbm, 87, rfl⟩
abbrev main_call3_cst_1 : Ref sig .tc := ⟨.hbm, 88, rfl⟩
abbrev main_call3_v8 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_v12 : Ref sig .tc := ⟨.hbm, 93, rfl⟩
abbrev main_call3_v13 : Ref sig .tc := ⟨.hbm, 94, rfl⟩
abbrev main_call3_v14 : Ref sig .tc := ⟨.hbm, 95, rfl⟩
abbrev main_call3_v15 : Ref sig .tc := ⟨.hbm, 96, rfl⟩
abbrev main_call3_v16 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c8_i32 : BitVec 32 := 8#32
  let v0 : BitVec 1 := Scalar.cmpi .sge arg0 c8_i32
  let v1 : BitVec 32 := Scalar.extui v0
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S1x33x64 : Shape := ⟨3, ![1, 33, 64]⟩
abbrev S1x64 : Shape := ⟨2, ![1, 64]⟩
abbrev S1x64x64 : Shape := ⟨3, ![1, 64, 64]⟩
abbrev S1x64x4096 : Shape := ⟨3, ![1, 64, 4096]⟩
abbrev S33x64 : Shape := ⟨2, ![33, 64]⟩
abbrev S64 : Shape := ⟨1, ![64]⟩
abbrev S64x64 : Shape := ⟨2, ![64, 64]⟩
abbrev S64x4096 : Shape := ⟨2, ![64, 4096]⟩
abbrev S_ : Shape := ⟨0, ![]⟩
abbrev S4111 : Shape := ⟨1, ![4111]⟩
abbrev S1 : Shape := ⟨1, ![1]⟩
abbrev S4112 : Shape := ⟨1, ![4112]⟩
abbrev S4112x1 : Shape := ⟨2, ![4112, 1]⟩
abbrev S15 : Shape := ⟨1, ![15]⟩
abbrev S16 : Shape := ⟨1, ![16]⟩
abbrev S1x16 : Shape := ⟨2, ![1, 16]⟩
abbrev S4112x16 : Shape := ⟨2, ![4112, 16]⟩
abbrev S4112x33 : Shape := ⟨2, ![4112, 33]⟩
abbrev S4112x64 : Shape := ⟨2, ![4112, 64]⟩
abbrev S4112x4096 : Shape := ⟨2, ![4112, 4096]⟩
abbrev S1023 : Shape := ⟨1, ![1023]⟩
abbrev S1024 : Shape := ⟨1, ![1024]⟩
abbrev S1x1024 : Shape := ⟨2, ![1, 1024]⟩
abbrev S4112x1024 : Shape := ⟨2, ![4112, 1024]⟩
abbrev S4112x2x2x1024 : Shape := ⟨4, ![4112, 2, 2, 1024]⟩
abbrev S4112x1x1x1024 : Shape := ⟨4, ![4112, 1, 1, 1024]⟩
abbrev S4096x2x1x1024 : Shape := ⟨4, ![4096, 2, 1, 1024]⟩
abbrev S4096x2x1024 : Shape := ⟨3, ![4096, 2, 1024]⟩
abbrev S8192x2x1024 : Shape := ⟨3, ![8192, 2, 1024]⟩
abbrev S2x8192x1024 : Shape := ⟨3, ![2, 8192, 1024]⟩

abbrev nBuf : Space → Nat
  | .hbm => 148
  | .vmem => 0
  | .smem => 0
  | _ => 0

abbrev hbmTy0_0 (i : Nat) : BufTy := match i % 128 with
  | 0 => ⟨S1x33x64, .f32⟩
  | 1 => ⟨S1x64, .f32⟩
  | 2 => ⟨S1x64x64, .f32⟩
  | 3 => ⟨S1x64, .f32⟩
  | 4 => ⟨S1x64x64, .f32⟩
  | 5 => ⟨S1x64, .f32⟩
  | 6 => ⟨S1x64x4096, .f32⟩
  | 7 => ⟨S1x64, .f32⟩
  | 8 => ⟨S33x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64x4096, .f32⟩
  | 15 => ⟨S64, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S4111, .f32⟩
  | 24 => ⟨S_, .f32⟩
  | 25 => ⟨S4111, .f32⟩
  | 26 => ⟨S4111, .f32⟩
  | 27 => ⟨S1, .f32⟩
  | 28 => ⟨S_, .f32⟩
  | 29 => ⟨S4111, .f32⟩
  | 30 => ⟨S4111, .f32⟩
  | 31 => ⟨S4111, .f32⟩
  | 32 => ⟨S4111, .f32⟩
  | 33 => ⟨S1, .f32⟩
  | 34 => ⟨S4111, .f32⟩
  | 35 => ⟨S4111, .f32⟩
  | 36 => ⟨S4111, .f32⟩
  | 37 => ⟨S1, .f32⟩
  | 38 => ⟨S4112, .f32⟩
  | 39 => ⟨S4112x1, .f32⟩
  | 40 => ⟨S4112, .f32⟩
  | 41 => ⟨S4112x1, .f32⟩
  | 42 => ⟨S_, .f32⟩
  | 43 => ⟨S4112x1, .f32⟩
  | 44 => ⟨S4112x1, .f32⟩
  | 45 => ⟨S_, .f32⟩
  | 46 => ⟨S4112x1, .f32⟩
  | 47 => ⟨S4112x1, .f32⟩
  | 48 => ⟨S_, .f32⟩
  | 49 => ⟨S_, .i32⟩
  | 50 => ⟨S_, .f32⟩
  | 51 => ⟨S_, .f32⟩
  | 52 => ⟨S_, .f32⟩
  | 53 => ⟨S_, .f32⟩
  | 54 => ⟨S_, .f32⟩
  | 55 => ⟨S15, .f32⟩
  | 56 => ⟨S_, .f32⟩
  | 57 => ⟨S15, .f32⟩
  | 58 => ⟨S15, .f32⟩
  | 59 => ⟨S1, .f32⟩
  | 60 => ⟨S_, .f32⟩
  | 61 => ⟨S15, .f32⟩
  | 62 => ⟨S15, .f32⟩
  | 63 => ⟨S15, .f32⟩
  | 64 => ⟨S15, .f32⟩
  | 65 => ⟨S1, .f32⟩
  | 66 => ⟨S15, .f32⟩
  | 67 => ⟨S15, .f32⟩
  | 68 => ⟨S15, .f32⟩
  | 69 => ⟨S1, .f32⟩
  | 70 => ⟨S16, .f32⟩
  | 71 => ⟨S1x16, .f32⟩
  | 72 => ⟨S4112x16, .f32⟩
  | 73 => ⟨S4112x16, .f32⟩
  | 74 => ⟨S4112x16, .f32⟩
  | 75 => ⟨S4112x16, .f32⟩
  | 76 => ⟨S4112x16, .f32⟩
  | 77 => ⟨S4112x16, .f32⟩
  | 78 => ⟨S4112x16, .f32⟩
  | 79 => ⟨S4112x16, .f32⟩
  | 80 => ⟨S4112x16, .f32⟩
  | 81 => ⟨S4112x33, .f32⟩
  | 82 => ⟨S4112x64, .f32⟩
  | 83 => ⟨S1x64, .f32⟩
  | 84 => ⟨S4112x64, .f32⟩
  | 85 => ⟨S4112x64, .f32⟩
  | 86 => ⟨S1x64, .f32⟩
  | 87 => ⟨S4112x64, .f32⟩
  | 88 => ⟨S4112x64, .f32⟩
  | 89 => ⟨S4112x64, .f32⟩
  | 90 => ⟨S4112x64, .f32⟩
  | 91 => ⟨S1x64, .f32⟩
  | 92 => ⟨S4112x64, .f32⟩
  | 93 => ⟨S4112x64, .f32⟩
  | 94 => ⟨S1x64, .f32⟩
  | 95 => ⟨S4112x64, .f32⟩
  | 96 => ⟨S4112x64, .f32⟩
  | 97 => ⟨S4112x64, .f32⟩
  | 98 => ⟨S4112x64, .f32⟩
  | 99 => ⟨S1x64, .f32⟩
  | 100 => ⟨S4112x64, .f32⟩
  | 101 => ⟨S4112x64, .f32⟩
  | 102 => ⟨S1x64, .f32⟩
  | 103 => ⟨S4112x64, .f32⟩
  | 104 => ⟨S4112x64, .f32⟩
  | 105 => ⟨S4112x64, .f32⟩
  | 106 => ⟨S4112x4096, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S1023, .f32⟩
  | 115 => ⟨S_, .f32⟩
  | 116 => ⟨S1023, .f32⟩
  | 117 => ⟨S1023, .f32⟩
  | 118 => ⟨S1, .f32⟩
  | 119 => ⟨S_, .f32⟩
  | 120 => ⟨S1023, .f32⟩
  | 121 => ⟨S1023, .f32⟩
  | 122 => ⟨S1023, .f32⟩
  | 123 => ⟨S1023, .f32⟩
  | 124 => ⟨S1, .f32⟩
  | 125 => ⟨S1023, .f32⟩
  | 126 => ⟨S1023, .f32⟩
  | 127 => ⟨S1023, .f32⟩
  | _ => ⟨S1x33x64, .f32⟩

abbrev hbmTy0_1 (i : Nat) : BufTy := match i % 128 with
  | 0 => ⟨S1, .f32⟩
  | 1 => ⟨S1024, .f32⟩
  | 2 => ⟨S4112x1, .f32⟩
  | 3 => ⟨S1024, .f32⟩
  | 4 => ⟨S1x1024, .f32⟩
  | 5 => ⟨S4112x1024, .f32⟩
  | 6 => ⟨S4112x1024, .f32⟩
  | 7 => ⟨S4112x1024, .f32⟩
  | 8 => ⟨S4112x1024, .f32⟩
  | 9 => ⟨S4112x2x2x1024, .f32⟩
  | 10 => ⟨S4112x1x1x1024, .f32⟩
  | 11 => ⟨S4112x2x2x1024, .f32⟩
  | 12 => ⟨S4112x2x2x1024, .f32⟩
  | 13 => ⟨S4096x2x1x1024, .f32⟩
  | 14 => ⟨S4096x2x1024, .f32⟩
  | 15 => ⟨S4096x2x1x1024, .f32⟩
  | 16 => ⟨S4096x2x1x1024, .f32⟩
  | 17 => ⟨S4096x2x1024, .f32⟩
  | 18 => ⟨S8192x2x1024, .f32⟩
  | 19 => ⟨S2x8192x1024, .f32⟩
  | _ => ⟨S1x33x64, .f32⟩

abbrev hbmTy (i : Nat) : BufTy := match i / 128 with
  | 0 => hbmTy0_0 i
  | 1 => hbmTy0_1 i
  | _ => ⟨S1x33x64, .f32⟩

abbrev bufTy : (tb : Table) → Fin (tcTables nBuf tb) → BufTy
  | .hbm, ⟨i, _⟩ => hbmTy i
  | _, _ => ⟨S1x33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_cst : Ref sig .tc := ⟨.hbm, 21, rfl⟩
abbrev main_call0_v3 : Ref sig .tc := ⟨.hbm, 22, rfl⟩
abbrev main_call0_v4 : Ref sig .tc := ⟨.hbm, 23, rfl⟩
abbrev main_call0_cst_0 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_v15 : Ref sig .tc := ⟨.hbm, 36, rfl⟩
abbrev main_call0_v16 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst_1 : Ref sig .tc := ⟨.hbm, 42, rfl⟩
abbrev main_v12 : Ref sig .tc := ⟨.hbm, 43, rfl⟩
abbrev main_v13 : Ref sig .tc := ⟨.hbm, 44, rfl⟩
abbrev main_cst_2 : Ref sig .tc := ⟨.hbm, 45, rfl⟩
abbrev main_v14 : Ref sig .tc := ⟨.hbm, 46, rfl⟩
abbrev main_v15 : Ref sig .tc := ⟨.hbm, 47, rfl⟩
abbrev main_cst_3 : Ref sig .tc := ⟨.hbm, 48, rfl⟩
abbrev main_c : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_cst : Ref sig .tc := ⟨.hbm, 53, rfl⟩
abbrev main_call1_v3 : Ref sig .tc := ⟨.hbm, 54, rfl⟩
abbrev main_call1_v4 : Ref sig .tc := ⟨.hbm, 55, rfl⟩
abbrev main_call1_cst_0 : Ref sig .tc := ⟨.hbm, 56, rfl⟩
abbrev main_call1_v5 : Ref sig .tc := ⟨.hbm, 57, rfl⟩
abbrev main_call1_v6 : Ref sig .tc := ⟨.hbm, 58, rfl⟩
abbrev main_call1_v7 : Ref sig .tc := ⟨.hbm, 59, rfl⟩
abbrev main_call1_cst_1 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_v15 : Ref sig .tc := ⟨.hbm, 68, rfl⟩
abbrev main_call1_v16 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_cst_4 : Ref sig .tc := ⟨.hbm, 107, rfl⟩
abbrev main_cst_5 : Ref sig .tc := ⟨.hbm, 108, rfl⟩
abbrev main_call2_v0 : Ref sig .tc := ⟨.hbm, 109, rfl⟩
abbrev main_call2_v1 : Ref sig .tc := ⟨.hbm, 110, rfl⟩
abbrev main_call2_v2 : Ref sig .tc := ⟨.hbm, 111, rfl⟩
abbrev main_call2_cst : Ref sig .tc := ⟨.hbm, 112, rfl⟩
abbrev main_call2_v3 : Ref sig .tc := ⟨.hbm, 113, rfl⟩
abbrev main_call2_v4 : Ref sig .tc := ⟨.hbm, 114, rfl⟩
abbrev main_call2_cst_0 : Ref sig .tc := ⟨.hbm, 115, rfl⟩
abbrev main_call2_v5 : Ref sig .tc := ⟨.hbm, 116, rfl⟩
abbrev main_call2_v6 : Ref sig .tc := ⟨.hbm, 117, rfl⟩
abbrev main_call2_v7 : Ref sig .tc := ⟨.hbm, 118, rfl⟩
abbrev main_call2_cst_1 : Ref sig .tc := ⟨.hbm, 119, rfl⟩
abbrev main_call2_v8 : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_call2_v12 : Ref sig .tc := ⟨.hbm, 124, rfl⟩
abbrev main_call2_v13 : Ref sig .tc := ⟨.hbm, 125, rfl⟩
abbrev main_call2_v14 : Ref sig .tc := ⟨.hbm, 126, rfl⟩
abbrev main_call2_v15 : Ref sig .tc := ⟨.hbm, 127, rfl⟩
abbrev main_call2_v16 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩

abbrev nD : Nat := 1
abbrev τ : Topo := Topo.v7x

variable {F : FTy → Type} [FloatOps F]
-- ==== Proof.Attention.RefTerms.lean ====
/- The reference's attention as terms over its arrays, cut where the arrays have a name of their own. -/
module

public import proofs.«01_k».proof.Proof.Gen.ReferenceIdeal
public import Idealize.ShloMosaic.Lib.Pointwise

@[expose] public section

set_option maxRecDepth 16384

noncomputable section

namespace Cert.ReferenceIdeal.Attention

open Idealize.ShloMosaic Idealize.ShloMosaic.TcCoe
open Cert.ReferenceIdeal Cert.ReferenceIdeal.Gen

/-- The tokens' rows: the meta tokens' before the real ones'. -/
def joined (x0 : FVec Ideal S65536x1536 .bf16) (x2 : FVec Ideal S256x1536 .bf16) : FVec Ideal S16x4112x1536 .f32 :=
  concatenate S16x4112x1536 1 [⟨S16x16x1536, (shapeCast _ (extf .f32 x2 bitsLt_bf16_f32) shapeCasts_S256x1536_S16x16x1536)⟩, ⟨S16x4096x1536, (shapeCast _ (extf .f32 x0 bitsLt_bf16_f32) shapeCasts_S65536x1536_S16x4096x1536)⟩] concatenates_S16x16x1536_S16x4096x1536_S16x4112x1536_d1

/-- The queries, in 33 blocks of which the first is padded. -/
def queries (r : FVec Ideal S16x4112x1536 .f32) : FVec Ideal S16x33x128x4x4x64 .f32 :=
  shapeCast _ (pad S16x4224x1024 ![0, 112, 0] ![0, 0, 0] ![0, 0, 0] (extractStridedSlice S16x4112x1024 ![0, 0, 0] r slices_S16x4112x1536_S16x4112x1024_0_0_0) (sitofp .f32 (constantI S_ 32 0#32)) pads_S16x4112x1024_S16x4224x1024_000_11200_000 h_S_) shapeCasts_S16x4224x1024_S16x33x128x4x4x64

/-- The keys along the padded token axis. -/
def keys (x1 : FVec Ideal S256x65536 .bf16) (x2 : FVec Ideal S256x1536 .bf16) : FVec Ideal S16x4224x4x64 .f32 :=
  pad S16x4224x4x64 ![0, 112, 0, 0] ![0, 0, 0, 0] ![0, 0, 0, 0] (concatenate S16x4112x4x64 1 [⟨S16x16x4x64, (shapeCast _ (extractStridedSlice S16x16x4x1x64 ![0, 0, 0, 1, 0] (shapeCast _ (extractStridedSlice S256x512 ![0, 1024] (extf .f32 x2 bitsLt_bf16_f32) slices_S256x1536_S256x512_0_1024) shapeCasts_S256x512_S16x16x4x2x64) slices_S16x16x4x2x64_S16x16x4x1x64_0_0_0_1_0) shapeCasts_S16x16x4x1x64_S16x16x4x64)⟩, ⟨S16x4096x4x64, (shapeCast _ (transpose S65536x256 [1, 0] (extf .f32 x1 bitsLt_bf16_f32) transposes_S256x65536_S65536x256_1_0) shapeCasts_S65536x256_S16x4096x4x64)⟩] concatenates_S16x16x4x64_S16x4096x4x64_S16x4112x4x64_d1) (sitofp .f32 (constantI S_ 32 0#32)) pads_S16x4112x4x64_S16x4224x4x64_000_11200_000_000 h_S_

/-- The values along the padded token axis. -/
def vals (r : FVec Ideal S16x4112x1536 .f32) : FVec Ideal S16x4224x4x64 .f32 :=
  pad S16x4224x4x64 ![0, 112, 0, 0] ![0, 0, 0, 0] ![0, 0, 0, 0] (shapeCast _ (extractStridedSlice S16x4112x4x1x64 ![0, 0, 0, 0, 0] (shapeCast _ (extractStridedSlice S16x4112x512 ![0, 0, 1024] r slices_S16x4112x1536_S16x4112x512_0_0_1024) shapeCasts_S16x4112x512_S16x4112x4x2x64) slices_S16x4112x4x2x64_S16x4112x4x1x64_0_0_0_0_0) shapeCasts_S16x4112x4x1x64_S16x4112x4x64) (sitofp .f32 (constantI S_ 32 0#32)) pads_S16x4112x4x64_S16x4224x4x64_000_11200_000_000 h_S_

/-- A token axis, padded by one more block on each side, in 35 blocks. -/
def blocks (x : FVec Ideal S16x4224x4x64 .f32) : FVec Ideal S16x35x128x4x64 .f32 :=
  shapeCast _ (pad S16x4480x4x64 ![0, 128, 0, 0] ![0, 128, 0, 0] ![0, 0, 0, 0] x (sitofp .f32 (constantI S_ 32 0#32)) pads_S16x4224x4x64_S16x4480x4x64_000_1281280_000_000 h_S_) shapeCasts_S16x4480x4x64_S16x35x128x4x64

/-- The queries' places. -/
def queryPlace : IVec S33x128 32 :=
  shapeCast _ (iotaInDim S4224 32 0) shapeCasts_S4224_S33x128

/-- The band columns' places. -/
def keyPlace : IVec S33x384 32 :=
  addi (broadcastInDim S33x384 ![0, 1] bcast_S33x1_S33x384_0_1 (subi (muli (broadcastInDim S33x1 ![0] bcast_S33_S33x1_0 (iotaInDim S33 32 0)) (broadcastInDim S33x1 ![] bcast_S_S33x1 (constantI S_ 32 128#32))) (broadcastInDim S33x1 ![] bcast_S_S33x1 (constantI S_ 32 128#32)))) (broadcastInDim S33x384 ![0, 1] bcast_S1x384_S33x384_0_1 (broadcastInDim S1x384 ![1] bcast_S384_S1x384_1 (iotaInDim S384 32 0)))

/-- Their distances. -/
def distance : IVec S33x128x384 32 :=
  absi (subi (broadcastInDim S33x128x384 ![0, 1, 2] bcast_S33x128x1_S33x128x384_0_1_2 (broadcastInDim S33x128x1 ![0, 1] bcast_S33x128_S33x128x1_0_1 queryPlace)) (broadcastInDim S33x128x384 ![0, 1, 2] bcast_S33x1x384_S33x128x384_0_1_2 (broadcastInDim S33x1x384 ![0, 2] bcast_S33x384_S33x1x384_0_2 keyPlace)))

/-- The heads' slopes. -/
def slopes : FVec Ideal S1x1x4x4x1x1 .f32 :=
  broadcastInDim S1x1x4x4x1x1 ![2, 3] bcast_S4x4_S1x1x4x4x1x1_2_3 (shapeCast _ (Host.exp (mulf (broadcastInDim S16 ![] bcast_S_S16 (constant S_ .f32 0x3F317218#32)) (Host.divf (mulf (broadcastInDim S16 ![] bcast_S_S16 (constant S_ .f32 0xC1000000#32)) (addf (broadcastInDim S16 ![] bcast_S_S16 (constant S_ .f32 0x3F800000#32)) (sitofp .f32 (iotaInDim S16 32 0)))) (broadcastInDim S16 ![] bcast_S_S16 (constant S_ .f32 0x41800000#32))))) shapeCasts_S16_S4x4)

/-- The scores of the band, of the meta tokens and of the sink. -/
def scoresOf (q : FVec Ideal S16x33x128x4x4x64 .f32) (k : FVec Ideal S16x4224x4x64 .f32) (kb : FVec Ideal S16x35x128x4x64 .f32) (x3 : FVec Ideal S1x16 .f32) : FVec Ideal S16x33x4x4x128x401 .f32 :=
  (concatenate S16x33x4x4x128x401 5 [⟨S16x33x4x4x128x384, ((select (broadcastInDim S16x33x4x4x128x384 ![0, 1, 2, 3, 4, 5] bcast_S1x33x1x1x128x384_S16x33x4x4x128x384_0_1_2_3_4_5 (broadcastInDim S1x33x1x1x128x384 ![1, 4, 5] bcast_S33x128x384_S1x33x1x1x128x384_1_4_5 (andi (broadcastInDim S33x128x384 ![0, 1, 2] bcast_S33x1x384_S33x128x384_0_1_2 (broadcastInDim S33x1x384 ![0, 2] bcast_S33x384_S33x1x384_0_2 (andi (cmpi .sge keyPlace (broadcastInDim S33x384 ![] bcast_S_S33x384 (constantI S_ 32 128#32))) (cmpi .slt keyPlace (broadcastInDim S33x384 ![] bcast_S_S33x384 (constantI S_ 32 4224#32)))))) (cmpi .sle distance (broadcastInDim S33x128x384 ![] bcast_S_S33x128x384 (constantI S_ 32 128#32)))))) (subf (transpose S16x33x4x4x128x384 [0, 1, 2, 5, 4, 3] (Host.dotGeneral dot_S16x33x384x4x64_S16x33x128x4x4x64_S16x33x4x384x128x4_4_5_2_24_013_013 none ((concatenate S16x33x384x4x64 2 [⟨S16x33x128x4x64, ((extractStridedSlice S16x33x128x4x64 ![0, 0, 0, 0, 0] kb slices_S16x35x128x4x64_S16x33x128x4x64_0_0_0_0_0))⟩, ⟨S16x33x128x4x64, ((extractStridedSlice S16x33x128x4x64 ![0, 1, 0, 0, 0] kb slices_S16x35x128x4x64_S16x33x128x4x64_0_1_0_0_0))⟩, ⟨S16x33x128x4x64, ((extractStridedSlice S16x33x128x4x64 ![0, 2, 0, 0, 0] kb slices_S16x35x128x4x64_S16x33x128x4x64_0_2_0_0_0))⟩] concatenates_S16x33x128x4x64_S16x33x128x4x64_S16x33x128x4x64_S16x33x384x4x64_d2)) q) transposes_S16x33x4x384x128x4_S16x33x4x4x128x384_0_1_2_5_4_3) (broadcastInDim S16x33x4x4x128x384 ![0, 1, 2, 3, 4, 5] bcast_S1x33x4x4x128x384_S16x33x4x4x128x384_0_1_2_3_4_5 (mulf (broadcastInDim S1x33x4x4x128x384 ![0, 1, 2, 3, 4, 5] bcast_S1x1x4x4x1x1_S1x33x4x4x128x384_0_1_2_3_4_5 slopes) (broadcastInDim S1x33x4x4x128x384 ![0, 1, 2, 3, 4, 5] bcast_S1x33x1x1x128x384_S1x33x4x4x128x384_0_1_2_3_4_5 (broadcastInDim S1x33x1x1x128x384 ![1, 4, 5] bcast_S33x128x384_S1x33x1x1x128x384_1_4_5 (sitofp .f32 distance)))))) (broadcastInDim S16x33x4x4x128x384 ![] bcast_S_S16x33x4x4x128x384 (id (constant S_ .f32 0xFF800000#32)))))⟩, ⟨S16x33x4x4x128x16, ((subf (transpose S16x33x4x4x128x16 [0, 3, 1, 5, 4, 2] (Host.dotGeneral dot_S16x16x4x64_S16x33x128x4x4x64_S16x4x16x33x128x4_3_5_1_124_02_03 none (extractStridedSlice S16x16x4x64 ![0, 112, 0, 0] k slices_S16x4224x4x64_S16x16x4x64_0_112_0_0) q) transposes_S16x4x16x33x128x4_S16x33x4x4x128x16_0_3_1_5_4_2) (broadcastInDim S16x33x4x4x128x16 ![0, 1, 2, 3, 4, 5] bcast_S1x33x4x4x128x16_S16x33x4x4x128x16_0_1_2_3_4_5 (mulf (broadcastInDim S1x33x4x4x128x16 ![0, 1, 2, 3, 4, 5] bcast_S1x1x4x4x1x1_S1x33x4x4x128x16_0_1_2_3_4_5 slopes) (broadcastInDim S1x33x4x4x128x16 ![0, 1, 2, 3, 4, 5] bcast_S1x33x1x1x128x16_S1x33x4x4x128x16_0_1_2_3_4_5 (broadcastInDim S1x33x1x1x128x16 ![1, 4, 5] bcast_S33x128x16_S1x33x1x1x128x16_1_4_5 (sitofp .f32 (absi (subi (broadcastInDim S33x128x16 ![0, 1, 2] bcast_S33x128x1_S33x128x16_0_1_2 (broadcastInDim S33x128x1 ![0, 1] bcast_S33x128_S33x128x1_0_1 queryPlace)) (broadcastInDim S33x128x16 ![0, 1, 2] bcast_S1x1x16_S33x128x16_0_1_2 (broadcastInDim S1x1x16 ![2] bcast_S16_S1x1x16_2 (addi (broadcastInDim S16 ![] bcast_S_S16 (constantI S_ 32 112#32)) (iotaInDim S16 32 0)))))))))))))⟩, ⟨S16x33x4x4x128x1, ((broadcastInDim S16x33x4x4x128x1 ![0, 1, 2, 3, 4, 5] bcast_S1x1x4x4x1x1_S16x33x4x4x128x1_0_1_2_3_4_5 (broadcastInDim S1x1x4x4x1x1 ![2, 3] bcast_S4x4_S1x1x4x4x1x1_2_3 (shapeCast _ (shapeCast _ x3 shapeCasts_S1x16_S16) shapeCasts_S16_S4x4))))⟩] concatenates_S16x33x4x4x128x384_S16x33x4x4x128x16_S16x33x4x4x128x1_S16x33x4x4x128x401_d5)

/-- Each row's largest score. -/
def rowMax (s : FVec Ideal S16x33x4x4x128x401 .f32) : FVec Ideal S16x33x4x4x128 .f32 :=
  Host.reduce FloatOps.maximumf s (constant S_ .f32 0xFF800000#32) reducesTo_S16x33x4x4x128x401_S16x33x4x4x128_d5 h_S_

/-- The exponentials of the scores less the row statistic `m`. -/
def expsFrom (s : FVec Ideal S16x33x4x4x128x401 .f32) (m : FVec Ideal S16x33x4x4x128 .f32) : FVec Ideal S16x33x4x4x128x401 .f32 :=
  Host.exp (subf s (broadcastInDim S16x33x4x4x128x401 ![0, 1, 2, 3, 4, 5] bcast_S16x33x4x4x128x1_S16x33x4x4x128x401_0_1_2_3_4_5 (broadcastInDim S16x33x4x4x128x1 ![0, 1, 2, 3, 4] bcast_S16x33x4x4x128_S16x33x4x4x128x1_0_1_2_3_4 (maximumf (broadcastInDim S16x33x4x4x128 ![] bcast_S_S16x33x4x4x128 (constant S_ .f32 0xFF800000#32)) m))))

/-- The exponentials of the scores less their row's maximum. -/
def exps (s : FVec Ideal S16x33x4x4x128x401 .f32) : FVec Ideal S16x33x4x4x128x401 .f32 := expsFrom s (rowMax s)

/-- The exponentials over their sums. -/
def weightsOf (e : FVec Ideal S16x33x4x4x128x401 .f32) : FVec Ideal S16x33x4x4x128x401 .f32 :=
  Host.divf e (broadcastInDim S16x33x4x4x128x401 ![0, 1, 2, 3, 4, 5] bcast_S16x33x4x4x128x1_S16x33x4x4x128x401_0_1_2_3_4_5 (broadcastInDim S16x33x4x4x128x1 ![0, 1, 2, 3, 4] bcast_S16x33x4x4x128_S16x33x4x4x128x1_0_1_2_3_4 (Host.reduceAdd e (constant S_ .f32 0x00000000#32) reducesTo_S16x33x4x4x128x401_S16x33x4x4x128_d5 h_S_)))

/-- The weighted values, the padding and the meta tokens' rows dropped. -/
def output (w : FVec Ideal S16x33x4x4x128x401 .f32) (v : FVec Ideal S16x4224x4x64 .f32) (vb : FVec Ideal S16x35x128x4x64 .f32) : FVec Ideal S65536x1024 .bf16 :=
  truncf .bf16 (shapeCast _ (extractStridedSlice S16x4096x1024 ![0, 16, 0] (extractStridedSlice S16x4112x1024 ![0, 112, 0] (shapeCast _ (addf (transpose S16x33x128x4x4x64 [0, 1, 5, 2, 4, 3] (Host.dotGeneral dot_S16x33x384x4x64_S16x33x4x4x128x384_S16x33x4x64x4x128_2_5_4_34_013_012 none ((concatenate S16x33x384x4x64 2 [⟨S16x33x128x4x64, ((extractStridedSlice S16x33x128x4x64 ![0, 0, 0, 0, 0] vb slices_S16x35x128x4x64_S16x33x128x4x64_0_0_0_0_0))⟩, ⟨S16x33x128x4x64, ((extractStridedSlice S16x33x128x4x64 ![0, 1, 0, 0, 0] vb slices_S16x35x128x4x64_S16x33x128x4x64_0_1_0_0_0))⟩, ⟨S16x33x128x4x64, ((extractStridedSlice S16x33x128x4x64 ![0, 2, 0, 0, 0] vb slices_S16x35x128x4x64_S16x33x128x4x64_0_2_0_0_0))⟩] concatenates_S16x33x128x4x64_S16x33x128x4x64_S16x33x128x4x64_S16x33x384x4x64_d2)) (extractStridedSlice S16x33x4x4x128x384 ![0, 0, 0, 0, 0, 0] w slices_S16x33x4x4x128x401_S16x33x4x4x128x384_0_0_0_0_0_0)) transposes_S16x33x4x64x4x128_S16x33x128x4x4x64_0_1_5_2_4_3) (transpose S16x33x128x4x4x64 [0, 3, 5, 1, 4, 2] (Host.dotGeneral dot_S16x16x4x64_S16x33x4x4x128x16_S16x4x64x33x4x128_1_5_3_134_02_02 none (extractStridedSlice S16x16x4x64 ![0, 112, 0, 0] v slices_S16x4224x4x64_S16x16x4x64_0_112_0_0) (extractStridedSlice S16x33x4x4x128x16 ![0, 0, 0, 0, 0, 384] w slices_S16x33x4x4x128x401_S16x33x4x4x128x16_0_0_0_0_0_384)) transposes_S16x4x64x33x4x128_S16x33x128x4x4x64_0_3_5_1_4_2)) shapeCasts_S16x33x128x4x4x64_S16x4224x1024) slices_S16x4224x1024_S16x4112x1024_0_112_0) slices_S16x4112x1024_S16x4096x1024_0_16_0) shapeCasts_S16x4096x1024_S65536x1024) bitsLt_bf16_f32

/-- The reference's attention, whole. -/
def attention (x0 : FVec Ideal S65536x1536 .bf16) (x1 : FVec Ideal S256x65536 .bf16) (x2 : FVec Ideal S256x1536 .bf16)
    (x3 : FVec Ideal S1x16 .f32) : FVec Ideal S65536x1024 .bf16 :=
  output (weightsOf (exps (scoresOf (queries (joined x0 x2)) (keys x1 x2) (blocks (keys x1 x2)) x3))) (vals (joined x0 x2))
    (blocks (vals (joined x0 x2)))

end Cert.ReferenceIdeal.Attention

end
-- ==== Proof.Attention.Softmax.lean ====
/- A softmax-weighted mean of extended reals: dividing once, after the sums, over all 512 columns that the kernel keeps, is
   dividing each weight, over the 384 + 16 columns that carry values and the column of the sink. -/
module

public import Idealize.ShloMosaic.Lib.Pointwise

@[expose] public section

noncomputable section

namespace Cert.Attention

open Idealize.ShloMosaic

/-- The mean of `v` under the softmax of the scores `s`, the division made once, after the sums. -/
def mean {n : Nat} (s v : Fin n → EReal) : EReal :=
  Ideal.div (∑ j, Ideal.exp (s j - Finset.univ.sup s) * v j) (∑ j, Ideal.exp (s j - Finset.univ.sup s))

/-- The softmax's weight of column `j`. -/
def weight {n : Nat} (s : Fin n → EReal) (j : Fin n) : EReal :=
  Ideal.div (Ideal.exp (s j - Finset.univ.sup s)) (∑ k, Ideal.exp (s k - Finset.univ.sup s))

/-- A nonnegative real distributes over any sum of extended reals. -/
theorem sum_mul_real {ι : Type} (t : Finset ι) (f : ι → EReal) (c : ℝ) (hc : 0 ≤ c) :
    (∑ j ∈ t, f j) * (c : EReal) = ∑ j ∈ t, f j * (c : EReal) := by
  classical
  induction t using Finset.induction_on with
  | empty => simp
  | insert a t ha ih =>
    rw [Finset.sum_insert ha, Finset.sum_insert ha, ← ih]
    exact EReal.right_distrib_of_nonneg_of_ne_top (by exact_mod_cast hc) (EReal.coe_ne_top c) _ _

/-- The largest of finitely many scores, none of them `⊤` and not all of them `⊥`, is a real number. -/
theorem sup_real {n : Nat} (s : Fin n → EReal) (hb : ∃ j, s j ≠ ⊥) (ht : ∀ j, s j ≠ ⊤) :
    ∃ M : ℝ, Finset.univ.sup s = (M : EReal) := by
  have h1 : Finset.univ.sup s ≠ ⊤ := ((Finset.sup_lt_iff bot_lt_top).2 fun j _ => lt_top_iff_ne_top.2 (ht j)).ne
  have h2 : Finset.univ.sup s ≠ ⊥ := fun h => hb.elim fun j hj => hj (Finset.sup_eq_bot_iff _ _ |>.1 h j (Finset.mem_univ j))
  exact ⟨_, (EReal.coe_toReal h1 h2).symm⟩

/-- Each exponential is a nonnegative real, and their sum a positive one. -/
theorem exp_real {n : Nat} (s : Fin n → EReal) (hb : ∃ j, s j ≠ ⊥) (ht : ∀ j, s j ≠ ⊤) :
    ∃ L : ℝ, 0 < L ∧ ∑ j, Ideal.exp (s j - Finset.univ.sup s) = (L : EReal) := by
  obtain ⟨M, hM⟩ := sup_real s hb ht
  have h : ∀ j, ∃ a : ℝ, Ideal.exp (s j - (M : EReal)) = (a : EReal) ∧ 0 ≤ a ∧ (s j ≠ ⊥ → 0 < a) := fun j => by
    by_cases hj : s j = ⊥
    · exact ⟨0, by simp [hj], le_refl _, fun h => absurd hj h⟩
    · refine ⟨Real.exp ((s j).toReal - M), ?_, (Real.exp_pos _).le, fun _ => Real.exp_pos _⟩
      rw [← EReal.coe_toReal (ht j) hj, ← EReal.coe_sub, Ideal.exp_coe, EReal.toReal_coe]
  choose a ha h0 hp using h
  refine ⟨∑ j, a j, ?_, ?_⟩
  · obtain ⟨j, hj⟩ := hb
    exact Finset.sum_pos' (fun j _ => h0 j) ⟨j, Finset.mem_univ j, hp j hj⟩
  · rw [hM]
    simp only [ha]
    exact (map_sum (⟨⟨Real.toEReal, EReal.coe_zero⟩, EReal.coe_add⟩ : ℝ →+ EReal) a Finset.univ).symm

/-- A sum over 512 columns, cut where the band and the meta tokens end. -/
theorem sum_cut (f : Fin 512 → EReal) : ∑ j, f j =
    (∑ j : Fin 384, f ⟨j, by omega⟩) + ((∑ m : Fin 16, f ⟨384 + m, by omega⟩) + ∑ x : Fin 112, f ⟨400 + x, by omega⟩) := by
  rw [Fin.sum_univ_two_halves 384 128 rfl, Fin.sum_univ_two_halves 16 112 rfl]
  refine congrArg _ (congrArg _ (Finset.sum_congr rfl fun x _ => congrArg f (Fin.ext ?_)))
  simp only
  omega

/-- THE EQUATION. `s` are the kernel's 512 scores, of which those past the 401 of the reference, `s'`, are `⊥`; `v` its
    values, which agree with the reference's where the score is not `⊥` and vanish in the sink's column. -/
theorem mean_eq (s v : Fin 512 → EReal) (s' : Fin 401 → EReal) (w : Fin 384 → EReal) (w' : Fin 16 → EReal)
    (hs : ∀ j : Fin 401, s ⟨j, by omega⟩ = s' j) (hrest : ∀ j : Fin 512, 401 ≤ (j : Nat) → s j = ⊥)
    (hv : ∀ j : Fin 384, s' ⟨j, by omega⟩ ≠ ⊥ → v ⟨j, by omega⟩ = w j) (hv' : ∀ m : Fin 16, v ⟨384 + m, by omega⟩ = w' m)
    (h0 : v ⟨400, by omega⟩ = 0) (hb : ∃ j, s' j ≠ ⊥) (ht : ∀ j, s' j ≠ ⊤) :
    mean s v = (∑ j : Fin 384, weight s' ⟨j, by omega⟩ * w j) + ∑ m : Fin 16, weight s' ⟨384 + m, by omega⟩ * w' m := by
  have hsup : Finset.univ.sup s = Finset.univ.sup s' := by
    apply le_antisymm
    · refine Finset.sup_le fun j _ => ?_
      by_cases hj : 401 ≤ (j : Nat)
      · rw [hrest j hj]; exact bot_le
      · exact (hs ⟨j, by omega⟩).le.trans (Finset.le_sup (f := s') (Finset.mem_univ _))
    · exact Finset.sup_le fun j _ => (hs j).symm.le.trans (Finset.le_sup (f := s) (Finset.mem_univ _))
  obtain ⟨M, hM⟩ := sup_real s' hb ht
  have hzero : Ideal.exp (⊥ - (M : EReal)) = 0 := by simp
  have hsum : ∑ j, Ideal.exp (s j - Finset.univ.sup s) = ∑ k, Ideal.exp (s' k - Finset.univ.sup s') := by
    rw [hsup, Fin.sum_univ_two_halves 401 111 rfl]
    refine Eq.trans (congrArg₂ (· + ·) (Finset.sum_congr rfl fun j _ => by rw [hs]) (Finset.sum_eq_zero fun x _ => ?_)) (add_zero _)
    rw [hrest _ (by simp), hM, hzero]
  obtain ⟨L, hL, hLs⟩ := exp_real s' hb ht
  have hc : (0 : ℝ) ≤ 1 / L := by positivity
  unfold mean weight
  rw [hsum, hLs, hsup, Ideal.div_coe hL.ne', sum_mul_real _ _ _ hc, sum_cut]
  simp only [Ideal.div_coe hL.ne']
  refine congrArg₂ (· + ·) (Finset.sum_congr rfl fun j _ => ?_) ((congrArg₂ (· + ·) (Finset.sum_congr rfl fun m _ => ?_)
    (Finset.sum_eq_zero fun x _ => ?_)).trans (add_zero _))
  · rw [mul_right_comm, hs ⟨j, by omega⟩]
    by_cases hj : s' ⟨j, by omega⟩ = ⊥
    · rw [hj, hM, hzero, zero_mul, zero_mul, zero_mul]
    · rw [hv j hj]
  · rw [mul_right_comm, hs ⟨384 + m, by omega⟩, hv']
  · by_cases hx : (x : Nat) = 0
    · have : (⟨400 + x, by omega⟩ : Fin 512) = ⟨400, by omega⟩ := Fin.ext (by simp [hx])
      rw [this, h0, mul_zero, zero_mul]
    · rw [hrest ⟨400 + x, _⟩ (by simp only; omega), hM, hzero, zero_mul, zero_mul]

end Cert.Attention

end
-- ==== Proof.Attention.Spec.lean ====
/- The attention of one query row and one head, over the argument arrays: what the kernel and the reference both compute. -/
module

public import proofs.«01_k».proof.Proof.Attention.Softmax
public import Idealize.ShloMosaic.Lib.WordCmp
public import Idealize.ShloMosaic.Lib.Pointwise

@[expose] public section

noncomputable section

namespace Cert.Attention

open Idealize.ShloMosaic

/-! ## Distances as words -/

/-- The distance of two naturals. -/
def gap (a b : Nat) : Nat := a - b + (b - a)

/-- The absolute value of a difference of small words is the word of the distance. -/
theorem absi_sub (a b : Nat) (ha : a < 2 ^ 31) (hb : b < 2 ^ 31) :
    IntOp.absi (BitVec.ofNat 32 a - BitVec.ofNat 32 b) = BitVec.ofNat 32 (gap a b) := by
  unfold IntOp.absi gap
  rw [BitVec.msb_eq_decide]
  by_cases h : b ≤ a
  · have e : BitVec.ofNat 32 a - BitVec.ofNat 32 b = BitVec.ofNat 32 (a - b + (b - a)) := by bv_omega
    rw [e]
    have : ¬ 2 ^ (32 - 1) ≤ (BitVec.ofNat 32 (a - b + (b - a))).toNat := by bv_omega
    rw [if_neg (by simpa only [decide_eq_true_eq] using this)]
  · have e : BitVec.ofNat 32 a - BitVec.ofNat 32 b = - BitVec.ofNat 32 (a - b + (b - a)) := by bv_omega
    rw [e]
    have : 2 ^ (32 - 1) ≤ (- BitVec.ofNat 32 (a - b + (b - a))).toNat := by bv_omega
    rw [if_pos (decide_eq_true this), BitVec.neg_neg]

/-- A small word read as a real. -/
theorem real_ofNat (a : Nat) (ha : a < 2 ^ 31) :
    (FloatOps.sitofp FTy.f32 (BitVec.ofNat 32 a) : Ideal .f32) = (((a : ℝ)) : EReal) := by
  show (((BitVec.ofNat 32 a).toInt : ℝ) : EReal) = _
  rw [WordCmp.toInt_ofNat_of_lt (by omega)]
  simp

/-! ## The scores -/

/-- Block `n`'s column `j` is a real token, at most 128 away from query `i` of the block. -/
def Live (n : Fin 32) (i : Fin 128) (j : Nat) : Prop :=
  128 ≤ 128 * (n : Nat) + j ∧ 128 * (n : Nat) + j < 4224 ∧ gap (128 + i) j ≤ 128

instance (n : Fin 32) (i : Fin 128) (j : Nat) : Decidable (Live n i j) := by unfold Live; infer_instance

/-- Head `h`'s slope. -/
def slope (h : Nat) : EReal :=
  Ideal.exp (Ideal.ofBits FTy.f32 1060205080#32 *
    Ideal.div (Ideal.ofBits FTy.f32 3238002688#32 * (1 + (((h : ℝ)) : EReal))) (Ideal.ofBits FTy.f32 1098907648#32))

section

variable (A0 : (⟨2, ![65536, 1536]⟩ : Shape).Idx → EReal) (A1 : (⟨2, ![256, 65536]⟩ : Shape).Idx → EReal)
  (A2 : (⟨2, ![256, 1536]⟩ : Shape).Idx → EReal) (A3 : (⟨2, ![1, 16]⟩ : Shape).Idx → EReal)
  (b : Fin 16) (n : Fin 32) (i : Fin 128) (h : Fin 16)

/-- The query of row `i` of block `n`, head `h`, lane `d`. -/
def query (d : Fin 64) : EReal := A0 (ix2 ⟨4096 * b + 128 * n + i, by omega⟩ ⟨64 * h + d, by omega⟩)

/-- The key of band column `j`. -/
def key (j : Nat) (hj : Live n i j) (d : Fin 64) : EReal :=
  A1 (ix2 ⟨64 * (h / 4) + d, by omega⟩ ⟨4096 * b + (128 * n + j - 128), by have := hj.2.1; omega⟩)

/-- The value of band column `j`. -/
def value (j : Nat) (hj : Live n i j) (d : Fin 64) : EReal :=
  A0 (ix2 ⟨4096 * b + (128 * n + j - 128), by have := hj.2.1; omega⟩ ⟨1024 + 128 * (h / 4) + d, by omega⟩)

/-- The meta token `m`'s key and value. -/
def metaKey (m : Fin 16) (d : Fin 64) : EReal := A2 (ix2 ⟨16 * b + m, by omega⟩ ⟨1024 + 128 * (h / 4) + 64 + d, by omega⟩)
def metaValue (m : Fin 16) (d : Fin 64) : EReal := A2 (ix2 ⟨16 * b + m, by omega⟩ ⟨1024 + 128 * (h / 4) + d, by omega⟩)

/-- The 401 scores of a query row: 384 band columns (`⊥` where not live), 16 meta tokens, the sink. -/
def score (j : Fin 401) : EReal :=
  if (j : Nat) < 384 then
    if hl : Live n i j then (∑ d, query A0 b n i h d * key A1 b n i h j hl d) - slope h * (((gap (128 + i) j : ℕ) : ℝ) : EReal)
    else ⊥
  else if hm : (j : Nat) - 384 < 16 then
    (∑ d, query A0 b n i h d * metaKey A2 b h ⟨j - 384, hm⟩ d) - slope h * (((16 + 128 * n + i - (j - 384) : ℕ) : ℝ) : EReal)
  else A3 (ix2 0 h)

end

/-- The sum over the fiber of a reduction that drops the last of six axes. -/
theorem fiber_last {n0 n1 n2 n3 n4 n5 : Nat} {t : Shape} (h : (⟨6, ![n0, n1, n2, n3, n4, n5]⟩ : Shape).ReducesTo [5] t)
    (ht : t = ⟨5, ![n0, n1, n2, n3, n4]⟩) (a : Fin n0) (b : Fin n1) (c : Fin n2) (d : Fin n3) (e : Fin n4)
    (i : (⟨6, ![n0, n1, n2, n3, n4, n5]⟩ : Shape).Idx) :
    h.drop i = (ht ▸ ix5 a b c d e) ↔ ∃ k : Fin n5, ix6 a b c d e k = i := by
  subst ht
  constructor
  · intro he
    refine ⟨i 5, ?_⟩
    funext x; apply Fin.ext
    match x with
    | ⟨0, _⟩ => exact (congrArg Fin.val (congrFun he 0)).symm
    | ⟨1, _⟩ => exact (congrArg Fin.val (congrFun he 1)).symm
    | ⟨2, _⟩ => exact (congrArg Fin.val (congrFun he 2)).symm
    | ⟨3, _⟩ => exact (congrArg Fin.val (congrFun he 3)).symm
    | ⟨4, _⟩ => exact (congrArg Fin.val (congrFun he 4)).symm
    | ⟨5, _⟩ => rfl
  · rintro ⟨k, rfl⟩
    funext x; apply Fin.ext
    match x with
    | ⟨0, _⟩ => rfl
    | ⟨1, _⟩ => rfl
    | ⟨2, _⟩ => rfl
    | ⟨3, _⟩ => rfl
    | ⟨4, _⟩ => rfl

/-- The host's sum along the last of six axes. -/
theorem sum_last {n0 n1 n2 n3 n4 n5 : Nat} (h : (⟨6, ![n0, n1, n2, n3, n4, n5]⟩ : Shape).ReducesTo [5] ⟨5, ![n0, n1, n2, n3, n4]⟩)
    (a : Fin n0) (b : Fin n1) (c : Fin n2) (d : Fin n3) (e : Fin n4)
    (v : (⟨6, ![n0, n1, n2, n3, n4, n5]⟩ : Shape).Idx → EReal) (z : EReal) :
    Ideal.hostReduceAdd h v z (ix5 a b c d e) = z + ∑ k : Fin n5, v (ix6 a b c d e k) :=
  congrArg (z + ·) (Finset.sum_filter_eq_sum_of_fiber _ (fun k : Fin n5 => ix6 a b c d e k) (fun _ _ e => congrFun e 5)
    (fiber_last h rfl a b c d e) v)

/-- The host's maximum along the last of six axes. -/
theorem max_last {n0 n1 n2 n3 n4 n5 : Nat} (h : (⟨6, ![n0, n1, n2, n3, n4, n5]⟩ : Shape).ReducesTo [5] ⟨5, ![n0, n1, n2, n3, n4]⟩)
    (a : Fin n0) (b : Fin n1) (c : Fin n2) (d : Fin n3) (e : Fin n4)
    (v : (⟨6, ![n0, n1, n2, n3, n4, n5]⟩ : Shape).Idx → EReal) (z : EReal) :
    (Finset.univ.filter (fun i => h.drop i = ix5 a b c d e)).fold max z v =
      (Finset.univ : Finset (Fin n5)).fold max z (fun k => v (ix6 a b c d e k)) :=
  Finset.fold_filter_eq_fold_of_fiber max _ (fun k : Fin n5 => ix6 a b c d e k) (fun _ _ e => congrFun e 5)
    (fiber_last h rfl a b c d e) z v

end Cert.Attention

end
-- ==== Proof.Attention.RefReads.lean ====
/- The reference's attention read at one entry: the softmax over the 401 scores of the row, each weight divided, times the
   values of the band and of the meta tokens. -/
module

public import proofs.«01_k».proof.Proof.Attention.RefTerms
public import proofs.«01_k».proof.Proof.Attention.Spec

@[expose] public section

set_option maxRecDepth 16384

noncomputable section

namespace Cert.ReferenceIdeal.Attention

open Idealize.ShloMosaic Idealize.ShloMosaic.TcCoe
open Cert.ReferenceIdeal Cert.ReferenceIdeal.Gen Cert.Attention

variable (x0 : FVec Ideal S65536x1536 .bf16) (x1 : FVec Ideal S256x65536 .bf16) (x2 : FVec Ideal S256x1536 .bf16)
  (x3 : FVec Ideal S1x16 .f32)

/-- Two entries whose coordinates agree. -/
theorem read_congr {n0 n1 : Nat} (x : (⟨2, ![n0, n1]⟩ : Shape).Idx → EReal) {a a' b b' : Nat} {ha : a < n0} {hb : b < n1} {ha' : a' < n0} {hb' : b' < n1}
    (h : a = a') (h' : b = b') : x (ix2 ⟨a, ha⟩ ⟨b, hb⟩) = x (ix2 ⟨a', ha'⟩ ⟨b', hb'⟩) := by
  subst h h'; rfl

/-- A token axis padded by a block on both sides and cut into blocks. -/
theorem blocks_at (x : FVec Ideal S16x4224x4x64 .f32) (b : Fin 16) (n : Fin 35) (i : Fin 128) (h : Fin 4) (d : Fin 64)
    (h1 : 128 ≤ (n : Nat) * 128 + i) (h2 : (n : Nat) * 128 + i - 128 < 4224) :
    blocks x (ix5 b n i h d) = x (ix4 b ⟨(n : Nat) * 128 + i - 128, h2⟩ h d) := by
  pointwise [blocks]
  rw [dif_pos ⟨h1, h2⟩]

/-- The keys' token axis, at a real token and at a meta token. -/
theorem keys_token (b : Fin 16) (p : Fin 4224) (h : Fin 4) (d : Fin 64) (hp : 128 ≤ (p : Nat)) :
    keys x1 x2 (ix4 b p h d) = x1 (ix2 ⟨64 * h + d, by omega⟩ ⟨4096 * b + (p - 128), by omega⟩) := by
  pointwise [keys]
  rw [dif_pos (by omega), dif_neg (by omega)]
  exact read_congr x1 (by omega) (by omega)

theorem keys_meta (b : Fin 16) (p : Fin 4224) (h : Fin 4) (d : Fin 64) (m : Fin 16) (hp : (p : Nat) = 112 + m) :
    keys x1 x2 (ix4 b p h d) = x2 (ix2 ⟨16 * b + m, by omega⟩ ⟨1024 + 128 * h + 64 + d, by omega⟩) := by
  pointwise [keys]
  rw [dif_pos (by omega), dif_pos (by omega)]
  exact read_congr x2 (by omega) (by omega)

/-- The tokens' rows behind the sixteen meta tokens' rows. -/
theorem joined_token (b : Fin 16) (p : Fin 4112) (c : Fin 1536) (hp : 16 ≤ (p : Nat)) :
    joined x0 x2 (ix3 b p c) = x0 (ix2 ⟨4096 * b + (p - 16), by omega⟩ c) := by
  pointwise [joined]
  rw [dif_neg (by omega)]
  exact read_congr x0 (by omega) rfl

theorem joined_meta (b : Fin 16) (p : Fin 4112) (c : Fin 1536) (hp : (p : Nat) < 16) :
    joined x0 x2 (ix3 b p c) = x2 (ix2 ⟨16 * b + p, by omega⟩ c) := by
  pointwise [joined]
  rw [dif_pos hp]
  exact read_congr x2 (by omega) rfl

/-- The values are the last 512 lanes, 128 to a group, the values before the keys. -/
theorem vals_at (r : FVec Ideal S16x4112x1536 .f32) (b : Fin 16) (p : Fin 4224) (h : Fin 4) (d : Fin 64) (hp : 112 ≤ (p : Nat)) :
    vals r (ix4 b p h d) = r (ix3 b ⟨p - 112, by omega⟩ ⟨1024 + (h * 128 + d), by omega⟩) := by
  pointwise [vals]
  rw [dif_pos ⟨hp, by omega⟩]

/-- The values' token axis. -/
theorem values_token (b : Fin 16) (p : Fin 4224) (h : Fin 4) (d : Fin 64) (hp : 128 ≤ (p : Nat)) :
    vals (joined x0 x2) (ix4 b p h d) = x0 (ix2 ⟨4096 * b + (p - 128), by omega⟩ ⟨1024 + 128 * h + d, by omega⟩) := by
  rw [vals_at _ _ _ _ _ (by omega), joined_token _ _ _ _ _ (by simp only; omega)]
  exact read_congr x0 (by simp only; omega) (by omega)

theorem values_meta (b : Fin 16) (p : Fin 4224) (h : Fin 4) (d : Fin 64) (m : Fin 16) (hp : (p : Nat) = 112 + m) :
    vals (joined x0 x2) (ix4 b p h d) = x2 (ix2 ⟨16 * b + m, by omega⟩ ⟨1024 + 128 * h + d, by omega⟩) := by
  rw [vals_at _ _ _ _ _ (by omega), joined_meta _ _ _ _ _ (by simp only; omega)]
  exact read_congr x2 (by simp only; omega) (by omega)

/-- A band column's key or value: block `n + j / 128` of the padded blocks. -/
theorem keys_band (b : Fin 16) (n : Fin 32) (i : Fin 128) (h : Fin 4) (d : Fin 64) (j : Nat) (m : Fin 35) (r : Fin 128)
    (hl : Live n i j) (hm : (m : Nat) * 128 + r = 128 * n + j + 128) :
    blocks (keys x1 x2) (ix5 b m r h d) =
      x1 (ix2 ⟨64 * h + d, by omega⟩ ⟨4096 * b + (128 * n + j - 128), by have := hl.2.1; omega⟩) := by
  obtain ⟨h1, h2, -⟩ := hl
  rw [blocks_at _ _ _ _ _ _ (by omega) (by omega), keys_token x1 x2 _ _ _ _ (by simp only; omega)]
  exact read_congr x1 rfl (by simp only; omega)

theorem values_band (b : Fin 16) (n : Fin 32) (i : Fin 128) (h : Fin 4) (d : Fin 64) (j : Nat) (m : Fin 35) (r : Fin 128)
    (hl : Live n i j) (hm : (m : Nat) * 128 + r = 128 * n + j + 128) :
    blocks (vals (joined x0 x2)) (ix5 b m r h d) =
      x0 (ix2 ⟨4096 * b + (128 * n + j - 128), by have := hl.2.1; omega⟩ ⟨1024 + 128 * h + d, by omega⟩) := by
  obtain ⟨h1, h2, -⟩ := hl
  rw [blocks_at _ _ _ _ _ _ (by omega) (by omega), values_token x0 x2 _ _ _ _ (by simp only; omega)]
  exact read_congr x0 (by simp only; omega) rfl

/-- The queries. -/
theorem query_at (b : Fin 16) (n : Fin 32) (i : Fin 128) (h : Fin 16) (d : Fin 64) :
    queries (joined x0 x2) (ix6 b ⟨n + 1, by omega⟩ i ⟨h / 4, by omega⟩ ⟨h % 4, by omega⟩ d) = query x0 b n i h d := by
  pointwise [queries, joined]
  rw [dif_pos (by omega), dif_neg (by omega)]
  exact read_congr x0 (by omega) (by omega)

end Cert.ReferenceIdeal.Attention

end
-- ==== Proof.Attention.RefValue.lean ====
/- The reference's attention, one entry: the softmax over the 401 scores of the row, each weight divided, times the
   values of the band and of the meta tokens. -/
module

public import proofs.«01_k».proof.Proof.Attention.RefReads
public import proofs.«01_k».proof.Proof.Attention.Spec

@[expose] public section

set_option maxRecDepth 16384

noncomputable section

namespace Cert.ReferenceIdeal.Attention

open Idealize.ShloMosaic Idealize.ShloMosaic.TcCoe
open Cert.ReferenceIdeal Cert.ReferenceIdeal.Gen Cert.Attention

/-- The band's mask: the score where the column is live, `⊥` elsewhere. -/
theorem select_live (n : Fin 32) (i : Fin 128) (j : Nat) (hj : j < 384) (P D : BitVec 32) (x y z : EReal) (hP : P = BitVec.ofNat 32 (128 * n + j))
    (hD : D = BitVec.ofNat 32 (gap (128 + i) j)) (hy : y = ⊥) (hx : Live n i j → x = z) :
    Scalar.select (IntOp.andi (IntOp.andi (IntOp.cmpi .sge P 128#32) (IntOp.cmpi .slt P 4224#32)) (IntOp.cmpi .sle D 128#32)) x y =
      if Live n i j then z else ⊥ := by
  have hgl : gap (128 + i) j < 2 ^ 31 := by unfold gap; omega
  rw [hP, hD, WordCmp.cmpi_sge_ofNat (by omega) (by omega), WordCmp.cmpi_slt_ofNat (by omega) (by omega),
    WordCmp.cmpi_sle_ofNat (by omega) (by omega), WordCmp.andi_ofBool, WordCmp.andi_ofBool]
  by_cases hl : Live n i j
  · obtain ⟨h1, h2, h3⟩ := hl
    rw [if_pos ⟨h1, h2, h3⟩, decide_eq_true h1, decide_eq_true h2, decide_eq_true h3, ← hx ⟨h1, h2, h3⟩]
    exact if_pos rfl
  · rw [if_neg hl]
    refine Eq.trans (if_neg ?_) hy
    intro h0
    refine hl ?_
    have := (WordCmp.ofBool_eq_one_iff' _).mp h0
    simp only [Bool.and_eq_true, decide_eq_true_eq] at this
    exact ⟨this.1.1, this.1.2, this.2⟩

/-- A sum of products less a slope times a distance, part by part. -/
theorem sub_parts (f g : Fin 64 → EReal) (s s' d d' : EReal) (h : ∀ x, f x = g x) (hs : s = s') (hd : d = d') :
    (∑ x, f x) - s * d = (∑ x, g x) - s' * d' := by
  subst hs hd; rw [Finset.sum_congr rfl fun x _ => h x]

/-- One score of the reference. -/
theorem scores_at (x3 : FVec Ideal S1x16 .f32) (q : FVec Ideal S16x33x128x4x4x64 .f32) (k : FVec Ideal S16x4224x4x64 .f32) (kb : FVec Ideal S16x35x128x4x64 .f32)
    (b : Fin 16) (n : Fin 33) (i : Fin 128) (h g : Fin 4) (j : Fin 401) (n' : Fin 32) (H : Fin 16) (hn : (n : Nat) = n' + 1) (hH : (h : Nat) * 4 + g = H)
    (qq kk : Fin 64 → EReal) (hq : ∀ d, q (ix6 b n i h g d) = qq d)
    (hb : (j : Nat) < 384 → Live n' i j → ∀ (m : Fin 35) (r : Fin 128) (d : Fin 64), (m : Nat) * 128 + r = 128 * n' + j + 128 → kb (ix5 b m r h d) = kk d)
    (hm : 384 ≤ (j : Nat) → ∀ (p : Fin 4224) (d : Fin 64), (p : Nat) = 112 + (j - 384) → (j : Nat) - 384 < 16 → k (ix4 b p h d) = kk d) :
    scoresOf q k kb x3 (ix6 b n h g i j) =
      if (j : Nat) < 384 then
        if Live n' i j then (∑ d, qq d * kk d) - Attention.slope H * (((gap (128 + i) j : ℕ) : ℝ) : EReal) else ⊥
      else if (j : Nat) - 384 < 16 then
        (∑ d, qq d * kk d) - Attention.slope H * (((16 + 128 * n' + i - (j - 384) : ℕ) : ℝ) : EReal)
      else x3 (ix2 0 H) := by
  have pos : IntOp.addi (IntOp.subi (IntOp.muli (BitVec.ofNat 32 n) 128#32) 128#32) (BitVec.ofNat 32 j) = BitVec.ofNat 32 (128 * n' + j) := by
    rw [hn]; unfold IntOp.addi IntOp.subi IntOp.muli; bv_omega
  have mpos : ∀ x : Nat, IntOp.addi 112#32 (BitVec.ofNat 32 x) = BitVec.ofNat 32 (112 + x) := fun x => by
    unfold IntOp.addi; bv_omega
  have dist : ∀ x y : Nat, x < 2 ^ 31 → y < 2 ^ 31 → IntOp.absi (IntOp.subi (BitVec.ofNat 32 x) (BitVec.ofNat 32 y)) = BitVec.ofNat 32 (gap x y) := fun x y hx hy => by
    unfold IntOp.subi; exact absi_sub _ _ hx hy
  have sl : Ideal.exp (Ideal.ofBits FTy.f32 1060205080#32 * Ideal.div (Ideal.ofBits FTy.f32 3238002688#32 *
      ((1 : EReal) + (FloatOps.sitofp FTy.f32 (BitVec.ofNat 32 ((h : Nat) * 4 + g)) : Ideal .f32))) (Ideal.ofBits FTy.f32 1098907648#32)) = Attention.slope H := by
    rw [real_ofNat _ (by omega), hH]; rfl
  pointwise [scoresOf, keyPlace, distance, queryPlace, slopes]
  split
  · rename_i hj
    have hg : gap ((n : Nat) * 128 + i) (128 * n' + j) = gap (128 + i) j := by unfold gap; omega
    have hgl : gap (128 + i) j < 2 ^ 31 := by unfold gap; omega
    have hD : IntOp.absi (IntOp.subi (BitVec.ofNat 32 (n * 128 + i))
        (IntOp.addi (IntOp.subi (IntOp.muli (BitVec.ofNat 32 n) 128#32) 128#32) (BitVec.ofNat 32 j))) = BitVec.ofNat 32 (gap (128 + i) j) := by
      rw [pos, dist _ _ (by omega) (by omega), hg]
    refine select_live n' i j hj _ _ _ _ _ pos hD rfl fun hl => ?_
    refine sub_parts _ _ _ _ _ _ (fun d => ?_) sl ?_
    · refine (mul_comm _ _).trans (congrArg₂ _ (hq d) ?_)
      split
      · exact hb hj hl _ _ _ (by simp only; omega)
      · split
        · exact hb hj hl _ _ _ (by simp only; omega)
        · exact hb hj hl _ _ _ (by simp only; omega)
    · exact (congrArg (FloatOps.sitofp FTy.f32) hD).trans (real_ofNat _ hgl)
  · rename_i hj
    split
    · rename_i hm'
      have hg : gap ((n : Nat) * 128 + i) (112 + (j - 384)) = 16 + 128 * n' + i - (j - 384) := by unfold gap; omega
      have hD : IntOp.absi (IntOp.subi (BitVec.ofNat 32 (n * 128 + i)) (IntOp.addi 112#32 (BitVec.ofNat 32 (j - 384)))) =
          BitVec.ofNat 32 (16 + 128 * n' + i - (j - 384)) := by
        rw [mpos, dist _ _ (by omega) (by omega), hg]
      refine sub_parts _ _ _ _ _ _ (fun d => ?_) sl ?_
      · exact (mul_comm _ _).trans (congrArg₂ _ (hq d) (hm (by omega) _ _ rfl hm'))
      · exact (congrArg (FloatOps.sitofp FTy.f32) hD).trans (real_ofNat _ (by omega))
    · exact congrArg (fun t => x3 (ix2 0 t)) (Fin.ext hH)

/-- The host's maximum along the last of six axes. -/
theorem host_max_last {n0 n1 n2 n3 n4 n5 : Nat} {u : Shape} (h : (⟨6, ![n0, n1, n2, n3, n4, n5]⟩ : Shape).ReducesTo [5] ⟨5, ![n0, n1, n2, n3, n4]⟩)
    (hu : 0 < u.numel) (a : Fin n0) (b : Fin n1) (c : Fin n2) (d : Fin n3) (e : Fin n4)
    (v : FVec Ideal (⟨6, ![n0, n1, n2, n3, n4, n5]⟩ : Shape) .f32) (z : FVec Ideal u .f32) :
    Host.reduce FloatOps.maximumf v z h hu (ix5 a b c d e) =
      (Finset.univ : Finset (Fin n5)).fold max (z (Shape.Idx.first hu)) (fun k => v (ix6 a b c d e k)) := by
  refine (Host.reduce_eq_fold (max : EReal → EReal → EReal) v z h hu _).trans ?_
  exact max_last h a b c d e v _

/-- The exponentials and the row maxima. -/
theorem expsFrom_at (s : FVec Ideal S16x33x4x4x128x401 .f32) (m : FVec Ideal S16x33x4x4x128 .f32) (b : Fin 16) (n : Fin 33) (h g : Fin 4) (i : Fin 128) (j : Fin 401) :
    expsFrom s m (ix6 b n h g i j) = Ideal.exp (s (ix6 b n h g i j) - m (ix5 b n h g i)) := by
  pointwise [expsFrom]
  exact congrArg (fun t => Ideal.exp (s (ix6 b n h g i j) - t)) (bot_sup_eq _)

theorem rowMax_at (s : FVec Ideal S16x33x4x4x128x401 .f32) (b : Fin 16) (n : Fin 33) (h g : Fin 4) (i : Fin 128) :
    rowMax s (ix5 b n h g i) = Finset.univ.sup fun k => s (ix6 b n h g i k) := by
  unfold rowMax
  exact host_max_last _ _ b n h g i s _

/-- A score's weight. -/
theorem weight_at (s : FVec Ideal S16x33x4x4x128x401 .f32) (b : Fin 16) (n : Fin 33) (h g : Fin 4) (i : Fin 128) (j : Fin 401) :
    weightsOf (exps s) (ix6 b n h g i j) = weight (fun k => s (ix6 b n h g i k)) j := by
  have hw : ∀ e : FVec Ideal S16x33x4x4x128x401 .f32,
      weightsOf e (ix6 b n h g i j) = Ideal.div (e (ix6 b n h g i j)) (∑ k, e (ix6 b n h g i k)) := fun e => by
    pointwise [weightsOf]
    rw [sum_last, zero_add]
  have he : ∀ k, exps s (ix6 b n h g i k) = Ideal.exp (s (ix6 b n h g i k) - Finset.univ.sup fun k => s (ix6 b n h g i k)) := fun k => by
    unfold exps
    rw [expsFrom_at, rowMax_at]
  rw [hw, he]
  simp only [he]
  rfl

/-- The output row: the weighted values of the band and of the meta tokens. -/
theorem output_at (w : FVec Ideal S16x33x4x4x128x401 .f32) (v : FVec Ideal S16x4224x4x64 .f32) (vb : FVec Ideal S16x35x128x4x64 .f32)
    (r : Fin 65536) (c : Fin 1024) (b : Fin 16) (n : Fin 33) (n' : Fin 32) (i : Fin 128) (h g : Fin 4) (d : Fin 64) (hn : (n : Nat) = n' + 1)
    (hr : (r : Nat) = 4096 * b + 128 * n' + i) (hc : (c : Nat) = 64 * (4 * h + g) + d) :
    output w v vb (ix2 r c) =
      (∑ x : Fin 384, w (ix6 b n h g i ⟨x, by omega⟩) * vb (ix5 b ⟨n + x / 128, by omega⟩ ⟨x % 128, by omega⟩ h d)) +
      ∑ x : Fin 16, w (ix6 b n h g i ⟨384 + x, by omega⟩) * v (ix4 b ⟨112 + x, by omega⟩ h d) := by
  have e1 : (r : Nat) / 4096 = b := by omega
  have e2 : (112 + (16 + (r : Nat) % 4096)) / 128 = n := by omega
  have e3 : (112 + (16 + (r : Nat) % 4096)) % 128 = i := by omega
  have e4 : (c : Nat) / 256 = h := by omega
  have e5 : (c : Nat) / 64 % 4 = g := by omega
  have e6 : (c : Nat) % 64 = d := by omega
  pointwise [output]
  simp only [e1, e2, e3, e4, e5, e6]
  congr 1
  · refine Finset.sum_congr rfl fun x _ => ?_
    rw [mul_comm]
    congr 1
    split
    · exact congrArg₂ (fun s t => vb (ix5 b s t h d)) (Fin.ext (by simp only; omega)) (Fin.ext (by simp only; omega))
    · split
      · exact congrArg₂ (fun s t => vb (ix5 b s t h d)) (Fin.ext (by simp only; omega)) (Fin.ext (by simp only; omega))
      · exact congrArg₂ (fun s t => vb (ix5 b s t h d)) (Fin.ext (by simp only; omega)) (Fin.ext (by simp only; omega))
  · exact Finset.sum_congr rfl fun x _ => mul_comm _ _

variable (x0 : FVec Ideal S65536x1536 .bf16) (x1 : FVec Ideal S256x65536 .bf16) (x2 : FVec Ideal S256x1536 .bf16) (x3 : FVec Ideal S1x16 .f32)

/-- The value that the reference has at band column `j` of block `n`. -/
def bandValue (b : Fin 16) (n : Fin 32) (h : Fin 16) (d : Fin 64) (j : Fin 384) : EReal :=
  blocks (vals (joined x0 x2)) (ix5 b ⟨n + 1 + j / 128, by omega⟩ ⟨j % 128, by omega⟩ ⟨h / 4, by omega⟩ d)

theorem bandValue_live (b : Fin 16) (n : Fin 32) (i : Fin 128) (h : Fin 16) (d : Fin 64) (j : Fin 384) (hl : Live n i j) :
    bandValue x0 x2 b n h d j = value x0 b n i h j hl d :=
  values_band x0 x2 b n i _ d j _ _ hl (by simp only; omega)

/-- The reference's scores are the specification's. -/
theorem score_at (b : Fin 16) (n : Fin 32) (i : Fin 128) (h : Fin 16) (j : Fin 401) (n' : Fin 33) (u g : Fin 4)
    (hn : (n' : Nat) = n + 1) (hu : (u : Nat) = h / 4) (hg : (g : Nat) = h % 4) :
    scoresOf (queries (joined x0 x2)) (keys x1 x2) (blocks (keys x1 x2)) x3 (ix6 b n' u g i j) =
      score x0 x1 x2 x3 b n i h j := by
  have en : n' = ⟨n + 1, by omega⟩ := Fin.ext hn
  have eu : u = ⟨h / 4, by omega⟩ := Fin.ext hu
  have eg : g = ⟨h % 4, by omega⟩ := Fin.ext hg
  have hq : ∀ d, queries (joined x0 x2) (ix6 b n' i u g d) = query x0 b n i h d := fun d => by
    rw [en, eu, eg]; exact query_at x0 x2 b n i h d
  unfold score
  by_cases h1 : (j : Nat) < 384
  · rw [if_pos h1]
    by_cases hl : Live n i j
    · rw [dif_pos hl, scores_at x3 _ _ _ b n' i u g j n h hn (by omega) _ (fun d => key x1 b n i h j hl d) hq
        (fun _ _ m r d hm => (keys_band x1 x2 b n i u d j m r hl hm).trans (by rw [eu]; rfl)) (fun h0 => absurd h1 (by omega)), if_pos h1, if_pos hl]
    · rw [dif_neg hl, scores_at x3 _ _ _ b n' i u g j n h hn (by omega) _ (fun _ => 0) hq
        (fun _ h0 => absurd h0 hl) (fun h0 => absurd h1 (by omega)), if_pos h1, if_neg hl]
  · rw [if_neg h1]
    by_cases hm : (j : Nat) - 384 < 16
    · rw [dif_pos hm, scores_at x3 _ _ _ b n' i u g j n h hn (by omega) _ (fun d => metaKey x2 b h ⟨j - 384, hm⟩ d) hq
        (fun h0 => absurd h0 h1) (fun _ p d hp _ => (keys_meta x1 x2 b p u d ⟨j - 384, hm⟩ hp).trans (by rw [eu]; rfl)), if_neg h1, if_pos hm]
    · rw [dif_neg hm, scores_at x3 _ _ _ b n' i u g j n h hn (by omega) _ (fun _ => 0) hq
        (fun h0 => absurd h0 h1) (fun _ _ _ _ h0 => absurd h0 hm), if_neg h1, if_neg hm]

/-- An entry of the reference: the weighted values. -/
theorem attention_at (b : Fin 16) (n : Fin 32) (i : Fin 128) (h : Fin 16) (d : Fin 64) (r : Fin 65536) (c : Fin 1024)
    (hr : (r : Nat) = 4096 * b + 128 * n + i) (hc : (c : Nat) = 64 * h + d) :
    attention x0 x1 x2 x3 (ix2 r c) =
      (∑ j : Fin 384, weight (score x0 x1 x2 x3 b n i h) ⟨j, by omega⟩ * bandValue x0 x2 b n h d j) +
      ∑ m : Fin 16, weight (score x0 x1 x2 x3 b n i h) ⟨384 + m, by omega⟩ * metaValue x2 b h m d := by
  have hs : ∀ j, weightsOf (exps (scoresOf (queries (joined x0 x2)) (keys x1 x2) (blocks (keys x1 x2)) x3))
      (ix6 b ⟨n + 1, by omega⟩ ⟨h / 4, by omega⟩ ⟨h % 4, by omega⟩ i j) = weight (score x0 x1 x2 x3 b n i h) j := fun j => by
    rw [weight_at]
    exact congrArg (fun f => weight f j) (funext fun k => score_at x0 x1 x2 x3 b n i h k _ _ _ rfl rfl rfl)
  unfold attention
  rw [output_at _ _ _ r c b ⟨n + 1, by omega⟩ n i ⟨h / 4, by omega⟩ ⟨h % 4, by omega⟩ d rfl hr (by simp only; omega)]
  refine congrArg₂ (· + ·) (Finset.sum_congr rfl fun j _ => ?_) (Finset.sum_congr rfl fun m _ => ?_)
  · rw [hs]; rfl
  · rw [hs, values_meta x0 x2 b _ _ d m rfl]; rfl

end Cert.ReferenceIdeal.Attention

end
-- ==== Proof.Attention.RefRun.lean ====
/- The reference's run: it ends, its result is `attention` of its arguments, and its arguments are unchanged. -/
module

public import proofs.«01_k».proof.Proof.Gen.ReferenceIdeal.Run
public import proofs.«01_k».proof.Proof.Attention.RefValue
public import Idealize.ShloMosaic.Lib.Claim

@[expose] public section

set_option maxRecDepth 16384

noncomputable section

namespace Cert.ReferenceIdeal.Attention

open Idealize.ShloMosaic Idealize.ShloMosaic.TcCoe Idealize.SL.Sem
open Cert.ReferenceIdeal Cert.ReferenceIdeal.Gen

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v134) = attention (m ((c.tc : Thread nD τ).loc main_arg0)) (m ((c.tc : Thread nD τ).loc main_arg1))
        (m ((c.tc : Thread nD τ).loc main_arg2)) (m ((c.tc : Thread nD τ).loc main_arg3)) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) :=
  (θ_run defs _ _).mono (fun _ h c => ⟨(h c).1, (h c).2⟩) (Value.run m ρ)

end Cert.ReferenceIdeal.Attention

end
-- ==== Proof.Attention.Tile.lean ====
/- What the attention body computes for one block of 128 queries and one group of four heads that share their keys:
   entry `(i, c)` of the tile is the softmax-weighted mean of the values' lane `c % 64` over 512 columns, under the scores
   of the head `c / 64` of the group. -/
module

public import proofs.«01_k».proof.Proof.Gen.KernelIdeal.Skeleton
public import proofs.«01_k».proof.Proof.Attention.Softmax
public import Idealize.ShloMosaic.Lib.Pointwise
public import Idealize.ShloMosaic.Lib.WordCmp

@[expose] public section

set_option maxRecDepth 16384

noncomputable section

namespace Cert.KernelIdeal.Attention

open Idealize.ShloMosaic Idealize.ShloMosaic.TcCoe Idealize.SL.Sem
open Cert.KernelIdeal Cert.KernelIdeal.Gen Cert.Attention

/-! ## The four heads' queries, stacked, each with zeros in the half of the lanes that is not its own -/

/-- The four heads' rows: heads 0 and 1 in `q0`, 2 and 3 in `q1`, the even ones in the low half of the lanes. -/
def stacked (q0 q1 : Vec Ideal S128x128 .bf16) : FVec Ideal S512x128 .bf16 :=
  concatenate S512x128 0 [⟨S128x128, k0_pay7 q0⟩, ⟨S128x128, k0_pay8 q0⟩, ⟨S128x128, k0_pay7 q1⟩, ⟨S128x128, k0_pay8 q1⟩]
    concatenates_S128x128_S128x128_S128x128_S128x128_S512x128_d0

/-- The stacked queries' scores against the 512 columns, with the position bias. -/
def raw (q : FVec Ideal S512x128 .bf16) (k : FVec Ideal S128x512 .bf16) (bias : Vec Ideal S1x1x512x512 .f32) :
    FVec Ideal S512x512 .f32 :=
  addf (matmul dot_S512x128_S128x512_S512x512_1_0_0_1_n_n none q k (constant S512x512 .f32 0x00000000#32))
    (shapeCast S512x512 bias shapeCasts_S1x1x512x512_S512x512)

/-- The fourth slice of the scores, the meta tokens' and the sink's, shifted by the block's distance from the start. -/
def far (blk : Ideal .f32) (sc : FVec Ideal S512x512 .f32) (shift : Vec Ideal S1x512x128 .f32) : FVec Ideal S512x128 .f32 :=
  subf (extractStridedSlice S512x128 ![0, 384] sc slices_S512x512_o0_384_S512x128)
    (mulf (shapeCast S512x128 shift shapeCasts_S1x512x128_S512x128) (broadcast S512x128 blk))

/-- Each row's largest score, from the four slices of 128 columns. -/
def top (s0 s1 s2 s3 : FVec Ideal S512x128 .f32) : FVec Ideal S512x128 .f32 :=
  broadcastTo S512x128 (shapeCast S512x1 (multiReduction .maximumf [1] S512 (maximumf (maximumf s0 s1) (maximumf s2 s3))
    0xFF800000#32 reduces_S512x128_S512 (.inl rfl) rfl) shapeCasts_S512_S512x1) broadcasts_S512x1_S512x128

/-- The unnormalised weights' product with the values (their high lanes being ones, this holds the weights' sums too). -/
def spread (s0 s1 s2 s3 m : FVec Ideal S512x128 .f32) (v : FVec Ideal S512x128 .bf16) : FVec Ideal S512x128 .f32 :=
  matmul dot_S512x512_S512x128_S512x128_1_0_0_1_n_n none
    (truncf .bf16 (concatenate S512x512 1 [⟨S512x128, exp (subf s0 m)⟩, ⟨S512x128, exp (subf s1 m)⟩,
      ⟨S512x128, exp (subf s2 m)⟩, ⟨S512x128, exp (subf s3 m)⟩] concatenates_S512x128_S512x128_S512x128_S512x128_S512x512_d1)
      bitsLt_bf16_f32) v (constant S512x128 .f32 0x00000000#32)

/-- `spread` of the scores `sc`, sliced. -/
def weigh (blk : Ideal .f32) (sc : FVec Ideal S512x512 .f32) (shift : Vec Ideal S1x512x128 .f32)
    (v : FVec Ideal S512x128 .bf16) : FVec Ideal S512x128 .f32 :=
  have s0 := extractStridedSlice S512x128 ![0, 0] sc slices_S512x512_o0_0_S512x128
  have s1 := extractStridedSlice S512x128 ![0, 128] sc slices_S512x512_o0_128_S512x128
  have s2 := extractStridedSlice S512x128 ![0, 256] sc slices_S512x512_o0_256_S512x128
  spread s0 s1 s2 (far blk sc shift) (top s0 s1 s2 (far blk sc shift)) v

/-- The tile from the products: the even heads' means in the low lanes, the odd heads' in the high ones. -/
def settle (o : FVec Ideal S512x128 .f32) : FVec Ideal S128x256 .bf16 :=
  have o' := dynamicRotate 1 64#32 none o rotates_S512x128_d1
  have low : IVec S128x128 1 := broadcastTo S128x128 (shapeCast S1x128 k0_pay1 shapeCasts_S1x128_S1x128) broadcasts_S1x128_S128x128
  truncf .bf16 (concatenate S128x256 1 [
    ⟨S128x128, select low
      (divf (extractStridedSlice S128x128 ![0, 0] o slices_S512x128_o0_0_S128x128) (extractStridedSlice S128x128 ![0, 0] o' slices_S512x128_o0_0_S128x128))
      (divf (extractStridedSlice S128x128 ![128, 0] o' slices_S512x128_o128_0_S128x128) (extractStridedSlice S128x128 ![128, 0] o slices_S512x128_o128_0_S128x128))⟩,
    ⟨S128x128, select low
      (divf (extractStridedSlice S128x128 ![256, 0] o slices_S512x128_o256_0_S128x128) (extractStridedSlice S128x128 ![256, 0] o' slices_S512x128_o256_0_S128x128))
      (divf (extractStridedSlice S128x128 ![384, 0] o' slices_S512x128_o384_0_S128x128) (extractStridedSlice S128x128 ![384, 0] o slices_S512x128_o384_0_S128x128))⟩]
    concatenates_S128x128_S128x128_S128x256_d1) bitsLt_bf16_f32

/-- The tile of one block of queries and one group of heads, from the tiles of keys and values that its body loads. -/
def tile (blk : Ideal .f32) (vp vo vn : Vec Ideal S128x128 .bf16) (vm : Vec Ideal S16x128 .bf16)
    (kp ko kn : Vec Ideal S64x128 .bf16) (km : Vec Ideal S1x64x128 .bf16) (q0 q1 : Vec Ideal S128x128 .bf16)
    (bias : Vec Ideal S1x1x512x512 .f32) (shift : Vec Ideal S1x512x128 .f32) : FVec Ideal S128x256 .bf16 :=
  settle (weigh blk (raw (stacked q0 q1) (k0_pay6 kp ko kn km) bias) shift (k0_pay5 vp vo vn vm))

/-! ## Read at an index -/

/-- The select by the lane's half. -/
theorem half_select {α : Type} (l : Nat) (hl : l < 128) (a b : α) :
    Scalar.select (IntOp.cmpi CmpIPredicate.slt (BitVec.ofNat 32 l) 64#32) a b = if l < 64 then a else b := by
  rw [WordCmp.cmpi_slt_ofNat (by omega) (by omega)]
  by_cases h : l < 64 <;> simp [Scalar.select, h]

/-- A row of 512 entries made of four rows of 128. -/
def four {α : Type} (a b c d : Fin 128 → α) (j : Fin 512) : α :=
  if h : (j : Nat) < 128 then a ⟨j, h⟩
  else if h : (j : Nat) - 128 < 128 then b ⟨j - 128, h⟩
  else if h : (j : Nat) - 128 - 128 < 128 then c ⟨j - 128 - 128, h⟩
  else d ⟨j - 128 - 128 - 128, by omega⟩

/-- Four rows' maximum, taken lane by lane first, is the whole row's. -/
theorem sup_four (a b c d : Fin 128 → EReal) :
    (Finset.univ.sup fun x => max (max (a x) (b x)) (max (c x) (d x))) = Finset.univ.sup (four a b c d) := by
  apply le_antisymm
  · refine Finset.sup_le fun x _ => ?_
    have h : ∀ j : Fin 512, four a b c d j ≤ Finset.univ.sup (four a b c d) := fun j => Finset.le_sup (Finset.mem_univ j)
    have ha := h ⟨x, by omega⟩
    have hb := h ⟨x + 128, by omega⟩
    have hc := h ⟨x + 128 + 128, by omega⟩
    have hd := h ⟨x + 128 + 128 + 128, by omega⟩
    have n (y : Nat) : ¬ y + 128 < 128 := by omega
    simp only [four, x.isLt, n, Nat.add_sub_cancel, ↓reduceDIte, Fin.eta] at ha hb hc hd
    exact max_le (max_le ha hb) (max_le hc hd)
  · refine Finset.sup_le fun j _ => ?_
    have h : ∀ x : Fin 128, max (max (a x) (b x)) (max (c x) (d x)) ≤ Finset.univ.sup fun x => max (max (a x) (b x)) (max (c x) (d x)) :=
      fun x => Finset.le_sup (f := fun x => max (max (a x) (b x)) (max (c x) (d x))) (Finset.mem_univ x)
    unfold four
    split_ifs
    · exact ((le_max_left _ _).trans (le_max_left _ _)).trans (h _)
    · exact ((le_max_right _ _).trans (le_max_left _ _)).trans (h _)
    · exact ((le_max_left _ _).trans (le_max_right _ _)).trans (h _)
    · exact ((le_max_right _ _).trans (le_max_right _ _)).trans (h _)

/-- Row `r` of the stacked queries: head `r / 128`'s query in its half of the lanes, zeros in the other. -/
theorem stacked_at (q0 q1 : Vec Ideal S128x128 .bf16) (r : Fin 512) (l : Fin 128) :
    stacked q0 q1 (ix2 r l) = if (l : Nat) < 64 ↔ (r : Nat) / 128 % 2 = 0 then
      (if (r : Nat) < 256 then q0 else q1) (ix2 ⟨r % 128, Nat.mod_lt _ (by decide)⟩ l) else 0 := by
  pointwise [stacked, k0_pay7, k0_pay8, k0_pay1, k0_pay3]
  simp only [half_select _ l.isLt]
  by_cases h1 : (r : Nat) < 128
  · have : (r : Nat) / 128 = 0 := by omega
    simp only [h1, this, show (r : Nat) < 256 by omega, ↓reduceDIte, ↓reduceIte, iff_true]
    refine if_congr Iff.rfl (congrArg (fun a => q0 (ix2 a l)) (Fin.ext ?_)) rfl
    dsimp only
    omega
  · by_cases h2 : (r : Nat) - 128 < 128
    · have : (r : Nat) / 128 = 1 := by omega
      simp only [h1, h2, this, show (r : Nat) < 256 by omega, ↓reduceDIte, ↓reduceIte, Nat.one_mod, one_ne_zero, iff_false, ite_not]
      refine if_congr Iff.rfl rfl (congrArg (fun a => q0 (ix2 a l)) (Fin.ext ?_))
      dsimp only
      omega
    · by_cases h3 : (r : Nat) - 128 - 128 < 128
      · have : (r : Nat) / 128 = 2 := by omega
        simp only [h1, h2, h3, this, show ¬ (r : Nat) < 256 by omega, ↓reduceDIte, ↓reduceIte, Nat.mod_self, iff_true]
        refine if_congr Iff.rfl (congrArg (fun a => q1 (ix2 a l)) (Fin.ext ?_)) rfl
        dsimp only
        omega
      · have : (r : Nat) / 128 = 3 := by omega
        simp only [h1, h2, h3, this, show ¬ (r : Nat) < 256 by omega, ↓reduceDIte, ↓reduceIte, Nat.reduceMod, one_ne_zero, iff_false, ite_not]
        refine if_congr Iff.rfl rfl (congrArg (fun a => q1 (ix2 a l)) (Fin.ext ?_))
        dsimp only
        omega

theorem raw_at (q : FVec Ideal S512x128 .bf16) (k : FVec Ideal S128x512 .bf16) (bias : Vec Ideal S1x1x512x512 .f32)
    (r j : Fin 512) : raw q k bias (ix2 r j) = (∑ l : Fin 128, q (ix2 r l) * k (ix2 l j)) + bias (ix4 0 0 r j) := by
  pointwise [raw]

/-- Lane `l` of the keys, the same in both halves of the lanes. -/
theorem keys_at (kp ko kn : Vec Ideal S64x128 .bf16) (km : Vec Ideal S1x64x128 .bf16) (l : Fin 128) (d : Fin 64) (j : Fin 512)
    (h : (l : Nat) = d ∨ (l : Nat) = 64 + d) :
    k0_pay6 (F := Ideal) kp ko kn km (ix2 l j) =
      four (fun x => kp (ix2 d x)) (fun x => ko (ix2 d x)) (fun x => kn (ix2 d x)) (fun x => km (ix3 0 d x)) j := by
  pointwise [k0_pay6, four]
  rcases h with h | h
  · simp only [h, d.isLt, ↓reduceDIte, Fin.eta]
  · simp only [h, show ¬ 64 + (d : Nat) < 64 by omega, Nat.add_sub_cancel_left, ↓reduceDIte, Fin.eta]

/-- The values' low lanes hold the values, zeros below the meta tokens; the high lanes hold ones. -/
theorem values_low (vp vo vn : Vec Ideal S128x128 .bf16) (vm : Vec Ideal S16x128 .bf16) (j : Fin 512) (l : Fin 128)
    (hl : (l : Nat) < 64) : k0_pay5 (F := Ideal) vp vo vn vm (ix2 j l) =
      four (fun x => vp (ix2 x l)) (fun x => vo (ix2 x l)) (fun x => vn (ix2 x l))
        (fun x => if h : (x : Nat) < 16 then vm (ix2 ⟨x, h⟩ l) else 0) j := by
  pointwise [k0_pay5, k0_pay1, k0_pay2, four]
  rw [half_select _ l.isLt, if_pos hl]

theorem values_high (vp vo vn : Vec Ideal S128x128 .bf16) (vm : Vec Ideal S16x128 .bf16) (j : Fin 512) (l : Fin 128)
    (hl : ¬ (l : Nat) < 64) : k0_pay5 (F := Ideal) vp vo vn vm (ix2 j l) = 1 := by
  pointwise [k0_pay5, k0_pay1, k0_pay2]
  rw [half_select _ l.isLt, if_neg hl]

/-- One head's scores of the 512 columns, from its query `q` (64 lanes). -/
def scores (blk : Ideal .f32) (q : Fin 64 → EReal) (k : Fin 64 → Fin 512 → EReal) (bias : Fin 512 → EReal)
    (shift : Fin 128 → EReal) : Fin 512 → EReal :=
  four (fun x => (∑ d, q d * k d ⟨x, by omega⟩) + bias ⟨x, by omega⟩)
    (fun x => (∑ d, q d * k d ⟨128 + x, by omega⟩) + bias ⟨128 + x, by omega⟩)
    (fun x => (∑ d, q d * k d ⟨256 + x, by omega⟩) + bias ⟨256 + x, by omega⟩)
    (fun x => (∑ d, q d * k d ⟨384 + x, by omega⟩) + bias ⟨384 + x, by omega⟩ - shift x * blk)

/-- Row `r`, lane `l` of the weighted values, for a score table `sc` whose row is `a, b, c` and, unshifted, `d`. -/
theorem weigh_at (blk : Ideal .f32) (sc : FVec Ideal S512x512 .f32) (shift : Vec Ideal S1x512x128 .f32)
    (v : FVec Ideal S512x128 .bf16) (r : Fin 512) (l : Fin 128) (s : Fin 512 → EReal)
    (hs : s = four (fun x => sc (ix2 r ⟨x, by omega⟩)) (fun x => sc (ix2 r ⟨128 + x, by omega⟩)) (fun x => sc (ix2 r ⟨256 + x, by omega⟩))
      (fun x => sc (ix2 r ⟨384 + x, by omega⟩) - shift (ix3 0 r x) * blk)) :
    weigh blk sc shift v (ix2 r l) = ∑ j, Ideal.exp (s j - Finset.univ.sup s) * v (ix2 j l) := by
  have bot : Ideal.ofBits FTy.f32 4286578688#32 = ⊥ := by rfl
  pointwise [weigh, spread, top, far]
  rw [bot, hs, ← sup_four]
  refine Finset.sum_congr rfl fun j _ => congrArg (· * _) ?_
  unfold four
  split_ifs <;> rfl

/-- Entry `(i, c)` of the settled tile: head `c / 64`'s weighted values over the sum of its weights. -/
theorem settle_at (o : FVec Ideal S512x128 .f32) (i : Fin 128) (c : Fin 256) :
    settle o (ix2 i c) = Ideal.div (o (ix2 ⟨128 * (c / 64) + i, by omega⟩ ⟨c % 64, by omega⟩))
      (o (ix2 ⟨128 * (c / 64) + i, by omega⟩ ⟨64 + c % 64, by omega⟩)) := by
  pointwise [settle, k0_pay1]
  have e (a b a' b' : Nat) (ha : a < 512) (hb : b < 128) (ha' : a' < 512) (hb' : b' < 128) (h : a = a') (h' : b = b') :
      o (ix2 ⟨a, ha⟩ ⟨b, hb⟩) = o (ix2 ⟨a', ha'⟩ ⟨b', hb'⟩) := by subst h h'; rfl
  have hc := c.isLt
  by_cases h1 : (c : Nat) < 128
  · rw [dif_pos h1, half_select _ h1]
    by_cases h2 : (c : Nat) < 64
    · have h0 : (c : Nat) / 64 = 0 := by omega
      rw [if_pos h2]
      exact congrArg₂ _ (e _ _ _ _ _ _ _ _ (by omega) (by omega)) (e _ _ _ _ _ _ _ _ (by omega) (by omega))
    · have h0 : (c : Nat) / 64 = 1 := by omega
      rw [if_neg h2]
      exact congrArg₂ _ (e _ _ _ _ _ _ _ _ (by omega) (by omega)) (e _ _ _ _ _ _ _ _ (by omega) (by omega))
  · rw [dif_neg h1, half_select _ (by omega)]
    by_cases h2 : (c : Nat) - 128 < 64
    · have h0 : (c : Nat) / 64 = 2 := by omega
      rw [if_pos h2]
      exact congrArg₂ _ (e _ _ _ _ _ _ _ _ (by omega) (by omega)) (e _ _ _ _ _ _ _ _ (by omega) (by omega))
    · have h0 : (c : Nat) / 64 = 3 := by omega
      rw [if_neg h2]
      exact congrArg₂ _ (e _ _ _ _ _ _ _ _ (by omega) (by omega)) (e _ _ _ _ _ _ _ _ (by omega) (by omega))

/-- The sum over 128 lanes of which the other head's half is zero. -/
theorem sum_half (p : Prop) [Decidable p] (q : Fin 128 → EReal) (k : Fin 128 → EReal) (q' k' : Fin 64 → EReal)
    (hq : ∀ d : Fin 64, q' d = q (if p then ⟨d, by omega⟩ else ⟨64 + d, by omega⟩))
    (hk : ∀ d : Fin 64, k' d = k (if p then ⟨d, by omega⟩ else ⟨64 + d, by omega⟩)) :
    (∑ l : Fin 128, (if (l : Nat) < 64 ↔ p then q l else 0) * k l) = ∑ d, q' d * k' d := by
  rw [Fin.sum_univ_two_halves 64 64 rfl]
  have n (d : Fin 64) : ¬ 64 + (d : Nat) < 64 := by omega
  by_cases hp : p
  · simp [hp, n, hq, hk]
  · simp [hp, n, hq, hk]

/-- Entry `(i, c)` of the tile: the mean of the values' lane `c % 64` under the scores of head `c / 64`. -/
theorem tile_at (blk : Ideal .f32) (vp vo vn : Vec Ideal S128x128 .bf16) (vm : Vec Ideal S16x128 .bf16)
    (kp ko kn : Vec Ideal S64x128 .bf16) (km : Vec Ideal S1x64x128 .bf16) (q0 q1 : Vec Ideal S128x128 .bf16)
    (bias : Vec Ideal S1x1x512x512 .f32) (shift : Vec Ideal S1x512x128 .f32) (i : Fin 128) (c : Fin 256) :
    tile blk vp vo vn vm kp ko kn km q0 q1 bias shift (ix2 i c) =
      mean (scores blk (fun d => (if (c : Nat) / 64 < 2 then q0 else q1) (ix2 i ⟨64 * (c / 64 % 2) + d, by omega⟩))
          (fun d => four (fun x => kp (ix2 d x)) (fun x => ko (ix2 d x)) (fun x => kn (ix2 d x)) (fun x => km (ix3 0 d x)))
          (fun j => bias (ix4 0 0 ⟨128 * (c / 64) + i, by omega⟩ j))
          (fun x => shift (ix3 0 ⟨128 * (c / 64) + i, by omega⟩ x)))
        (four (fun x => vp (ix2 x ⟨c % 64, by omega⟩)) (fun x => vo (ix2 x ⟨c % 64, by omega⟩))
          (fun x => vn (ix2 x ⟨c % 64, by omega⟩))
          (fun x => if h : (x : Nat) < 16 then vm (ix2 ⟨x, h⟩ ⟨c % 64, by omega⟩) else 0)) := by
  have hc := c.isLt
  have key : ∀ j : Fin 512, raw (stacked q0 q1) (k0_pay6 kp ko kn km) bias (ix2 ⟨128 * (c / 64) + i, by omega⟩ j) =
      (∑ d : Fin 64, (if (c : Nat) / 64 < 2 then q0 else q1) (ix2 i ⟨64 * (c / 64 % 2) + d, by omega⟩) *
        four (fun x => kp (ix2 d x)) (fun x => ko (ix2 d x)) (fun x => kn (ix2 d x)) (fun x => km (ix3 0 d x)) j) +
      bias (ix4 0 0 ⟨128 * (c / 64) + i, by omega⟩ j) := fun j => by
    rw [raw_at]
    refine congrArg (· + _) ?_
    simp only [stacked_at]
    refine sum_half _ (fun l => _) (fun l => k0_pay6 kp ko kn km (ix2 l j)) _ _ (fun d => ?_) (fun d => ?_)
    · have hi : (128 * ((c : Nat) / 64) + i) % 128 = i := by omega
      have h2 : 128 * ((c : Nat) / 64) + i < 256 ↔ (c : Nat) / 64 < 2 := by omega
      have h3 : (128 * ((c : Nat) / 64) + i) / 128 % 2 = (c : Nat) / 64 % 2 := by omega
      simp only [hi, h2, h3, Fin.eta]
      refine congrArg (fun l => (if (c : Nat) / 64 < 2 then q0 else q1) (ix2 i l)) (Fin.ext ?_)
      split_ifs <;> simp only <;> omega
    · refine (keys_at kp ko kn km _ d j ?_).symm
      split_ifs <;> simp
  let sc := raw (stacked q0 q1) (k0_pay6 kp ko kn km) bias
  have hs : scores blk (fun d => (if (c : Nat) / 64 < 2 then q0 else q1) (ix2 i ⟨64 * (c / 64 % 2) + d, by omega⟩))
      (fun d => four (fun x => kp (ix2 d x)) (fun x => ko (ix2 d x)) (fun x => kn (ix2 d x)) (fun x => km (ix3 0 d x)))
      (fun j => bias (ix4 0 0 ⟨128 * (c / 64) + i, by omega⟩ j)) (fun x => shift (ix3 0 ⟨128 * (c / 64) + i, by omega⟩ x)) =
      four (fun x => sc (ix2 ⟨128 * (c / 64) + i, by omega⟩ ⟨x, by omega⟩))
        (fun x => sc (ix2 ⟨128 * (c / 64) + i, by omega⟩ ⟨128 + x, by omega⟩))
        (fun x => sc (ix2 ⟨128 * (c / 64) + i, by omega⟩ ⟨256 + x, by omega⟩))
        (fun x => sc (ix2 ⟨128 * (c / 64) + i, by omega⟩ ⟨384 + x, by omega⟩) - shift (ix3 0 ⟨128 * (c / 64) + i, by omega⟩ x) * blk) := by
    simp only [sc, key]
    rfl
  rw [tile, settle_at, weigh_at _ _ _ _ _ _ _ hs, weigh_at _ _ _ _ _ _ _ hs]
  refine congrArg₂ Ideal.div (Finset.sum_congr rfl fun j _ => congrArg (_ * ·) (values_low _ _ _ _ _ _ ?_))
    (Finset.sum_congr rfl fun j _ => ?_)
  · exact Nat.mod_lt _ (by decide)
  · rw [values_high _ _ _ _ _ _ (by simp), mul_one]

end Cert.KernelIdeal.Attention

end
-- ==== Proof.Attention.TableTerms.lean ====
/- The host's tables that the call reads: the position bias, the meta tokens' shift and their transposed keys, as terms of the
   arguments. -/
module

public import proofs.«01_k».proof.Proof.Gen.KernelIdeal.Frame
public import proofs.«01_k».proof.Proof.Attention.Spec
public import Idealize.ShloMosaic.Lib.Claim
public import Idealize.ShloMosaic.Lib.StableHlo.RunRead

@[expose] public section

set_option maxRecDepth 16384

noncomputable section

namespace Cert.KernelIdeal.Attention

open Idealize.ShloMosaic Idealize.ShloMosaic.TcCoe Idealize.SL.Sem
open Idealize.ShloMosaic.Pipeline (Dat)
open Cert.KernelIdeal Cert.KernelIdeal.Gen Cert.Attention

/-- The table's columns and rows, counted. -/
def col : IVec S1x512 32 := broadcastInDim S1x512 ![1] bcast_S512_S1x512_1 (iotaInDim S512 32 0)
def row : IVec S128x1 32 := broadcastInDim S128x1 ![0] bcast_S128_S128x1_0 (iotaInDim S128 32 0)

/-- One number at every column, and at every place. -/
def cols (k : BitVec 32) : IVec S1x512 32 := broadcastInDim S1x512 ![] bcast_S_S1x512 (constantI S_ 32 k)
def all (k : BitVec 32) : IVec S128x512 32 := broadcastInDim S128x512 ![] bcast_S_S128x512 (constantI S_ 32 k)

/-- The heads' slopes. -/
def slopesK : FVec Ideal S16 .f32 :=
  Host.exp (mulf (broadcastInDim S16 ![] bcast_S_S16 (constant S_ .f32 0x3F317218#32))
    (Host.divf (mulf (broadcastInDim S16 ![] bcast_S_S16 (constant S_ .f32 0xC1000000#32))
      (addf (broadcastInDim S16 ![] bcast_S_S16 (constant S_ .f32 0x3F800000#32)) (sitofp .f32 (iotaInDim S16 32 0))))
      (broadcastInDim S16 ![] bcast_S_S16 (constant S_ .f32 0x41800000#32))))

/-- The distance of a band column from a row. -/
def colDist : IVec S128x512 32 :=
  absi (subi (broadcastInDim S128x512 ![0, 1] bcast_S1x512_S128x512_0_1 (subi col (cols 128#32)))
    (broadcastInDim S128x512 ![0, 1] bcast_S128x1_S128x512_0_1 row))

/-- Which of the three neighbouring blocks a column is of. -/
def third : IVec S1x512 32 :=
  select (andi (cmpi .ne (signi col) (broadcastInDim S1x512 ![] bcast_S_S1x512 (signi (constantI S_ 32 128#32))))
      (cmpi .ne (Host.remsi col (cols 128#32)) (cols 0#32)))
    (subi (Host.divsi col (cols 128#32)) (cols 1#32)) (Host.divsi col (cols 128#32))

/-- The band's places, the meta tokens' columns, the sink's column. -/
def inBand : IVec S128x512 1 :=
  andi (broadcastInDim S128x512 ![0, 1] bcast_S1x512_S128x512_0_1 (cmpi .slt col (cols 384#32))) (cmpi .sle colDist (all 128#32))
def metaCol : IVec S1x512 1 := andi (cmpi .sge col (cols 384#32)) (cmpi .slt col (cols 400#32))
def sinkCol : IVec S1x512 1 := cmpi .eq col (cols 400#32)

/-- The band without the blocks of number `k`. -/
def without (k : BitVec 32) : IVec S128x512 1 :=
  andi inBand (broadcastInDim S128x512 ![0, 1] bcast_S1x512_S128x512_0_1 (cmpi .ne third (cols k)))

/-- The distance of a meta token from a row of the first block. -/
def metaDist : IVec S128x512 32 :=
  subi (broadcastInDim S128x512 ![0, 1] bcast_S128x1_S128x512_0_1
      (addi (broadcastInDim S128x1 ![] bcast_S_S128x1 (constantI S_ 32 16#32)) row))
    (broadcastInDim S128x512 ![0, 1] bcast_S1x512_S128x512_0_1 (subi col (cols 384#32)))

/-- The distance behind a table's entry. -/
def entryDist (ok : IVec S128x512 1) : IVec S128x512 32 :=
  select ok colDist (select (broadcastInDim S128x512 ![0, 1] bcast_S1x512_S128x512_0_1 metaCol) metaDist (all 0#32))

/-- The table of the places `ok` of the band: a slope times a distance, the sink's score, and `⊥` elsewhere. -/
def table (ok : IVec S128x512 1) (x3 : FVec Ideal S1x16 .f32) : FVec Ideal S16x128x512 .f32 :=
  select (broadcastInDim S16x128x512 ![0, 1, 2] bcast_S1x1x512_S16x128x512_0_1_2 (broadcastInDim S1x1x512 ![1, 2] bcast_S1x512_S1x1x512_1_2 sinkCol))
    (broadcastInDim S16x128x512 ![0, 1, 2] bcast_S16x1x1_S16x128x512_0_1_2
      (broadcastInDim S16x1x1 ![0] bcast_S16_S16x1x1_0 (shapeCast S16 x3 shapeCasts_S1x16_S16)))
    (select (broadcastInDim S16x128x512 ![0, 1, 2] bcast_S1x128x512_S16x128x512_0_1_2
        (broadcastInDim S1x128x512 ![1, 2] bcast_S128x512_S1x128x512_1_2
          (ori ok (broadcastInDim S128x512 ![0, 1] bcast_S1x512_S128x512_0_1 metaCol))))
      (mulf (broadcastInDim S16x128x512 ![0, 1, 2] bcast_S16x1x1_S16x128x512_0_1_2
          (Host.negf (broadcastInDim S16x1x1 ![0] bcast_S16_S16x1x1_0 slopesK)))
        (broadcastInDim S16x128x512 ![0, 1, 2] bcast_S1x128x512_S16x128x512_0_1_2
          (broadcastInDim S1x128x512 ![1, 2] bcast_S128x512_S1x128x512_1_2 (sitofp .f32 (entryDist ok)))))
      (broadcastInDim S16x128x512 ![] bcast_S_S16x128x512 (constant S_ .f32 0xFF800000#32)))

/-- The three tables, stacked. -/
def stack (t0 t1 t2 : FVec Ideal S16x128x512 .f32) : FVec Ideal S3x4x512x512 .f32 :=
  shapeCast _ (concatenate S3x16x128x512 0
    [⟨S1x16x128x512, broadcastInDim S1x16x128x512 ![1, 2, 3] bcast_S16x128x512_S1x16x128x512_1_2_3 t0⟩,
     ⟨S1x16x128x512, broadcastInDim S1x16x128x512 ![1, 2, 3] bcast_S16x128x512_S1x16x128x512_1_2_3 t1⟩,
     ⟨S1x16x128x512, broadcastInDim S1x16x128x512 ![1, 2, 3] bcast_S16x128x512_S1x16x128x512_1_2_3 t2⟩]
    concatenates_S1x16x128x512_S1x16x128x512_S1x16x128x512_S3x16x128x512_d0) shapeCasts_S3x16x128x512_S3x4x512x512

/-- How much further a meta token is for the block after. -/
def shiftK : FVec Ideal S4x512x128 .f32 :=
  shapeCast _ (select (broadcastInDim S2048x128 ![0, 1] bcast_S1x128_S2048x128_0_1
      (cmpi .slt (broadcastInDim S1x128 ![1] bcast_S128_S1x128_1 (iotaInDim S128 32 0)) (broadcastInDim S1x128 ![] bcast_S_S1x128 (constantI S_ 32 16#32))))
    (broadcastInDim S2048x128 ![0, 1] bcast_S2048x1_S2048x128_0_1 (broadcastInDim S2048x1 ![0] bcast_S2048_S2048x1_0
      (shapeCast S2048 (broadcastInDim S16x128 ![0] bcast_S16_S16x128_0
        (mulf slopesK (broadcastInDim S16 ![] bcast_S_S16 (constant S_ .f32 0x43000000#32)))) shapeCasts_S16x128_S2048)))
    (broadcastInDim S2048x128 ![] bcast_S_S2048x128 (constant S_ .f32 0x00000000#32))) shapeCasts_S2048x128_S4x512x128

/-- The meta tokens' keys, transposed and padded. -/
def metaKeysK (x2 : FVec Ideal S256x1536 .bf16) : FVec Ideal S16x256x128 .bf16 :=
  pad S16x256x128 ![0, 0, 0] ![0, 0, 112] ![0, 0, 0] (transpose S16x256x16 [0, 2, 1]
    (shapeCast S16x16x256 (shapeCast S16x16x4x64 (extractStridedSlice S16x16x4x1x64 ![0, 0, 0, 1, 0]
      (shapeCast S16x16x4x2x64 (extractStridedSlice S256x512 ![0, 1024] x2 slices_S256x1536_S256x512_0_1024) shapeCasts_S256x512_S16x16x4x2x64)
      slices_S16x16x4x2x64_S16x16x4x1x64_0_0_0_1_0) shapeCasts_S16x16x4x1x64_S16x16x4x64) shapeCasts_S16x16x4x64_S16x16x256)
    transposes_S16x16x256_S16x256x16_0_2_1) (sitofp .bf16 (constantI S_ 32 0#32)) pads_S16x256x16_S16x256x128_000_000_01120 h_S_

end Cert.KernelIdeal.Attention

end
-- ==== Proof.Attention.TableReads.lean ====
/- The tables' entries, read at an index. -/
module

public import proofs.«01_k».proof.Proof.Gen.KernelIdeal.Frame
public import proofs.«01_k».proof.Proof.Attention.TableTerms
public import proofs.«01_k».proof.Proof.Attention.Spec
public import Idealize.ShloMosaic.Lib.Claim
public import Idealize.ShloMosaic.Lib.StableHlo.RunRead

@[expose] public section

set_option maxRecDepth 16384

noncomputable section

namespace Cert.KernelIdeal.Attention

open Idealize.ShloMosaic Idealize.ShloMosaic.TcCoe Idealize.SL.Sem
open Idealize.ShloMosaic.Pipeline (Dat)
open Cert.KernelIdeal Cert.KernelIdeal.Gen Cert.Attention

/-- Which neighbouring block a column is of. -/
theorem third_at (j : Fin 512) : third (ix2 0 j) = BitVec.ofNat 32 (j / 128) := by
  pointwise [third, col, cols]
  revert j
  decide +kernel

/-- The band's places. -/
theorem inBand_at (i : Fin 128) (j : Fin 512) : inBand (ix2 i j) = BitVec.ofBool (decide ((j : Nat) < 384 ∧ gap (128 + i) j ≤ 128)) := by
  pointwise [inBand, colDist, col, row, cols, all]
  have e : IntOp.absi (IntOp.subi (IntOp.subi (BitVec.ofNat 32 j) 128#32) (BitVec.ofNat 32 i)) = BitVec.ofNat 32 (gap (128 + i) j) := by
    have e0 : IntOp.subi (IntOp.subi (BitVec.ofNat 32 j) 128#32) (BitVec.ofNat 32 i) = BitVec.ofNat 32 j - BitVec.ofNat 32 (128 + i) := by
      unfold IntOp.subi; bv_omega
    rw [e0, absi_sub _ _ (by omega) (by omega)]
    unfold gap; exact congrArg _ (by omega)
  have hg : gap (128 + i) j < 2 ^ 31 := by unfold gap; omega
  rw [e, WordCmp.cmpi_slt_ofNat (by omega) (by omega), WordCmp.cmpi_sle_ofNat (by omega) (by omega), WordCmp.andi_ofBool, Bool.decide_and]

/-- The band's places without a neighbouring block. -/
theorem without_at (k : Nat) (hk : k < 512) (i : Fin 128) (j : Fin 512) : without (BitVec.ofNat 32 k) (ix2 i j) =
    BitVec.ofBool (decide (((j : Nat) < 384 ∧ gap (128 + i) j ≤ 128) ∧ (j : Nat) / 128 ≠ k)) := by
  have h1 := inBand_at i j
  have h2 := third_at j
  pointwise [without, cols]
  rw [h1, h2, WordCmp.cmpi_ne_ofNat (by omega) (by omega), WordCmp.andi_ofBool, ← Bool.decide_and]

/-- The slopes. -/
theorem slope_at (h : Fin 16) : slopesK (ix1 h) = Attention.slope h := by
  pointwise [slopesK]
  have := real_ofNat h (by omega)
  unfold Attention.slope
  rw [← this]

/-- A table's entry. -/
theorem table_at (ok : IVec S128x512 1) (x3 : FVec Ideal S1x16 .f32) (h : Fin 16) (i : Fin 128) (j : Fin 512) (p : Prop) [Decidable p]
    (hok : ok (ix2 i j) = BitVec.ofBool (decide p)) (hp : p → (j : Nat) < 384) :
    table ok x3 (ix3 h i j) = if p then -Attention.slope h * (((gap (128 + i) j : ℕ) : ℝ) : EReal)
      else if 384 ≤ (j : Nat) ∧ (j : Nat) < 400 then -Attention.slope h * (((16 + i - (j - 384) : ℕ) : ℝ) : EReal)
      else if (j : Nat) = 400 then x3 (ix2 0 h) else ⊥ := by
  have hsl : slopesK (ix1 h) = Attention.slope h := slope_at h
  have e1 : IntOp.absi (IntOp.subi (IntOp.subi (BitVec.ofNat 32 j) 128#32) (BitVec.ofNat 32 i)) = BitVec.ofNat 32 (gap (128 + i) j) := by
    have e0 : IntOp.subi (IntOp.subi (BitVec.ofNat 32 j) 128#32) (BitVec.ofNat 32 i) = BitVec.ofNat 32 j - BitVec.ofNat 32 (128 + i) := by
      unfold IntOp.subi; bv_omega
    rw [e0, absi_sub _ _ (by omega) (by omega)]
    unfold gap; exact congrArg _ (by omega)
  have hg : gap (128 + i) j < 2 ^ 31 := by unfold gap; omega
  have e2 : 384 ≤ (j : Nat) → IntOp.subi (IntOp.addi (16#32) (BitVec.ofNat 32 i)) (IntOp.subi (BitVec.ofNat 32 j) 384#32) = BitVec.ofNat 32 (16 + i - (j - 384)) ∨ 400 ≤ (j : Nat) := fun h0 => by
    by_cases h1 : (j : Nat) < 400
    · left; unfold IntOp.subi IntOp.addi; bv_omega
    · right; omega
  pointwise [table, entryDist, metaDist, metaCol, sinkCol, colDist, col, row, cols, all]
  rw [hok, hsl, e1, WordCmp.cmpi_eq_ofNat (by omega) (by omega), WordCmp.cmpi_sge_ofNat (by omega) (by omega), WordCmp.cmpi_slt_ofNat (by omega) (by omega),
    WordCmp.andi_ofBool, WordCmp.ori_ofBool]
  by_cases hp' : p
  · have := hp hp'
    rw [if_pos hp', decide_eq_true hp', decide_eq_false (show ¬ (j : Nat) = 400 by omega)]
    exact congrArg (-Attention.slope h * ·) (real_ofNat _ hg)
  · rw [if_neg hp', decide_eq_false hp']
    by_cases hm : 384 ≤ (j : Nat) ∧ (j : Nat) < 400
    · rw [if_pos hm, decide_eq_true hm.1, decide_eq_true hm.2, decide_eq_false (show ¬ (j : Nat) = 400 by omega)]
      refine congrArg (-Attention.slope h * ·) ((congrArg (FloatOps.sitofp FTy.f32) ((e2 hm.1).resolve_right (by omega))).trans (real_ofNat _ (by omega)))
    · rw [if_neg hm]
      by_cases hs : (j : Nat) = 400
      · rw [if_pos hs, decide_eq_true hs]; rfl
      · rw [if_neg hs, decide_eq_false hs]
        have : (decide (384 ≤ (j : Nat)) && decide ((j : Nat) < 400)) = false := by
          rw [← Bool.decide_and]; exact decide_eq_false hm
        rw [this]; rfl

/-- The meta tokens' keys. -/
theorem kt_at (x2 : FVec Ideal S256x1536 .bf16) (b : Fin 16) (r : Fin 256) (x : Fin 128) :
    metaKeysK x2 (ix3 b r x) = if hx : (x : Nat) < 16 then x2 (ix2 ⟨16 * b + x, by omega⟩ ⟨1024 + 128 * (r / 64) + 64 + r % 64, by omega⟩) else 0 := by
  pointwise [metaKeysK]
  split
  · exact congrArg₂ (fun s t => x2 (ix2 s t)) (Fin.ext (by simp only; omega)) (Fin.ext (by simp only; omega))
  · show (((0#32 : BitVec 32).toInt : ℝ) : EReal) = 0; simp

/-- Three constants of the tables. -/
theorem word_128 : Ideal.ofBits FTy.f32 1124073472#32 = ((128 : ℝ) : EReal) := by
  simp [Ideal.ofBits, Ideal.ieee, -EReal.coe_mul]; norm_num

theorem word_16 : Ideal.ofBits FTy.f32 1098907648#32 = ((16 : ℝ) : EReal) := by
  simp [Ideal.ofBits, Ideal.ieee, -EReal.coe_mul]; norm_num

theorem word_8 : Ideal.ofBits FTy.f32 3238002688#32 = ((-8 : ℝ) : EReal) := by
  simp [Ideal.ofBits, Ideal.ieee, -EReal.coe_mul, -EReal.coe_neg]; norm_num

theorem word_ln2 : Ideal.ofBits FTy.f32 1060205080#32 = (((11629080 : ℝ) * (2 ^ 24)⁻¹ : ℝ) : EReal) := by
  simp [Ideal.ofBits, Ideal.ieee, -EReal.coe_mul]

/-- A slope is a real number. -/
theorem slope_real (h : Nat) : ∃ r : ℝ, Attention.slope h = (r : EReal) := by
  unfold Attention.slope
  rw [word_ln2, word_8, word_16, Ideal.div_coe (by norm_num), ← EReal.coe_one, ← EReal.coe_add, ← EReal.coe_mul, ← EReal.coe_mul, ← EReal.coe_mul]
  exact ⟨_, rfl⟩

/-- The shift. -/
theorem shift_at (g : Fin 4) (r : Fin 512) (x : Fin 128) : shiftK (ix3 g r x) = if (x : Nat) < 16 then Attention.slope (4 * g + r / 128) * ((128 : ℝ) : EReal) else 0 := by
  have h0 : slopesK (ix1 ⟨(g * 512 + r) / 128, by omega⟩) = Attention.slope (4 * g + r / 128) := (slope_at _).trans (congrArg _ (by simp only; omega))
  pointwise [shiftK]
  rw [h0, WordCmp.cmpi_slt_ofNat (by omega) (by omega)]
  split
  · rename_i h
    rw [decide_eq_true h]
    refine congrArg (Attention.slope (4 * g + r / 128) * ·) ?_
    exact word_128
  · rename_i h
    rw [decide_eq_false h]; rfl

/-- The stack of three tables. -/
theorem stack_at (t0 t1 t2 : FVec Ideal S16x128x512 .f32) (k : Fin 3) (g : Fin 4) (r : Fin 512) (j : Fin 512) :
    stack t0 t1 t2 (ix4 k g r j) = (if (k : Nat) = 0 then t0 else if (k : Nat) = 1 then t1 else t2) (ix3 ⟨4 * g + r / 128, by omega⟩ ⟨r % 128, by omega⟩ j) := by
  have e : ∀ (p q : Fin 16) (u v : Fin 128) (w : Fin 512) (t : FVec Ideal S16x128x512 .f32), (p : Nat) = q → (u : Nat) = v → t (ix3 p u w) = t (ix3 q v w) := by
    intro p q u v w t h1 h2; rw [Fin.ext h1, Fin.ext h2]
  pointwise [stack]
  by_cases h0 : (k : Nat) = 0
  · rw [dif_pos (by omega), if_pos h0]
    exact e _ _ _ _ _ _ (by simp only; omega) rfl
  · rw [dif_neg (by omega), if_neg h0]
    by_cases h1 : (k : Nat) = 1
    · rw [dif_pos (by omega), if_pos h1]
      exact e _ _ _ _ _ _ (by simp only; omega) rfl
    · rw [dif_neg (by omega), if_neg h1]
      exact e _ _ _ _ _ _ (by simp only; omega) rfl

end Cert.KernelIdeal.Attention

end
-- ==== Proof.Attention.Match.lean ====
/- The kernel's 512 columns against the specification's 401 scores: a query row's mean under the tile's scores is the weighted sum
   of the band's and the meta tokens' values. -/
module

public import proofs.«01_k».proof.Proof.Attention.Tile
public import proofs.«01_k».proof.Proof.Attention.TableReads
public import proofs.«01_k».proof.Proof.Attention.Spec

@[expose] public section

set_option maxRecDepth 16384

noncomputable section

namespace Cert.KernelIdeal.Attention

open Idealize.ShloMosaic Idealize.ShloMosaic.TcCoe Idealize.SL.Sem
open Cert.KernelIdeal Cert.KernelIdeal.Gen Cert.Attention

/-! ## Finite entries -/

/-- A sum of products of reals is real. -/
theorem dot_real {n : Nat} (p q : Fin n → EReal) (hp : ∀ d, ∃ r : ℝ, p d = (r : EReal)) (hq : ∀ d, ∃ r : ℝ, q d = (r : EReal)) :
    ∃ r : ℝ, ∑ d, p d * q d = (r : EReal) := by
  choose f hf using hp
  choose g hg using hq
  refine ⟨∑ d, f d * g d, ?_⟩
  have e : ∀ d, p d * q d = ((f d * g d : ℝ) : EReal) := fun d => by rw [hf, hg, EReal.coe_mul]
  rw [Finset.sum_congr rfl fun d _ => e d]
  exact (map_sum (⟨⟨fun x : ℝ => (x : EReal), EReal.coe_zero⟩, EReal.coe_add⟩ : ℝ →+ EReal) _ _).symm

/-! ## A column of the tile's scores -/

section

variable (blk : Ideal .f32) (q : Fin 64 → EReal) (k : Fin 64 → Fin 512 → EReal) (bias : Fin 512 → EReal) (shift : Fin 128 → EReal)

theorem scores_low (j : Fin 512) (hj : (j : Nat) < 384) : scores blk q k bias shift j = (∑ d, q d * k d j) + bias j := by
  have e : ∀ (x y : Fin 512), (x : Nat) = y → (∑ d, q d * k d x) + bias x = (∑ d, q d * k d y) + bias y := fun x y h => by rw [Fin.ext h]
  unfold scores four
  split_ifs with h1 h2 h3
  · exact e _ _ rfl
  · exact e _ _ (by simp only; omega)
  · exact e _ _ (by simp only; omega)
  · omega

theorem scores_high (x : Fin 128) : scores blk q k bias shift ⟨384 + x, by omega⟩ =
    (∑ d, q d * k d ⟨384 + x, by omega⟩) + bias ⟨384 + x, by omega⟩ - shift x * blk := by
  have e : ∀ (y : Fin 128), (y : Nat) = x → (∑ d, q d * k d ⟨384 + y, by omega⟩) + bias ⟨384 + y, by omega⟩ - shift y * blk =
    (∑ d, q d * k d ⟨384 + x, by omega⟩) + bias ⟨384 + x, by omega⟩ - shift x * blk := fun y h => by rw [Fin.ext h]
  unfold scores four
  rw [dif_neg (by simp only; omega), dif_neg (by simp only; omega), dif_neg (by simp only; omega)]
  exact e _ (by simp only; omega)

theorem four_high {α : Type} (a b c d : Fin 128 → α) (x : Fin 128) : four a b c d ⟨384 + x, by omega⟩ = d x := by
  unfold four
  rw [dif_neg (by simp only; omega), dif_neg (by simp only; omega), dif_neg (by simp only; omega)]
  exact congrArg d (Fin.ext (by simp only; omega))

end

/-- A slope times a distance, split into the row's part and the block's. -/
theorem shifted (y a u n : ℝ) (v : ℝ) (hv : v = u + 128 * n) :
    (y : EReal) + -(a : EReal) * (u : EReal) - (a : EReal) * ((128 : ℝ) : EReal) * (n : EReal) = (y : EReal) - (a : EReal) * (v : EReal) := by
  rw [hv, ← EReal.coe_neg, ← EReal.coe_mul, ← EReal.coe_mul, ← EReal.coe_mul, ← EReal.coe_mul, ← EReal.coe_add, ← EReal.coe_sub, ← EReal.coe_sub]
  exact congrArg _ (by ring)

/-! ## The row -/

section

variable (A0 : (⟨2, ![65536, 1536]⟩ : Shape).Idx → EReal) (A1 : (⟨2, ![256, 65536]⟩ : Shape).Idx → EReal)
  (A2 : (⟨2, ![256, 1536]⟩ : Shape).Idx → EReal) (A3 : (⟨2, ![1, 16]⟩ : Shape).Idx → EReal)

/-- What the claim asks of the arguments: real queries and keys, and no sink at `⊤`. -/
structure Finite : Prop where
  a0 : ∀ b n i h d, ∃ r : ℝ, query A0 b n i h d = (r : EReal)
  a1 : ∀ i, ∃ r : ℝ, A1 i = (r : EReal)
  a2 : ∀ b h m d, ∃ r : ℝ, metaKey A2 b h m d = (r : EReal)
  a3 : ∀ i, A3 i ≠ ⊤

variable {A0 A1 A2 A3} (b : Fin 16) (n : Fin 32) (i : Fin 128) (h : Fin 16)

theorem score_ne_top (H : Finite A0 A1 A2 A3) (j : Fin 401) : score A0 A1 A2 A3 b n i h j ≠ ⊤ := by
  obtain ⟨a, ha⟩ := slope_real h
  unfold score
  split_ifs with h1 h2 h3
  · obtain ⟨r, hr⟩ := dot_real (fun d => query A0 b n i h d) (fun d => key A1 b n i h j h2 d) (fun d => H.a0 _ _ _ _ _) (fun d => H.a1 _)
    rw [hr, ha, ← EReal.coe_mul, ← EReal.coe_sub]
    exact EReal.coe_ne_top _
  · exact bot_ne_top
  · obtain ⟨r, hr⟩ := dot_real (fun d => query A0 b n i h d) (fun d => metaKey A2 b h ⟨j - 384, h3⟩ d) (fun d => H.a0 _ _ _ _ _) (fun d => H.a2 _ _ _ _)
    rw [hr, ha, ← EReal.coe_mul, ← EReal.coe_sub]
    exact EReal.coe_ne_top _
  · exact H.a3 _

theorem score_some (H : Finite A0 A1 A2 A3) : score A0 A1 A2 A3 b n i h ⟨384, by decide⟩ ≠ ⊥ := by
  obtain ⟨a, ha⟩ := slope_real h
  unfold score
  rw [if_neg (by decide), dif_pos (by decide)]
  obtain ⟨r, hr⟩ := dot_real (fun d => query A0 b n i h d) (fun d => metaKey A2 b h ⟨384 - 384, by decide⟩ d) (fun d => H.a0 _ _ _ _ _) (fun d => H.a2 _ _ _ _)
  rw [hr, ha, ← EReal.coe_mul, ← EReal.coe_sub]
  exact EReal.coe_ne_bot _

/-- The mean under the tile's scores is the weighted sum under the specification's. -/
theorem row_eq (H : Finite A0 A1 A2 A3) (d : Fin 64) (blk : Ideal .f32) (q : Fin 64 → EReal) (kp ko kn km : Fin 64 → Fin 128 → EReal)
    (bias : Fin 512 → EReal) (shift vp vo vn vm : Fin 128 → EReal) (w : Fin 384 → EReal)
    (hblk : blk = (((n : ℕ) : ℝ) : EReal)) (hq : ∀ d, q d = query A0 b n i h d)
    (hk : ∀ (j : Fin 512) (hj : (j : Nat) < 384) (hl : Live n i j) (d : Fin 64), four (kp d) (ko d) (kn d) (km d) j = key A1 b n i h j hl d)
    (hm : ∀ (d : Fin 64) (x : Fin 128), km d x = if hx : (x : Nat) < 16 then metaKey A2 b h ⟨x, hx⟩ d else 0)
    (hb : ∀ j : Fin 512, bias j = if (j : Nat) < 384 ∧ Live n i j then -Attention.slope h * (((gap (128 + i) j : ℕ) : ℝ) : EReal)
      else if 384 ≤ (j : Nat) ∧ (j : Nat) < 400 then -Attention.slope h * (((16 + i - (j - 384) : ℕ) : ℝ) : EReal)
      else if (j : Nat) = 400 then A3 (ix2 0 h) else ⊥)
    (hs : ∀ x : Fin 128, shift x = if (x : Nat) < 16 then Attention.slope h * ((128 : ℝ) : EReal) else 0)
    (hv : ∀ (j : Fin 512) (hj : (j : Nat) < 384) (hl : Live n i j), four vp vo vn vm j = value A0 b n i h j hl d)
    (hvm : ∀ x : Fin 128, vm x = if hx : (x : Nat) < 16 then metaValue A2 b h ⟨x, hx⟩ d else 0)
    (hw : ∀ (j : Fin 384) (hl : Live n i j), w j = value A0 b n i h j hl d) :
    mean (scores blk q (fun d => four (kp d) (ko d) (kn d) (km d)) bias shift) (four vp vo vn vm) =
      (∑ j : Fin 384, weight (score A0 A1 A2 A3 b n i h) ⟨j, by omega⟩ * w j) +
        ∑ m : Fin 16, weight (score A0 A1 A2 A3 b n i h) ⟨384 + m, by omega⟩ * metaValue A2 b h m d := by
  obtain ⟨a, ha⟩ := slope_real h
  refine mean_eq _ _ (score A0 A1 A2 A3 b n i h) w (fun m => metaValue A2 b h m d) (fun j => ?_) (fun j hj => ?_) (fun j hj => ?_) (fun m => ?_) ?_
    ⟨_, score_some b n i h H⟩ (score_ne_top b n i h H)
  · by_cases h1 : (j : Nat) < 384
    · rw [scores_low _ _ _ _ _ _ h1, hb]
      unfold score
      rw [if_pos h1]
      by_cases hl : Live n i j
      · rw [if_pos ⟨h1, hl⟩, dif_pos hl, sub_eq_add_neg, EReal.neg_mul]
        refine congrArg (· + _) (Finset.sum_congr rfl fun d _ => ?_)
        rw [hq, hk _ h1 hl]
      · rw [if_neg (fun h => hl h.2), dif_neg hl, if_neg (by simp only; omega), if_neg (by simp only; omega), EReal.add_bot]
    · have e : scores blk q (fun d => four (kp d) (ko d) (kn d) (km d)) bias shift ⟨j, by omega⟩ = _ :=
        (congrArg _ (Fin.ext (by simp only; omega))).trans (scores_high blk q (fun d => four (kp d) (ko d) (kn d) (km d)) bias shift ⟨j - 384, by omega⟩)
      rw [e, hb, hs, hblk, if_neg (by simp only; omega)]
      unfold score
      rw [if_neg h1]
      by_cases h2 : (j : Nat) - 384 < 16
      · have ek : ∀ d, q d * four (kp d) (ko d) (kn d) (km d) ⟨384 + (j - 384), by omega⟩ = query A0 b n i h d * metaKey A2 b h ⟨j - 384, h2⟩ d := fun d => by
          rw [hq, four_high _ _ _ _ ⟨j - 384, by omega⟩, hm, dif_pos h2]
        rw [dif_pos h2, if_pos (by simp only; omega), if_pos h2]
        refine (congrArg (fun z => z + _ - _) (Finset.sum_congr rfl fun d _ => ek d)).trans ?_
        obtain ⟨r, hr⟩ := dot_real (fun d => query A0 b n i h d) (fun d => metaKey A2 b h ⟨j - 384, h2⟩ d) (fun d => H.a0 _ _ _ _ _) (fun d => H.a2 _ _ _ _)
        rw [hr, ha]
        refine shifted _ _ _ _ _ ?_
        rw [show 16 + 128 * (n : ℕ) + (i : ℕ) - ((j : ℕ) - 384) = (16 + (i : ℕ) - ((j : ℕ) - 384)) + 128 * n by omega]
        push_cast
        simp
      · rw [dif_neg h2, if_neg (by simp only; omega), if_pos (by simp only; omega), if_neg h2, zero_mul, sub_zero]
        have ek : ∀ d, q d * four (kp d) (ko d) (kn d) (km d) ⟨384 + (j - 384), by omega⟩ = 0 := fun d => by
          rw [four_high _ _ _ _ ⟨j - 384, by omega⟩, hm, dif_neg h2, mul_zero]
        refine (congrArg (fun z => z + _) ((Finset.sum_congr rfl fun d _ => ek d).trans Finset.sum_const_zero)).trans (zero_add _)
  · have e : scores blk q (fun d => four (kp d) (ko d) (kn d) (km d)) bias shift j = _ :=
      (congrArg _ (Fin.ext (by simp only; omega))).trans (scores_high blk q (fun d => four (kp d) (ko d) (kn d) (km d)) bias shift ⟨j - 384, by omega⟩)
    rw [e, hb, hs, if_neg (by simp only; omega), if_neg (by simp only; omega), if_neg (by simp only; omega), if_neg (by simp only; omega),
      zero_mul, sub_zero, EReal.add_bot]
  · have h1 : ((⟨j, by omega⟩ : Fin 401) : Nat) < 384 := j.isLt
    have hl : Live n i j := by
      by_contra hl
      refine hj ?_
      unfold score
      rw [if_pos h1, dif_neg hl]
    rw [hw j hl, hv _ j.isLt hl]
  · rw [four_high _ _ _ _ ⟨m, by omega⟩, hvm, dif_pos m.isLt]
  · rw [show (⟨400, by omega⟩ : Fin 512) = ⟨384 + (⟨16, by omega⟩ : Fin 128), by decide⟩ from rfl, four_high, hvm, dif_neg (by decide)]

end

end Cert.KernelIdeal.Attention

end
-- ==== Proof.Attention.TableRun.lean ====
/- What the host leaves in the call's table operands: the terms of `TableTerms`. -/
module

public import proofs.«01_k».proof.Proof.Gen.KernelIdeal.Frame
public import proofs.«01_k».proof.Proof.Attention.TableTerms
public import Idealize.ShloMosaic.Lib.Claim
public import Idealize.ShloMosaic.Lib.StableHlo.RunRead

@[expose] public section

set_option maxRecDepth 16384

noncomputable section

namespace Cert.KernelIdeal.Attention

open Idealize.ShloMosaic Idealize.ShloMosaic.TcCoe Idealize.SL.Sem
open Idealize.ShloMosaic.Pipeline (Dat)
open Cert.KernelIdeal Cert.KernelIdeal.Gen Cert.Attention

variable (m : (ℓ : Loc nD τ sig) → Buf (Elt Ideal) ℓ)

/-- The meta tokens' keys. -/
theorem kt_eq (c : Dev nD) : V m c main_v6 = metaKeysK (m ((c.tc : Thread nD τ).loc main_arg2)) := by
  unfold V
  after_reads_simp
  rfl

/-- The shift. -/
theorem shift_eq (c : Dev nD) : V m c main_v120 = shiftK := by
  unfold V
  after_reads_simp
  rfl

set_option maxHeartbeats 2000000 in
/-- The position bias. -/
theorem bias_eq (c : Dev nD) : V m c main_v109 = stack (table inBand (m ((c.tc : Thread nD τ).loc main_arg3)))
   (table (without 0#32) (m ((c.tc : Thread nD τ).loc main_arg3))) (table (without 2#32) (m ((c.tc : Thread nD τ).loc main_arg3))) := by
  unfold V
  after_reads_simp
  rfl

end Cert.KernelIdeal.Attention

end
-- ==== Proof.Attention.Pieces.lean ====
/- The block of the result that one grid point leaves: 8 blocks of queries by 4 groups of heads, each the tile of
   `Tile.lean`, stored at its place. -/
module

public import proofs.«01_k».proof.Proof.Gen.KernelIdeal.Frame
public import proofs.«01_k».proof.Proof.Attention.Tile
public import Idealize.ShloMosaic.Lib.Pipeline.ValueKit

@[expose] public section

set_option maxRecDepth 16384

noncomputable section

namespace Cert.KernelIdeal.Attention

open Idealize.ShloMosaic Idealize.ShloMosaic.TcCoe Idealize.SL.Sem
open Cert.KernelIdeal Cert.KernelIdeal.Gen

/-- A loaded rectangle of a staged block. -/
def part {a b : Nat} (n k : Nat) {e : EltTy} (x : Vec Ideal ⟨2, ![a, b]⟩ e) (r c : Nat) (hr : r + n ≤ a) (hc : c + k ≤ b) :
    Vec Ideal ⟨2, ![n, k]⟩ e :=
  View.ld (Val := Elt Ideal) x (Rect.unit (s := ⟨2, ![a, b]⟩) ![r, c] ![n, k] (by intro i; fin_cases i <;> assumption))

section

variable (i : grid0.Coords) (x0 : Vec Ideal S1024x1536 .bf16) (x1 x2 : Vec Ideal S128x512 .bf16) (x3 : Vec Ideal S16x512 .bf16)
  (x4 : Vec Ideal S256x128 .bf16) (x5 : Vec Ideal S256x1024 .bf16) (x6 : Vec Ideal S256x128 .bf16) (x7 : Vec Ideal S1x256x128 .bf16)
  (x8 x9 x10 : Vec Ideal S1x4x512x512 .f32) (x11 : Vec Ideal S4x512x128 .f32)

/-- The values of block `n - 1` (counted from the block before the first) beside group `g`'s heads. -/
def valuesOf (n : Fin 10) (g : Fin 4) : Vec Ideal S128x128 .bf16 :=
  if h0 : n.val = 0 then part 128 128 x1 0 (128 * g) (by omega) (by omega)
  else if h9 : n.val = 9 then part 128 128 x2 0 (128 * g) (by omega) (by omega)
  else part 128 128 x0 (128 * (n - 1)) (1024 + 128 * g) (by omega) (by omega)

/-- The keys of block `n - 1`, transposed. -/
def keysOf (n : Fin 10) (g : Fin 4) : Vec Ideal S64x128 .bf16 :=
  if h0 : n.val = 0 then part 64 128 x4 (64 * g) 0 (by omega) (by omega)
  else if h9 : n.val = 9 then part 64 128 x6 (64 * g) 0 (by omega) (by omega)
  else part 64 128 x5 (64 * g) (128 * (n - 1)) (by omega) (by omega)

/-- The position bias of block `s`: its own table at the first and the last block of the grid point. -/
def biasOf (s : Fin 8) (g : Fin 4) : Vec Ideal S1x1x512x512 .f32 :=
  View.ld (Val := Elt Ideal) (if s.val = 0 then x8 else if s.val = 7 then x10 else x9)
    (Rect.unit (s := S1x4x512x512) ![0, g.val, 0, 0] S1x1x512x512.size (by intro a; fin_cases a <;> simp <;> omega))

/-- The tile that the body stores for block `s` and group `g`. -/
def pieceOf (s : Fin 8) (g : Fin 4) : FVec Ideal S128x256 .bf16 :=
  tile (Scalar.sitofp .f32 (Scalar.addi (Scalar.muli 8#32 (BitVec.ofNat 32 (i 1).val)) (BitVec.ofNat 32 s)))
    (valuesOf x0 x1 x2 ⟨s, by omega⟩ g) (valuesOf x0 x1 x2 ⟨s + 1, by omega⟩ g) (valuesOf x0 x1 x2 ⟨s + 2, by omega⟩ g)
    (part 16 128 x3 0 (128 * g) (by omega) (by omega))
    (keysOf x4 x5 x6 ⟨s, by omega⟩ g) (keysOf x4 x5 x6 ⟨s + 1, by omega⟩ g) (keysOf x4 x5 x6 ⟨s + 2, by omega⟩ g)
    (View.ld (Val := Elt Ideal) x7
      (Rect.unit (s := S1x256x128) ![0, 64 * g.val, 0] S1x64x128.size (by intro a; fin_cases a <;> simp <;> omega)))
    (part 128 128 x0 (128 * s) (256 * g) (by omega) (by omega))
    (part 128 128 x0 (128 * s) (256 * g + 128) (by omega) (by omega))
    (biasOf x8 x9 x10 s g)
    (View.ld (Val := Elt Ideal) x11
      (Rect.unit (s := S4x512x128) ![g.val, 0, 0] S1x512x128.size (by intro a; fin_cases a <;> simp <;> omega)))

/-- The block and the group of store `k`, the last store first. -/
def blockOf (k : Fin 32) : Fin 8 := ⟨7 - k / 4, by omega⟩
def groupOf (k : Fin 32) : Fin 4 := ⟨3 - k % 4, by omega⟩

/-- The body's stores are the 32 tiles. -/
theorem out_eq : out0_12 (F := Ideal) i x0 x1 x2 x3 x4 x5 x6 x7 x8 x9 x10 x11 =
    View.canon (Val := Elt Ideal) (List.ofFn fun k : Fin 32 =>
      (⟨Rect.unit (s := S1024x1024) ![128 * (blockOf k).val, 256 * (groupOf k).val] S128x256.size
          (by intro a; fin_cases a <;> simp <;> omega),
        pieceOf i x0 x1 x2 x3 x4 x5 x6 x7 x8 x9 x10 x11 (blockOf k) (groupOf k)⟩ : View.Piece (Elt Ideal) S1024x1024 .bf16)) := by
  refine congrArg View.canon ?_
  iterate 32
    rw [List.ofFn_succ]
    refine congrArg₂ List.cons ?_ ?_
    · rfl
  rfl

end

end Cert.KernelIdeal.Attention

end
-- ==== Proof.Attention.Blocks.lean ====
/- The blocks of the arrays that a grid point stages: point `t` is of sequence `t / 4`, its eight blocks of queries the `t % 4`-th. -/
module

public import proofs.«01_k».proof.Proof.Gen.KernelIdeal.Frame
public import proofs.«01_k».proof.Proof.Attention.Pieces
public import Idealize.ShloMosaic.Lib.Pipeline.ValueKit
public import proofs.«01_k».proof.Proof.Attention.Spec
public import Idealize.ShloMosaic.Lib.Claim

@[expose] public section

set_option maxRecDepth 16384

noncomputable section

namespace Cert.KernelIdeal.Attention

open Idealize.ShloMosaic Idealize.ShloMosaic.TcCoe Idealize.SL.Sem
open Idealize.ShloMosaic.Pipeline (Dat)
open Cert.KernelIdeal Cert.KernelIdeal.Gen Cert.Attention

variable (m : (ℓ : Loc nD τ sig) → Buf (Elt Ideal) ℓ)

/-- The block indices. -/
theorem idx : ∀ t : Fin cfg0.N, win0_0.index t = ![t.val, 0] ∧ win0_1.index t = ![32 * (t.val / 4) + (8 * (t.val % 4) - 1), 2] ∧
    win0_2.index t = ![32 * (t.val / 4) + min (8 * (t.val % 4) + 8) 31, 2] ∧ win0_3.index t = ![t.val / 4, 2] ∧
    win0_4.index t = ![0, 32 * (t.val / 4) + (8 * (t.val % 4) - 1)] ∧ win0_5.index t = ![0, t.val] ∧
    win0_6.index t = ![0, 32 * (t.val / 4) + min (8 * (t.val % 4) + 8) 31] ∧ win0_7.index t = ![t.val / 4, 0, 0] ∧
    win0_8.index t = ![if t.val % 4 = 0 then 1 else 0, 0, 0, 0] ∧ win0_9.index t = ![0, 0, 0, 0] ∧
    win0_10.index t = ![if t.val % 4 = 3 then 2 else 0, 0, 0, 0] ∧ win0_11.index t = ![0, 0, 0] ∧ win0_12.index t = ![t.val, 0] ∧
    ((grid0.coords t) 1).val = t.val % 4 ∧ t.val < 64 :=
  (by decide +kernel : ∀ t : Fin grid0.N, _)

/-- Window 0. -/
theorem read0 (c : Dev nD) (W : (b : Ref sig .tc) → Buf (Elt Ideal) ((c : Thread nD τ).loc b)) (t : Fin cfg0.N) (y : S1024x1536.Idx)
    (T : Vec Ideal S65536x1536 .bf16) (h : W main_arg0 = T) :
    View.read (Elt Ideal) ((cfg0.win 0).blk t).view (W (Pipeline.arrRef spec0 0)) y = T ((win0_0.blk t).view.emb y) := by
  subst h
  rfl

theorem place0 (T : Vec Ideal S65536x1536 .bf16) (t : Fin cfg0.N) (r : Fin 1024) (l : Fin 1536) (r' : Fin 65536) (hr : (r' : Nat) = 1024 * t.val + r) :
    T ((win0_0.blk t).view.emb (ix2 r l)) = T (ix2 r' l) := by
  refine congrArg T ?_
  blk_ext [idx t]

theorem block0 (c : Dev nD) (t : Fin cfg0.N) (T : Vec Ideal S65536x1536 .bf16) (h : V m c main_arg0 = T) (r : Fin 1024) (l : Fin 1536) (r' : Fin 65536) (hr : (r' : Nat) = 1024 * t.val + r) :
    (iblk m c 0 t : Vec Ideal S1024x1536 .bf16) (ix2 r l) = T (ix2 r' l) := by
  unfold iblk
  exact (read0 c (V m c) t _ T h).trans (place0 T t r l r' hr)

/-- Window 1. -/
theorem read1 (c : Dev nD) (W : (b : Ref sig .tc) → Buf (Elt Ideal) ((c : Thread nD τ).loc b)) (t : Fin cfg0.N) (y : S128x512.Idx)
    (T : Vec Ideal S65536x1536 .bf16) (h : W main_arg0 = T) :
    View.read (Elt Ideal) ((cfg0.win 1).blk t).view (W (Pipeline.arrRef spec0 1)) y = T ((win0_1.blk t).view.emb y) := by
  subst h
  rfl

theorem place1 (T : Vec Ideal S65536x1536 .bf16) (t : Fin cfg0.N) (r : Fin 128) (l : Fin 512) (r' : Fin 65536) (l' : Fin 1536)
    (hr : (r' : Nat) = 128 * (32 * (t.val / 4) + (8 * (t.val % 4) - 1)) + r) (hl : (l' : Nat) = 1024 + l) :
    T ((win0_1.blk t).view.emb (ix2 r l)) = T (ix2 r' l') := by
  refine congrArg T ?_
  blk_ext [idx t]

theorem block1 (c : Dev nD) (t : Fin cfg0.N) (T : Vec Ideal S65536x1536 .bf16) (h : V m c main_arg0 = T) (r : Fin 128) (l : Fin 512) (r' : Fin 65536) (l' : Fin 1536)
    (hr : (r' : Nat) = 128 * (32 * (t.val / 4) + (8 * (t.val % 4) - 1)) + r) (hl : (l' : Nat) = 1024 + l) :
    (iblk m c 1 t : Vec Ideal S128x512 .bf16) (ix2 r l) = T (ix2 r' l') := by
  unfold iblk
  exact (read1 c (V m c) t _ T h).trans (place1 T t r l r' l' hr hl)

/-- Window 2. -/
theorem read2 (c : Dev nD) (W : (b : Ref sig .tc) → Buf (Elt Ideal) ((c : Thread nD τ).loc b)) (t : Fin cfg0.N) (y : S128x512.Idx)
    (T : Vec Ideal S65536x1536 .bf16) (h : W main_arg0 = T) :
    View.read (Elt Ideal) ((cfg0.win 2).blk t).view (W (Pipeline.arrRef spec0 2)) y = T ((win0_2.blk t).view.emb y) := by
  subst h
  rfl

theorem place2 (T : Vec Ideal S65536x1536 .bf16) (t : Fin cfg0.N) (r : Fin 128) (l : Fin 512) (r' : Fin 65536) (l' : Fin 1536)
    (hr : (r' : Nat) = 128 * (32 * (t.val / 4) + min (8 * (t.val % 4) + 8) 31) + r) (hl : (l' : Nat) = 1024 + l) :
    T ((win0_2.blk t).view.emb (ix2 r l)) = T (ix2 r' l') := by
  refine congrArg T ?_
  blk_ext [idx t]

theorem block2 (c : Dev nD) (t : Fin cfg0.N) (T : Vec Ideal S65536x1536 .bf16) (h : V m c main_arg0 = T) (r : Fin 128) (l : Fin 512) (r' : Fin 65536) (l' : Fin 1536)
    (hr : (r' : Nat) = 128 * (32 * (t.val / 4) + min (8 * (t.val % 4) + 8) 31) + r) (hl : (l' : Nat) = 1024 + l) :
    (iblk m c 2 t : Vec Ideal S128x512 .bf16) (ix2 r l) = T (ix2 r' l') := by
  unfold iblk
  exact (read2 c (V m c) t _ T h).trans (place2 T t r l r' l' hr hl)

/-- Window 3. -/
theorem read3 (c : Dev nD) (W : (b : Ref sig .tc) → Buf (Elt Ideal) ((c : Thread nD τ).loc b)) (t : Fin cfg0.N) (y : S16x512.Idx)
    (T : Vec Ideal S256x1536 .bf16) (h : W main_arg2 = T) :
    View.read (Elt Ideal) ((cfg0.win 3).blk t).view (W (Pipeline.arrRef spec0 3)) y = T ((win0_3.blk t).view.emb y) := by
  subst h
  rfl

theorem place3 (T : Vec Ideal S256x1536 .bf16) (t : Fin cfg0.N) (r : Fin 16) (l : Fin 512) (r' : Fin 256) (l' : Fin 1536)
    (hr : (r' : Nat) = 16 * (t.val / 4) + r) (hl : (l' : Nat) = 1024 + l) :
    T ((win0_3.blk t).view.emb (ix2 r l)) = T (ix2 r' l') := by
  refine congrArg T ?_
  blk_ext [idx t]

theorem block3 (c : Dev nD) (t : Fin cfg0.N) (T : Vec Ideal S256x1536 .bf16) (h : V m c main_arg2 = T) (r : Fin 16) (l : Fin 512) (r' : Fin 256) (l' : Fin 1536)
    (hr : (r' : Nat) = 16 * (t.val / 4) + r) (hl : (l' : Nat) = 1024 + l) :
    (iblk m c 3 t : Vec Ideal S16x512 .bf16) (ix2 r l) = T (ix2 r' l') := by
  unfold iblk
  exact (read3 c (V m c) t _ T h).trans (place3 T t r l r' l' hr hl)

/-- Window 4. -/
theorem read4 (c : Dev nD) (W : (b : Ref sig .tc) → Buf (Elt Ideal) ((c : Thread nD τ).loc b)) (t : Fin cfg0.N) (y : S256x128.Idx)
    (T : Vec Ideal S256x65536 .bf16) (h : W main_arg1 = T) :
    View.read (Elt Ideal) ((cfg0.win 4).blk t).view (W (Pipeline.arrRef spec0 4)) y = T ((win0_4.blk t).view.emb y) := by
  subst h
  rfl

theorem place4 (T : Vec Ideal S256x65536 .bf16) (t : Fin cfg0.N) (r : Fin 256) (l : Fin 128) (l' : Fin 65536)
    (hl : (l' : Nat) = 128 * (32 * (t.val / 4) + (8 * (t.val % 4) - 1)) + l) :
    T ((win0_4.blk t).view.emb (ix2 r l)) = T (ix2 r l') := by
  refine congrArg T ?_
  blk_ext [idx t]

theorem block4 (c : Dev nD) (t : Fin cfg0.N) (T : Vec Ideal S256x65536 .bf16) (h : V m c main_arg1 = T) (r : Fin 256) (l : Fin 128) (l' : Fin 65536)
    (hl : (l' : Nat) = 128 * (32 * (t.val / 4) + (8 * (t.val % 4) - 1)) + l) :
    (iblk m c 4 t : Vec Ideal S256x128 .bf16) (ix2 r l) = T (ix2 r l') := by
  unfold iblk
  exact (read4 c (V m c) t _ T h).trans (place4 T t r l l' hl)

/-- Window 5. -/
theorem read5 (c : Dev nD) (W : (b : Ref sig .tc) → Buf (Elt Ideal) ((c : Thread nD τ).loc b)) (t : Fin cfg0.N) (y : S256x1024.Idx)
    (T : Vec Ideal S256x65536 .bf16) (h : W main_arg1 = T) :
    View.read (Elt Ideal) ((cfg0.win 5).blk t).view (W (Pipeline.arrRef spec0 5)) y = T ((win0_5.blk t).view.emb y) := by
  subst h
  rfl

theorem place5 (T : Vec Ideal S256x65536 .bf16) (t : Fin cfg0.N) (r : Fin 256) (l : Fin 1024) (l' : Fin 65536) (hl : (l' : Nat) = 1024 * t.val + l) :
    T ((win0_5.blk t).view.emb (ix2 r l)) = T (ix2 r l') := by
  refine congrArg T ?_
  blk_ext [idx t]

theorem block5 (c : Dev nD) (t : Fin cfg0.N) (T : Vec Ideal S256x65536 .bf16) (h : V m c main_arg1 = T) (r : Fin 256) (l : Fin 1024) (l' : Fin 65536) (hl : (l' : Nat) = 1024 * t.val + l) :
    (iblk m c 5 t : Vec Ideal S256x1024 .bf16) (ix2 r l) = T (ix2 r l') := by
  unfold iblk
  exact (read5 c (V m c) t _ T h).trans (place5 T t r l l' hl)

/-- Window 6. -/
theorem read6 (c : Dev nD) (W : (b : Ref sig .tc) → Buf (Elt Ideal) ((c : Thread nD τ).loc b)) (t : Fin cfg0.N) (y : S256x128.Idx)
    (T : Vec Ideal S256x65536 .bf16) (h : W main_arg1 = T) :
    View.read (Elt Ideal) ((cfg0.win 6).blk t).view (W (Pipeline.arrRef spec0 6)) y = T ((win0_6.blk t).view.emb y) := by
  subst h
  rfl

theorem place6 (T : Vec Ideal S256x65536 .bf16) (t : Fin cfg0.N) (r : Fin 256) (l : Fin 128) (l' : Fin 65536)
    (hl : (l' : Nat) = 128 * (32 * (t.val / 4) + min (8 * (t.val % 4) + 8) 31) + l) :
    T ((win0_6.blk t).view.emb (ix2 r l)) = T (ix2 r l') := by
  refine congrArg T ?_
  blk_ext [idx t]

theorem block6 (c : Dev nD) (t : Fin cfg0.N) (T : Vec Ideal S256x65536 .bf16) (h : V m c main_arg1 = T) (r : Fin 256) (l : Fin 128) (l' : Fin 65536)
    (hl : (l' : Nat) = 128 * (32 * (t.val / 4) + min (8 * (t.val % 4) + 8) 31) + l) :
    (iblk m c 6 t : Vec Ideal S256x128 .bf16) (ix2 r l) = T (ix2 r l') := by
  unfold iblk
  exact (read6 c (V m c) t _ T h).trans (place6 T t r l l' hl)

/-- Window 7. -/
theorem read7 (c : Dev nD) (W : (b : Ref sig .tc) → Buf (Elt Ideal) ((c : Thread nD τ).loc b)) (t : Fin cfg0.N) (y : S1x256x128.Idx)
    (T : Vec Ideal S16x256x128 .bf16) (h : W main_v6 = T) :
    View.read (Elt Ideal) ((cfg0.win 7).blk t).view (W (Pipeline.arrRef spec0 7)) y = T ((win0_7.blk t).view.emb y) := by
  subst h
  rfl

theorem place7 (T : Vec Ideal S16x256x128 .bf16) (t : Fin cfg0.N) (r : Fin 256) (l : Fin 128) (b : Fin 16) (hb : (b : Nat) = t.val / 4) :
    T ((win0_7.blk t).view.emb (ix3 0 r l)) = T (ix3 b r l) := by
  refine congrArg T ?_
  blk_ext [idx t]

theorem block7 (c : Dev nD) (t : Fin cfg0.N) (T : Vec Ideal S16x256x128 .bf16) (h : V m c main_v6 = T) (r : Fin 256) (l : Fin 128) (b : Fin 16) (hb : (b : Nat) = t.val / 4) :
    (iblk m c 7 t : Vec Ideal S1x256x128 .bf16) (ix3 0 r l) = T (ix3 b r l) := by
  unfold iblk
  exact (read7 c (V m c) t _ T h).trans (place7 T t r l b hb)

/-- Window 8. -/
theorem read8 (c : Dev nD) (W : (b : Ref sig .tc) → Buf (Elt Ideal) ((c : Thread nD τ).loc b)) (t : Fin cfg0.N) (y : S1x4x512x512.Idx)
    (T : Vec Ideal S3x4x512x512 .f32) (h : W main_v109 = T) :
    View.read (Elt Ideal) ((cfg0.win 8).blk t).view (W (Pipeline.arrRef spec0 8)) y = T ((win0_8.blk t).view.emb y) := by
  subst h
  rfl

theorem place8 (T : Vec Ideal S3x4x512x512 .f32) (t : Fin cfg0.N) (g : Fin 4) (r j : Fin 512) (k : Fin 3) (hk : (k : Nat) = if t.val % 4 = 0 then 1 else 0) :
    T ((win0_8.blk t).view.emb (ix4 0 g r j)) = T (ix4 k g r j) := by
  refine congrArg T ?_
  blk_ext [idx t]

theorem block8 (c : Dev nD) (t : Fin cfg0.N) (T : Vec Ideal S3x4x512x512 .f32) (h : V m c main_v109 = T) (g : Fin 4) (r j : Fin 512) (k : Fin 3) (hk : (k : Nat) = if t.val % 4 = 0 then 1 else 0) :
    (iblk m c 8 t : Vec Ideal S1x4x512x512 .f32) (ix4 0 g r j) = T (ix4 k g r j) := by
  unfold iblk
  exact (read8 c (V m c) t _ T h).trans (place8 T t g r j k hk)

/-- Window 9. -/
theorem read9 (c : Dev nD) (W : (b : Ref sig .tc) → Buf (Elt Ideal) ((c : Thread nD τ).loc b)) (t : Fin cfg0.N) (y : S1x4x512x512.Idx)
    (T : Vec Ideal S3x4x512x512 .f32) (h : W main_v109 = T) :
    View.read (Elt Ideal) ((cfg0.win 9).blk t).view (W (Pipeline.arrRef spec0 9)) y = T ((win0_9.blk t).view.emb y) := by
  subst h
  rfl

theorem place9 (T : Vec Ideal S3x4x512x512 .f32) (t : Fin cfg0.N) (g : Fin 4) (r j : Fin 512) (k : Fin 3) (hk : (k : Nat) = 0) :
    T ((win0_9.blk t).view.emb (ix4 0 g r j)) = T (ix4 k g r j) := by
  refine congrArg T ?_
  blk_ext [idx t]

theorem block9 (c : Dev nD) (t : Fin cfg0.N) (T : Vec Ideal S3x4x512x512 .f32) (h : V m c main_v109 = T) (g : Fin 4) (r j : Fin 512) (k : Fin 3) (hk : (k : Nat) = 0) :
    (iblk m c 9 t : Vec Ideal S1x4x512x512 .f32) (ix4 0 g r j) = T (ix4 k g r j) := by
  unfold iblk
  exact (read9 c (V m c) t _ T h).trans (place9 T t g r j k hk)

/-- Window 10. -/
theorem read10 (c : Dev nD) (W : (b : Ref sig .tc) → Buf (Elt Ideal) ((c : Thread nD τ).loc b)) (t : Fin cfg0.N) (y : S1x4x512x512.Idx)
    (T : Vec Ideal S3x4x512x512 .f32) (h : W main_v109 = T) :
    View.read (Elt Ideal) ((cfg0.win 10).blk t).view (W (Pipeline.arrRef spec0 10)) y = T ((win0_10.blk t).view.emb y) := by
  subst h
  rfl

theorem place10 (T : Vec Ideal S3x4x512x512 .f32) (t : Fin cfg0.N) (g : Fin 4) (r j : Fin 512) (k : Fin 3) (hk : (k : Nat) = if t.val % 4 = 3 then 2 else 0) :
    T ((win0_10.blk t).view.emb (ix4 0 g r j)) = T (ix4 k g r j) := by
  refine congrArg T ?_
  blk_ext [idx t]

theorem block10 (c : Dev nD) (t : Fin cfg0.N) (T : Vec Ideal S3x4x512x512 .f32) (h : V m c main_v109 = T) (g : Fin 4) (r j : Fin 512) (k : Fin 3) (hk : (k : Nat) = if t.val % 4 = 3 then 2 else 0) :
    (iblk m c 10 t : Vec Ideal S1x4x512x512 .f32) (ix4 0 g r j) = T (ix4 k g r j) := by
  unfold iblk
  exact (read10 c (V m c) t _ T h).trans (place10 T t g r j k hk)

/-- Window 11. -/
theorem read11 (c : Dev nD) (W : (b : Ref sig .tc) → Buf (Elt Ideal) ((c : Thread nD τ).loc b)) (t : Fin cfg0.N) (y : S4x512x128.Idx)
    (T : Vec Ideal S4x512x128 .f32) (h : W main_v120 = T) :
    View.read (Elt Ideal) ((cfg0.win 11).blk t).view (W (Pipeline.arrRef spec0 11)) y = T ((win0_11.blk t).view.emb y) := by
  subst h
  rfl

theorem place11 (T : Vec Ideal S4x512x128 .f32) (t : Fin cfg0.N) (g : Fin 4) (r : Fin 512) (x : Fin 128) :
    T ((win0_11.blk t).view.emb (ix3 g r x)) = T (ix3 g r x) := by
  refine congrArg T ?_
  blk_ext [idx t]

theorem block11 (c : Dev nD) (t : Fin cfg0.N) (T : Vec Ideal S4x512x128 .f32) (h : V m c main_v120 = T) (g : Fin 4) (r : Fin 512) (x : Fin 128) :
    (iblk m c 11 t : Vec Ideal S4x512x128 .f32) (ix3 g r x) = T (ix3 g r x) := by
  unfold iblk
  exact (read11 c (V m c) t _ T h).trans (place11 T t g r x)

end Cert.KernelIdeal.Attention

end
-- ==== Proof.Attention.Loads.lean ====
/- What a tile of the grid point loads: the queries, keys and values of the argument arrays, and the tables' entries. -/
module

public import proofs.«01_k».proof.Proof.Gen.KernelIdeal.Frame
public import proofs.«01_k».proof.Proof.Attention.Match
public import proofs.«01_k».proof.Proof.Attention.TableRun
public import proofs.«01_k».proof.Proof.Attention.Pieces
public import proofs.«01_k».proof.Proof.Attention.Blocks
public import Idealize.ShloMosaic.Lib.Pipeline.ValueKit
public import proofs.«01_k».proof.Proof.Attention.Spec
public import Idealize.ShloMosaic.Lib.Claim

@[expose] public section

set_option maxRecDepth 16384

noncomputable section

namespace Cert.KernelIdeal.Attention

open Idealize.ShloMosaic Idealize.ShloMosaic.TcCoe Idealize.SL.Sem
open Idealize.ShloMosaic.Pipeline (Dat)
open Cert.KernelIdeal Cert.KernelIdeal.Gen Cert.Attention

variable (m : (ℓ : Loc nD τ sig) → Buf (Elt Ideal) ℓ)

/-- A loaded rectangle, read at an index. -/
theorem part_at {a b : Nat} (n k : Nat) {e : EltTy} (x : Vec Ideal ⟨2, ![a, b]⟩ e) (r c : Nat) (hr : r + n ≤ a) (hc : c + k ≤ b) (i : Fin n) (j : Fin k) :
    part n k x r c hr hc (ix2 i j) = x (ix2 ⟨r + i, by omega⟩ ⟨c + j, by omega⟩) := by
  refine congrArg x ?_
  funext a
  fin_cases a
  · exact Fin.ext (by simp)
  · exact Fin.ext (by simp)

theorem ld7_at (x7 : Vec Ideal S1x256x128 .bf16) (g : Fin 4) (d : Fin 64) (x : Fin 128) : View.ld (Val := Elt Ideal) x7
      (Rect.unit (s := S1x256x128) ![0, 64 * g.val, 0] S1x64x128.size (by intro a; fin_cases a <;> simp <;> omega)) (ix3 0 d x) =
    x7 (ix3 0 ⟨64 * g + d, by omega⟩ x) := by
  refine congrArg x7 ?_
  funext a
  fin_cases a <;> exact Fin.ext (by simp)

/-- An entry of the stacked tables. -/
theorem bias_at (x3 : FVec Ideal S1x16 .f32) (k : Fin 3) (g : Fin 4) (r j : Fin 512) (h : Fin 16) (i : Fin 128) (hh : (h : Nat) = 4 * g + r / 128) (hi : (i : Nat) = r % 128) :
    stack (table inBand x3) (table (without 0#32) x3) (table (without 2#32) x3) (ix4 k g r j) =
      if ((j : Nat) < 384 ∧ gap (128 + i) j ≤ 128) ∧ ((k : Nat) = 1 → (j : Nat) / 128 ≠ 0) ∧ ((k : Nat) = 2 → (j : Nat) / 128 ≠ 2) then
        -Attention.slope h * (((gap (128 + i) j : ℕ) : ℝ) : EReal)
      else if 384 ≤ (j : Nat) ∧ (j : Nat) < 400 then -Attention.slope h * (((16 + i - (j - 384) : ℕ) : ℝ) : EReal)
      else if (j : Nat) = 400 then x3 (ix2 0 h) else ⊥ := by
  have e1 : (⟨4 * g + r / 128, by omega⟩ : Fin 16) = h := Fin.ext hh.symm
  have e2 : (⟨r % 128, by omega⟩ : Fin 128) = i := Fin.ext hi.symm
  rw [stack_at, e1, e2]
  by_cases h0 : (k : Nat) = 0
  · rw [if_pos h0, table_at inBand x3 h i j _ (inBand_at i j) (fun h => h.1)]
    exact if_congr ⟨fun h => ⟨h, by omega, by omega⟩, fun h => h.1⟩ rfl rfl
  · rw [if_neg h0]
    by_cases h1 : (k : Nat) = 1
    · rw [if_pos h1, table_at (without 0#32) x3 h i j _ (without_at 0 (by omega) i j) (fun h => h.1.1)]
      exact if_congr ⟨fun h => ⟨h.1, fun _ => h.2, by omega⟩, fun h => ⟨h.1, h.2.1 h1⟩⟩ rfl rfl
    · rw [if_neg h1, table_at (without 2#32) x3 h i j _ (without_at 2 (by omega) i j) (fun h => h.1.1)]
      exact if_congr ⟨fun h => ⟨h.1, by omega, fun _ => h.2⟩, fun h => ⟨h.1, h.2.2 (by omega)⟩⟩ rfl rfl

theorem ld11_at (x11 : Vec Ideal S4x512x128 .f32) (g : Fin 4) (r : Fin 512) (x : Fin 128) : View.ld (Val := Elt Ideal) x11
      (Rect.unit (s := S4x512x128) ![g.val, 0, 0] S1x512x128.size (by intro a; fin_cases a <;> simp <;> omega)) (ix3 0 r x) =
    x11 (ix3 g r x) := by
  refine congrArg x11 ?_
  funext a
  fin_cases a <;> exact Fin.ext (by simp)

theorem biasOf_at (x8 x9 x10 : Vec Ideal S1x4x512x512 .f32) (s : Fin 8) (g : Fin 4) (r j : Fin 512) :
    biasOf x8 x9 x10 s g (ix4 0 0 r j) = (if s.val = 0 then x8 else if s.val = 7 then x10 else x9) (ix4 0 g r j) := by
  unfold biasOf
  refine congrArg (if s.val = 0 then x8 else if s.val = 7 then x10 else x9) ?_
  funext a
  fin_cases a <;> exact Fin.ext (by simp)

/-- Which part of a row of four parts a band column reads. -/
theorem four_band {α : Type} (f : Fin 10 → Fin 128 → α) (d : Fin 128 → α) (s : Fin 8) (j : Fin 512) (hj : (j : Nat) < 384) (y : α)
    (h : ∀ (p : Fin 10) (x : Fin 128), (p : Nat) = s + j / 128 → (x : Nat) = j % 128 → f p x = y) :
    four (f ⟨s, by omega⟩) (f ⟨s + 1, by omega⟩) (f ⟨s + 2, by omega⟩) d j = y := by
  unfold four
  split_ifs with h1 h2 h3
  · exact h _ _ (by simp only; omega) (by simp only; omega)
  · exact h _ _ (by simp only; omega) (by simp only; omega)
  · exact h _ _ (by simp only; omega) (by simp only; omega)
  · omega

section
variable (c : Dev nD) (t : Fin cfg0.N) (A0 : FVec Ideal S65536x1536 .bf16) (A1 : FVec Ideal S256x65536 .bf16)
  (h0 : m ((c : Thread nD τ).loc main_arg0) = A0) (h1 : m ((c : Thread nD τ).loc main_arg1) = A1) (b : Fin 16) (hb : (b : Nat) = t.val / 4)
include h0 hb
/-- The values of a real block. -/
theorem valuesOf_at (p : Fin 10) (g : Fin 4) (x : Fin 128) (d : Fin 64) (col : Nat) (hcol : col + 128 = 128 * (8 * (t.val % 4) + p) + x) (hlt : col < 4096) :
    valuesOf (iblk m c 0 t) (iblk m c 1 t) (iblk m c 2 t) p g (ix2 x ⟨d, by omega⟩) =
      A0 (ix2 ⟨4096 * b + col, by omega⟩ ⟨1024 + 128 * g + d, by omega⟩) := by
  have e0 := (V_main_arg0 m c).trans h0
  unfold valuesOf
  split_ifs with hp hp'
  · rw [part_at]
    exact block1 m c t A0 e0 _ _ _ _ (by simp only; omega) (by simp only; omega)
  · rw [part_at]
    exact block2 m c t A0 e0 _ _ _ _ (by simp only; omega) (by simp only; omega)
  · rw [part_at]
    refine (block0 m c t A0 e0 _ _ ⟨4096 * b + col, by omega⟩ (by simp only; omega)).trans ?_
    exact congrArg (fun z => A0 (ix2 _ z)) (Fin.ext (by simp only))

omit h0
include h1
/-- The keys of a real block. -/
theorem keysOf_at (p : Fin 10) (g : Fin 4) (x : Fin 128) (d : Fin 64) (col : Nat) (hcol : col + 128 = 128 * (8 * (t.val % 4) + p) + x) (hlt : col < 4096) :
    keysOf (iblk m c 4 t) (iblk m c 5 t) (iblk m c 6 t) p g (ix2 d x) =
      A1 (ix2 ⟨64 * g + d, by omega⟩ ⟨4096 * b + col, by omega⟩) := by
  have e1 := (V_main_arg1 m c).trans h1
  unfold keysOf
  split_ifs with hp hp'
  · rw [part_at]
    exact block4 m c t A1 e1 _ _ _ (by simp only; omega)
  · rw [part_at]
    exact block6 m c t A1 e1 _ _ _ (by simp only; omega)
  · rw [part_at]
    exact block5 m c t A1 e1 _ _ _ (by simp only; omega)
end

end Cert.KernelIdeal.Attention

end
-- ==== Proof.Attention.Piece.lean ====
/- A tile of the grid point is the specification's weighted sum, at every entry. -/
module

public import proofs.«01_k».proof.Proof.Gen.KernelIdeal.Frame
public import proofs.«01_k».proof.Proof.Attention.Match
public import proofs.«01_k».proof.Proof.Attention.TableRun
public import proofs.«01_k».proof.Proof.Attention.Loads
public import Idealize.ShloMosaic.Lib.Pipeline.ValueKit
public import proofs.«01_k».proof.Proof.Attention.Spec
public import Idealize.ShloMosaic.Lib.Claim

@[expose] public section

set_option maxRecDepth 16384

noncomputable section

namespace Cert.KernelIdeal.Attention

open Idealize.ShloMosaic Idealize.ShloMosaic.TcCoe Idealize.SL.Sem
open Idealize.ShloMosaic.Pipeline (Dat)
open Cert.KernelIdeal Cert.KernelIdeal.Gen Cert.Attention

variable (m : (ℓ : Loc nD τ sig) → Buf (Elt Ideal) ℓ)

/-- The words of the block's number. -/
theorem number (a s : Nat) (ha : a < 4) (hs : s < 8) :
    (Scalar.sitofp .f32 (Scalar.addi (Scalar.muli 8#32 (BitVec.ofNat 32 a)) (BitVec.ofNat 32 s)) : Ideal .f32) = (((8 * a + s : ℕ) : ℝ) : EReal) := by
  have e : Scalar.addi (Scalar.muli 8#32 (BitVec.ofNat 32 a)) (BitVec.ofNat 32 s) = BitVec.ofNat 32 (8 * a + s) := by
    show 8#32 * BitVec.ofNat 32 a + BitVec.ofNat 32 s = _
    bv_omega
  rw [e]
  exact real_ofNat _ (by omega)

variable (c : Dev nD) (t : Fin cfg0.N) {A0 : FVec Ideal S65536x1536 .bf16} {A1 : FVec Ideal S256x65536 .bf16} {A2 : FVec Ideal S256x1536 .bf16}
  {A3 : FVec Ideal S1x16 .f32}
  (h0 : m ((c : Thread nD τ).loc main_arg0) = A0) (h1 : m ((c : Thread nD τ).loc main_arg1) = A1)
  (h2 : m ((c : Thread nD τ).loc main_arg2) = A2) (h3 : m ((c : Thread nD τ).loc main_arg3) = A3)
  (b : Fin 16) (hb : (b : Nat) = t.val / 4)
include h0 h1 h2 h3 hb

/-- Entry `(i, l)` of the tile of block `s` and group `g`: the specification's weighted sum. -/
theorem piece_at (H : Finite A0 A1 A2 A3) (s : Fin 8) (g : Fin 4) (i : Fin 128) (l : Fin 256) (n : Fin 32) (h : Fin 16) (d : Fin 64)
    (hn : (n : Nat) = 8 * (t.val % 4) + s) (hh : (h : Nat) = 4 * g + l / 64) (hd : (d : Nat) = l % 64) (w : Fin 384 → EReal)
    (hw : ∀ (j : Fin 384) (hl : Live n i j), w j = value A0 b n i h j hl d) :
    pieceOf (grid0.coords t) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) s g (ix2 i l) =
      (∑ j : Fin 384, weight (score A0 A1 A2 A3 b n i h) ⟨j, by omega⟩ * w j) +
        ∑ m : Fin 16, weight (score A0 A1 A2 A3 b n i h) ⟨384 + m, by omega⟩ * metaValue A2 b h m d := by
  have ht : t.val < 64 := t.isLt
  have hco : ((grid0.coords t) 1).val = t.val % 4 := (idx t).2.2.2.2.2.2.2.2.2.2.2.2.2.1
  have hl := l.isLt
  have hg : (h : Nat) / 4 = g := by omega
  obtain ⟨d', hd'⟩ : ∃ d' : Fin 128, d' = ⟨l % 64, by omega⟩ := ⟨_, rfl⟩
  unfold pieceOf
  refine (tile_at _ _ _ _ _ _ _ _ _ _ _ _ _ i l).trans ?_
  refine row_eq b n i h H d _ _ _ _ _ _ _ _ _ _ _ _ w ?_ ?_ ?_ ?_ ?_ ?_ ?_ ?_ hw
  · rw [hco, hn]
    exact number _ _ (by omega) (by omega)
  · intro e
    have e0 := (V_main_arg0 m c).trans h0
    show _ = A0 (ix2 _ _)
    split_ifs with hq
    · rw [part_at]
      refine (block0 m c t A0 e0 _ _ ⟨4096 * b + 128 * n + i, by omega⟩ (by simp only; omega)).trans ?_
      exact congrArg (fun z => A0 (ix2 _ z)) (Fin.ext (by simp only; omega))
    · rw [part_at]
      refine (block0 m c t A0 e0 _ _ ⟨4096 * b + 128 * n + i, by omega⟩ (by simp only; omega)).trans ?_
      exact congrArg (fun z => A0 (ix2 _ z)) (Fin.ext (by simp only; omega))
  · intro j hj hv e
    have hv1 := hv.1
    have hv2 := hv.2.1
    refine four_band (fun p x => keysOf (iblk m c 4 t) (iblk m c 5 t) (iblk m c 6 t) p g (ix2 e x)) _ s j hj _ fun p x hp hx => ?_
    refine (keysOf_at m c t A1 h1 b hb p g x e (128 * n + j - 128) (by omega) (by omega)).trans ?_
    exact congrArg (fun z => A1 (ix2 z _)) (Fin.ext (by simp only; omega))
  · intro e x
    refine (ld7_at _ g e x).trans ?_
    refine (block7 m c t _ ((kt_eq m c).trans (congrArg metaKeysK h2)) _ x b hb).trans ?_
    rw [kt_at]
    refine dite_congr rfl (fun hx => ?_) (fun _ => rfl)
    exact congrArg (fun z => A2 (ix2 _ z)) (Fin.ext (by simp only; omega))
  · intro j
    obtain ⟨k, hk, hk1, hk2⟩ : ∃ k : Fin 3, biasOf (iblk m c 8 t) (iblk m c 9 t) (iblk m c 10 t) s g (ix4 0 0 ⟨128 * (l / 64) + i, by omega⟩ j) =
        stack (table inBand A3) (table (without 0#32) A3) (table (without 2#32) A3) (ix4 k g ⟨128 * (l / 64) + i, by omega⟩ j) ∧
        ((k : Nat) = 1 ↔ s.val = 0 ∧ t.val % 4 = 0) ∧ ((k : Nat) = 2 ↔ s.val = 7 ∧ t.val % 4 = 3) := by
      have e3 := (bias_eq m c).trans (congrArg (fun A => stack (table inBand A) (table (without 0#32) A) (table (without 2#32) A)) h3)
      by_cases s0 : s.val = 0
      · by_cases u : t.val % 4 = 0
        · refine ⟨1, ?_, by simp only [s0, u]; decide, by simp only [s0, u]; decide⟩
          rw [biasOf_at, if_pos s0]
          exact block8 m c t _ e3 g _ j 1 (by rw [if_pos u]; rfl)
        · refine ⟨0, ?_, by simp only [s0, u]; decide, by simp [s0]⟩
          rw [biasOf_at, if_pos s0]
          exact block8 m c t _ e3 g _ j 0 (by rw [if_neg u]; rfl)
      · by_cases s7 : s.val = 7
        · by_cases u : t.val % 4 = 3
          · refine ⟨2, ?_, by simp [s0], by simp [s7, u]⟩
            rw [biasOf_at, if_neg s0, if_pos s7]
            exact block10 m c t _ e3 g _ j 2 (by rw [if_pos u]; rfl)
          · refine ⟨0, ?_, by simp [s0], by simp [u]⟩
            rw [biasOf_at, if_neg s0, if_pos s7]
            exact block10 m c t _ e3 g _ j 0 (by rw [if_neg u]; rfl)
        · refine ⟨0, ?_, by simp [s0], by simp [s7]⟩
          rw [biasOf_at, if_neg s0, if_neg s7]
          exact block9 m c t _ e3 g _ j 0 rfl
    refine hk.trans ((bias_at A3 k g _ j h i (by simp only; omega) (by simp only; omega)).trans ?_)
    refine if_congr ?_ rfl rfl
    have hj := j.isLt
    have hs := s.isLt
    unfold Live
    constructor
    · rintro ⟨⟨u1, u2⟩, u3, u4⟩
      refine ⟨u1, ?_, ?_, u2⟩ <;> omega
    · rintro ⟨u1, u2, u3, u4⟩
      refine ⟨⟨u1, u4⟩, ?_, ?_⟩ <;> omega
  · intro x
    refine (ld11_at _ g _ x).trans ?_
    refine (block11 m c t _ (shift_eq m c) g _ x).trans ?_
    rw [shift_at]
    exact if_congr Iff.rfl (congrArg (fun z => Attention.slope z * _) (by simp only; omega)) rfl
  · intro j hj hv
    have hv1 := hv.1
    have hv2 := hv.2.1
    refine four_band (fun p x => valuesOf (iblk m c 0 t) (iblk m c 1 t) (iblk m c 2 t) p g (ix2 x ⟨l % 64, by omega⟩)) _ s j hj _ fun p x hp hx => ?_
    refine (valuesOf_at m c t A0 h0 b hb p g x ⟨l % 64, by omega⟩ (128 * n + j - 128) (by omega) (by omega)).trans ?_
    exact congrArg (fun z => A0 (ix2 _ z)) (Fin.ext (by simp only; omega))
  · intro x
    refine dite_congr rfl (fun hx => ?_) (fun _ => rfl)
    rw [part_at]
    refine (block3 m c t A2 ((V_main_arg2 m c).trans h2) _ _ ⟨16 * b + x, by have : (x : Nat) < 16 := hx; omega⟩ ⟨1024 + 128 * (h / 4) + d, by omega⟩
      (by simp only; omega) (by simp only; omega)).trans ?_
    rfl

end Cert.KernelIdeal.Attention

end
-- ==== Proof.Attention.Finite.lean ====
/- The precondition, read: real queries and keys, and no sink at `⊤`. -/
module

public import proofs.«01_k».proof.Proof.Gen.KernelIdeal.Frame
public import proofs.«01_k».proof.Proof.Attention.Match
public import proofs.«01_k».proof.Proof.Attention.Spec
public import Idealize.ShloMosaic.Lib.Claim
public import proofs.«01_k».proof.Pre_scores_finite

@[expose] public section

set_option maxRecDepth 16384

noncomputable section

namespace Cert.KernelIdeal.Attention

open Idealize.ShloMosaic Idealize.ShloMosaic.TcCoe Idealize.SL.Sem
open Idealize.ShloMosaic.Pipeline (Dat)
open Cert.KernelIdeal Cert.KernelIdeal.Gen Cert.Attention

/-- A number that compares below infinity. -/
theorem lt_top_of (x : EReal) (h : (FloatOps.cmpf (F := Ideal) (φ := .f32) CmpFPredicate.olt x (Ideal.ofBits .f32 2139095040#32)) = 1#1) : x < ⊤ := by
  have e : Ideal.ofBits .f32 2139095040#32 = ⊤ := rfl
  rw [e] at h
  change (BitVec.ofBool (decide (x < ⊤))) = 1#1 at h
  by_contra hc
  rw [decide_eq_false hc] at h
  exact absurd h (by decide)

/-- A number whose absolute value compares below infinity. -/
theorem real_of_abs (x : EReal) (h : (FloatOps.cmpf (F := Ideal) (φ := .f32) CmpFPredicate.olt (FloatOps.hostAbsf (F := Ideal) (φ := .f32) x) (Ideal.ofBits .f32 2139095040#32)) = 1#1) : ∃ r : ℝ, x = (r : EReal) := by
  have h' := lt_top_of _ h
  induction x using EReal.rec with
  | bot => exact absurd h' (by show ¬ ((⊥ : EReal) ⊔ -⊥) < ⊤; simp)
  | top => exact absurd h' (by show ¬ ((⊤ : EReal) ⊔ -⊤) < ⊤; simp)
  | coe r => exact ⟨r, rfl⟩

/-- The precondition's four conjuncts. -/
theorem finite_of [Cert.Pre_scores_finite.Facts] (A0 : FVec Ideal S65536x1536 .bf16) (A1 : FVec Ideal S256x65536 .bf16) (A2 : FVec Ideal S256x1536 .bf16)
    (A3 : FVec Ideal S1x16 .f32) (h0 : (Cert.Pre_scores_finite.fn (F := Ideal) A0 A1 A2 A3).1 = fun _ => 1#1)
    (h1 : (Cert.Pre_scores_finite.fn (F := Ideal) A0 A1 A2 A3).2.1 = fun _ => 1#1) (h2 : (Cert.Pre_scores_finite.fn (F := Ideal) A0 A1 A2 A3).2.2.1 = fun _ => 1#1)
    (h3 : (Cert.Pre_scores_finite.fn (F := Ideal) A0 A1 A2 A3).2.2.2 = fun _ => 1#1) : Finite A0 A1 A2 A3 := by
  refine ⟨fun b n i h d => ?_, fun i => real_of_abs _ (congrFun h1 i), fun b h m d => ?_, fun i => (lt_top_of _ (congrFun h3 i)).ne⟩
  · refine real_of_abs _ ((congrArg (fun z => FloatOps.cmpf (F := Ideal) (φ := .f32) CmpFPredicate.olt (FloatOps.hostAbsf (F := Ideal) (φ := .f32) z) (Ideal.ofBits .f32 2139095040#32)) ?_).trans (congrFun h0 (ix2 ⟨4096 * b + 128 * n + i, by omega⟩ ⟨64 * h + d, by omega⟩)))
    pointwise [query]
  · refine real_of_abs _ ((congrArg (fun z => FloatOps.cmpf (F := Ideal) (φ := .f32) CmpFPredicate.olt (FloatOps.hostAbsf (F := Ideal) (φ := .f32) z) (Ideal.ofBits .f32 2139095040#32)) ?_).trans (congrFun h2 (ix3 ⟨16 * b + m, by omega⟩ ⟨h / 4, by omega⟩ d)))
    pointwise [metaKey]
    exact congrArg₂ (fun s t => A2 (ix2 s t)) rfl (Fin.ext (by simp only; omega))

end Cert.KernelIdeal.Attention

end
-- ==== Proof.Attention.Array.lean ====
/- The call's result array is the reference's attention. -/
module

public import proofs.«01_k».proof.Proof.Gen.KernelIdeal.Frame
public import proofs.«01_k».proof.Proof.Attention.Match
public import proofs.«01_k».proof.Proof.Attention.TableRun
public import proofs.«01_k».proof.Proof.Attention.Piece
public import proofs.«01_k».proof.Proof.Attention.Finite
public import proofs.«01_k».proof.Proof.Attention.RefValue
public import Idealize.ShloMosaic.Lib.Pipeline.ValueKit
public import proofs.«01_k».proof.Proof.Attention.Spec
public import Idealize.ShloMosaic.Lib.Claim

@[expose] public section

set_option maxRecDepth 16384

noncomputable section

namespace Cert.KernelIdeal.Attention

open Idealize.ShloMosaic Idealize.ShloMosaic.TcCoe Idealize.SL.Sem
open Idealize.ShloMosaic.Pipeline (Dat)
open Cert.KernelIdeal Cert.KernelIdeal.Gen Cert.Attention

variable (m : (ℓ : Loc nD τ sig) → Buf (Elt Ideal) ℓ)

open Cert.ReferenceIdeal.Attention (attention attention_at bandValue bandValue_live)

/-- Where an index of the output block sits. -/
theorem place12 {α : Type} (T : S65536x1024.Idx → α) (t : Fin cfg0.N) (r l : Fin 1024) (r' : Fin 65536) (hr : (r' : Nat) = 1024 * t.val + r) :
    T ((win0_12.blk t).view.emb (ix2 r l)) = T (ix2 r' l) := by
  refine congrArg T ?_
  blk_ext [idx t]

/-- One entry of the output block. -/
theorem block_at (c : Dev nD) (t : Fin cfg0.N) {A0 : FVec Ideal S65536x1536 .bf16} {A1 : FVec Ideal S256x65536 .bf16} {A2 : FVec Ideal S256x1536 .bf16}
    {A3 : FVec Ideal S1x16 .f32}
    (h0 : m ((c : Thread nD τ).loc main_arg0) = A0) (h1 : m ((c : Thread nD τ).loc main_arg1) = A1)
    (h2 : m ((c : Thread nD τ).loc main_arg2) = A2) (h3 : m ((c : Thread nD τ).loc main_arg3) = A3) (H : Finite A0 A1 A2 A3)
    (r l : Fin 1024) (r' : Fin 65536) (hr : (r' : Nat) = 1024 * t.val + r) :
    out0_12 (F := Ideal) (grid0.coords t) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (ix2 r l) = attention A0 A1 A2 A3 (ix2 r' l) := by
  have ht : t.val < 64 := t.isLt
  rw [out_eq]
  refine View.canon_ofFn_unit_eq_of_forall _ _ _ _ _ _ ⟨⟨4 * (7 - r / 128) + (3 - l / 256), by omega⟩, fun a => ?_⟩ fun k x hx => ?_
  · fin_cases a
    · show 128 * (7 - (4 * (7 - (r : Nat) / 128) + (3 - l / 256)) / 4) ≤ (r : Nat) ∧ (r : Nat) < 128 * (7 - (4 * (7 - (r : Nat) / 128) + (3 - l / 256)) / 4) + 128
      omega
    · show 256 * (3 - (4 * (7 - (r : Nat) / 128) + (3 - l / 256)) % 4) ≤ (l : Nat) ∧ (l : Nat) < 256 * (3 - (4 * (7 - (r : Nat) / 128) + (3 - l / 256)) % 4) + 256
      omega
  · obtain ⟨i, e, rfl⟩ : ∃ (i : Fin 128) (e : Fin 256), x = ix2 i e := ⟨x 0, x 1, by funext a; fin_cases a <;> rfl⟩
    have hx0 : (r : Nat) = 128 * (blockOf k).val + i := hx 0
    have hx1 : (l : Nat) = 256 * (groupOf k).val + e := hx 1
    have hs := (blockOf k).isLt
    have hg := (groupOf k).isLt
    refine (piece_at m c t h0 h1 h2 h3 ⟨t.val / 4, by omega⟩ rfl H (blockOf k) (groupOf k) i e ⟨8 * (t.val % 4) + (blockOf k).val, by omega⟩
      ⟨4 * (groupOf k).val + e / 64, by omega⟩ ⟨e % 64, by omega⟩ rfl rfl rfl _ (fun j hl => bandValue_live A0 A2 _ _ i _ _ j hl)).trans ?_
    exact (attention_at A0 A1 A2 A3 _ _ i _ _ r' l (by simp only; omega) (by simp only; omega)).symm

/-- The result array after the run. -/
theorem final (c : Dev nD) {A0 : FVec Ideal S65536x1536 .bf16} {A1 : FVec Ideal S256x65536 .bf16} {A2 : FVec Ideal S256x1536 .bf16}
    {A3 : FVec Ideal S1x16 .f32}
    (h0 : m ((c : Thread nD τ).loc main_arg0) = A0) (h1 : m ((c : Thread nD τ).loc main_arg1) = A1)
    (h2 : m ((c : Thread nD τ).loc main_arg2) = A2) (h3 : m ((c : Thread nD τ).loc main_arg3) = A3) (H : Finite A0 A1 A2 A3) :
    (dats m 0 c).arrAt 12 (cfgs 0).N = attention A0 A1 A2 A3 := by
  refine (dats m 0 c).arrAt_eq_of_covers 12 _ (by decide +kernel) fun t _ y => ?_
  have ht : t.val < 64 := t.isLt
  obtain ⟨r, l, rfl⟩ : ∃ (r l : Fin 1024), y = ix2 r l := ⟨y 0, y 1, by funext a; fin_cases a <;> rfl⟩
  blk_simp
  rw [after0_12]
  exact (block_at m c t h0 h1 h2 h3 H r l ⟨1024 * t.val + r, by omega⟩ rfl).trans (place12 (attention A0 A1 A2 A3) t r l _ rfl).symm

end Cert.KernelIdeal.Attention

end
-- ==== Proof.Mlp.Spec.lean ====
/- One row of the output projection and the MLP, as functions of the row and of the weights. -/
module

public import Idealize.ShloMosaic.Lib.Pointwise

@[expose] public section

noncomputable section

namespace Cert.Mlp

open Idealize.ShloMosaic

/-- A row divided by its root mean square and scaled by `g`. -/
def normed (x g : Fin 1024 → EReal) (j : Fin 1024) : EReal :=
  x j * Ideal.rsqrt (Ideal.div (∑ k : Fin 1024, x k * x k) (Ideal.ofBits .f32 0x44800000#32) + Ideal.ofBits .f32 0x358637BD#32) * g j

/-- The squared positive part. -/
def act (x : EReal) : EReal := max x 0 * max x 0

/-- The MLP's output for the normed row `u`: 4096 activations times the second weights. -/
def ffn (u : Fin 1024 → EReal) (w1 : Fin 1024 → Fin 4096 → EReal) (w2 : Fin 4096 → Fin 1024 → EReal) (j : Fin 1024) : EReal :=
  ∑ f : Fin 4096, act (∑ k : Fin 1024, u k * w1 k f) * w2 f j

/-- A row with its MLP's output added. -/
def grown (h g : Fin 1024 → EReal) (w1 : Fin 1024 → Fin 4096 → EReal) (w2 : Fin 4096 → Fin 1024 → EReal) (j : Fin 1024) : EReal :=
  h j + ffn (normed h g) w1 w2 j

/-- The part of the MLP's output that the 1024 activations from `o` on make. -/
def part (u : Fin 1024 → EReal) (w1 : Fin 1024 → Fin 4096 → EReal) (w2 : Fin 4096 → Fin 1024 → EReal) (j : Fin 1024)
    (o : Nat) (ho : o + 1024 ≤ 4096) : EReal :=
  ∑ f : Fin 1024, act (∑ k : Fin 1024, u k * w1 k ⟨o + f, by omega⟩) * w2 ⟨o + f, by omega⟩ j

/-- The output is the sum of its four parts. -/
theorem ffn_parts (u : Fin 1024 → EReal) (w1 : Fin 1024 → Fin 4096 → EReal) (w2 : Fin 4096 → Fin 1024 → EReal) (j : Fin 1024) :
    ffn u w1 w2 j = part u w1 w2 j 0 (by omega) + part u w1 w2 j 1024 (by omega) + part u w1 w2 j 2048 (by omega) +
      part u w1 w2 j 3072 (by omega) := by
  unfold ffn
  rw [Fin.sum_univ_tiles 4 1024 rfl, Fin.sum_univ_four]
  rfl

end Cert.Mlp

end
-- ==== Proof.Mlp.Last.lean ====
/- What the last layer's call computes for one block of 1024 rows. -/
module

public import proofs.«01_k».proof.Proof.Gen.Kernel2Ideal.Skeleton
public import proofs.«01_k».proof.Proof.Mlp.Spec

@[expose] public section

set_option maxRecDepth 16384

noncomputable section

namespace Cert.Kernel2Ideal.Mlp

open Idealize.ShloMosaic Idealize.ShloMosaic.TcCoe Idealize.SL.Sem
open Cert.Kernel2Ideal Cert.Kernel2Ideal.Gen Cert.Mlp

/-- The residual row with the projected mixer's output and the bias. -/
theorem pay2_at (v0 : Vec Ideal S1024x1024 .f32) (v1 v2 : Vec Ideal S1024x1024 .bf16) (v6 : Vec Ideal S1x1024 .f32) (r j : Fin 1024) :
    k0_pay2 (F := Ideal) v0 v1 v2 v6 (ix2 r j) = v0 (ix2 r j) + (∑ k : Fin 1024, v1 (ix2 r k) * v2 (ix2 k j)) + v6 (ix2 0 j) := by
  pointwise [k0_pay2]

/-- Its normed row. -/
theorem pay3_at (v0 : Vec Ideal S1024x1024 .f32) (v1 v2 : Vec Ideal S1024x1024 .bf16) (v6 v10 : Vec Ideal S1x1024 .f32) (r j : Fin 1024) :
    k0_pay3 (F := Ideal) v0 v1 v2 v6 v10 (ix2 r j) =
      normed (fun k => k0_pay2 (F := Ideal) v0 v1 v2 v6 (ix2 r k)) (fun k => v10 (ix2 0 k)) j := by
  pointwise [k0_pay3, normed]

/-- The first chunk of 1024 activations. -/
theorem pay4_at (v0 : Vec Ideal S1024x1024 .f32) (v1 v2 : Vec Ideal S1024x1024 .bf16) (v6 v10 : Vec Ideal S1x1024 .f32)
    (a b : Vec Ideal S1024x1024 .bf16) (r j : Fin 1024) :
    k0_pay4 (F := Ideal) v0 v1 v2 v6 v10 a b (ix2 r j) = k0_pay2 (F := Ideal) v0 v1 v2 v6 (ix2 r j) +
      ∑ f : Fin 1024, act (∑ k : Fin 1024, k0_pay3 (F := Ideal) v0 v1 v2 v6 v10 (ix2 r k) * a (ix2 k f)) * b (ix2 f j) := by
  pointwise [k0_pay4, act]

/-- The other three chunks. -/
theorem pay5_at (u : FVec Ideal S1024x1024 .bf16) (s : FVec Ideal S1024x1024 .f32) (a b a' b' a'' b'' : Vec Ideal S1024x1024 .bf16)
    (r j : Fin 1024) :
    k0_pay5 (F := Ideal) u s a b a' b' a'' b'' (ix2 r j) = s (ix2 r j) +
      (∑ f : Fin 1024, act (∑ k : Fin 1024, u (ix2 r k) * a (ix2 k f)) * b (ix2 f j)) +
      (∑ f : Fin 1024, act (∑ k : Fin 1024, u (ix2 r k) * a' (ix2 k f)) * b' (ix2 f j)) +
      (∑ f : Fin 1024, act (∑ k : Fin 1024, u (ix2 r k) * a'' (ix2 k f)) * b'' (ix2 f j)) := by
  pointwise [k0_pay5, act]

/-- The final norm. -/
theorem pay1_at (u : FVec Ideal S1024x1024 .bf16) (s : FVec Ideal S1024x1024 .f32) (a b a' b' a'' b'' : Vec Ideal S1024x1024 .bf16)
    (g : Vec Ideal S1x1024 .f32) (r j : Fin 1024) :
    k0_pay1 (F := Ideal) (k0_pay5 u s a b a' b' a'' b'') (k0_pay6 g) (k0_pay7 u s a b a' b' a'' b'') (ix2 r j) =
      normed (fun k => k0_pay5 (F := Ideal) u s a b a' b' a'' b'' (ix2 r k)) (fun k => g (ix2 0 k)) j := by
  pointwise [k0_pay1, k0_pay6, k0_pay7, normed]

end Cert.Kernel2Ideal.Mlp

end
-- ==== Proof.Mlp.LastBlock.lean ====
/- The block of 1024 rows that a grid point of the last layer's call writes, row by row. -/
module

public import proofs.«01_k».proof.Proof.Gen.Kernel2Ideal.Frame
public import proofs.«01_k».proof.Proof.Mlp.Last
public import Idealize.ShloMosaic.Lib.Pipeline.Value

@[expose] public section

set_option maxRecDepth 16384

noncomputable section

namespace Cert.Kernel2Ideal.Mlp

open Idealize.ShloMosaic Idealize.ShloMosaic.TcCoe Idealize.SL.Sem
open Cert.Kernel2Ideal Cert.Kernel2Ideal.Gen Cert.Mlp

/-- The block's only store covers it whole, and its whole loads are the blocks themselves. -/
theorem out_eq (x0 : Vec Ideal S1024x1024 .f32) (x1 x2 : Vec Ideal S1024x1024 .bf16) (x3 x4 : Vec Ideal S1x1024 .f32)
    (x5 : Vec Ideal S1024x4096 .bf16) (x6 : Vec Ideal S4096x1024 .bf16) (x7 : Vec Ideal S1x1024 .f32) :
    out0_8 (F := Ideal) x0 x1 x2 x3 x4 x5 x6 x7 =
      k0_pay1 (k0_pay5 (k0_pay3 x0 x1 x2 x3 x4) (k0_pay4 x0 x1 x2 x3 x4 (View.ld x5 r0_2) (View.ld x6 r0_3)) (View.ld x5 r0_4) (View.ld x6 r0_5)
        (View.ld x5 r0_6) (View.ld x6 r0_7) (View.ld x5 r0_8) (View.ld x6 r0_9)) (k0_pay6 x7)
        (k0_pay7 (k0_pay3 x0 x1 x2 x3 x4) (k0_pay4 x0 x1 x2 x3 x4 (View.ld x5 r0_2) (View.ld x6 r0_3)) (View.ld x5 r0_4) (View.ld x6 r0_5)
        (View.ld x5 r0_6) (View.ld x6 r0_7) (View.ld x5 r0_8) (View.ld x6 r0_9)) := by
  have z : (![0, 0] : Fin 2 → Nat) = fun _ => 0 := by
    funext a; fin_cases a <;> rfl
  unfold out0_8 k0_pay8 k0_pay9
  rw [View.canon_unit_zero z, View.ld_unit_zero z, View.ld_unit_zero z, View.ld_unit_zero z, View.ld_unit_zero z, View.ld_unit_zero z,
    View.ld_unit_zero z]

/-- A chunk of columns of the first weights, and of rows of the second. -/
theorem columns_at (x : Vec Ideal S1024x4096 .bf16) (o : Nat) (ho : o + 1024 ≤ 4096) (inb) (k f : Fin 1024) :
    View.ld (Val := Elt Ideal) x (Rect.unit (s := S1024x4096) ![0, o] S1024x1024.size inb) (ix2 k f) = x (ix2 k ⟨o + f, by omega⟩) := by
  refine congrArg x ?_
  funext a
  fin_cases a <;> exact Fin.ext (by simp)

theorem rows_at (x : Vec Ideal S4096x1024 .bf16) (o : Nat) (ho : o + 1024 ≤ 4096) (inb) (f j : Fin 1024) :
    View.ld (Val := Elt Ideal) x (Rect.unit (s := S4096x1024) ![o, 0] S1024x1024.size inb) (ix2 f j) = x (ix2 ⟨o + f, by omega⟩ j) := by
  refine congrArg x ?_
  funext a
  fin_cases a <;> exact Fin.ext (by simp)

/-- A chunk's part of the MLP's output. -/
theorem part_at (u : Fin 1024 → EReal) (x5 : Vec Ideal S1024x4096 .bf16) (x6 : Vec Ideal S4096x1024 .bf16) (j : Fin 1024) (o : Nat) (ho : o + 1024 ≤ 4096)
    (a b : Vec Ideal S1024x1024 .bf16) (ha : ∀ k f : Fin 1024, a (ix2 k f) = x5 (ix2 k ⟨o + f, by omega⟩))
    (hb : ∀ f j : Fin 1024, b (ix2 f j) = x6 (ix2 ⟨o + f, by omega⟩ j)) :
    (∑ f : Fin 1024, act (∑ k : Fin 1024, u k * a (ix2 k f)) * b (ix2 f j)) =
      part u (fun k f => x5 (ix2 k f)) (fun f j => x6 (ix2 f j)) j o ho := by
  unfold part
  refine Finset.sum_congr rfl fun f _ => ?_
  rw [hb]
  refine congrArg (fun z => act z * _) (Finset.sum_congr rfl fun k _ => ?_)
  rw [ha]

/-- A row grown by its projection, its bias and its MLP's output. -/
theorem grown_at (x0 : Vec Ideal S1024x1024 .f32) (x1 x2 : Vec Ideal S1024x1024 .bf16) (x3 x4 : Vec Ideal S1x1024 .f32)
    (x5 : Vec Ideal S1024x4096 .bf16) (x6 : Vec Ideal S4096x1024 .bf16) (r j : Fin 1024) :
    k0_pay5 (F := Ideal) (k0_pay3 x0 x1 x2 x3 x4) (k0_pay4 x0 x1 x2 x3 x4 (View.ld x5 r0_2) (View.ld x6 r0_3)) (View.ld x5 r0_4) (View.ld x6 r0_5)
        (View.ld x5 r0_6) (View.ld x6 r0_7) (View.ld x5 r0_8) (View.ld x6 r0_9) (ix2 r j) =
      grown (fun k => x0 (ix2 r k) + (∑ l : Fin 1024, x1 (ix2 r l) * x2 (ix2 l k)) + x3 (ix2 0 k)) (fun k => x4 (ix2 0 k))
        (fun k f => x5 (ix2 k f)) (fun f j => x6 (ix2 f j)) j := by
  have hu : (fun k => k0_pay3 (F := Ideal) x0 x1 x2 x3 x4 (ix2 r k)) =
      normed (fun k => x0 (ix2 r k) + (∑ l : Fin 1024, x1 (ix2 r l) * x2 (ix2 l k)) + x3 (ix2 0 k)) (fun k => x4 (ix2 0 k)) := by
    funext j
    rw [pay3_at]
    simp only [pay2_at]
  rw [pay5_at, pay4_at, pay2_at]
  unfold grown
  rw [ffn_parts, ← hu]
  simp only [← add_assoc]
  refine congrArg₂ (· + ·) (congrArg₂ (· + ·) (congrArg₂ (· + ·) (congrArg₂ (· + ·) rfl ?_) ?_) ?_) ?_
  · exact part_at _ x5 x6 j 0 _ _ _ (fun _ _ => columns_at x5 0 (by omega) _ _ _) (fun _ _ => rows_at x6 0 (by omega) _ _ _)
  · exact part_at _ x5 x6 j 1024 _ _ _ (fun _ _ => columns_at x5 1024 (by omega) _ _ _) (fun _ _ => rows_at x6 1024 (by omega) _ _ _)
  · exact part_at _ x5 x6 j 2048 _ _ _ (fun _ _ => columns_at x5 2048 (by omega) _ _ _) (fun _ _ => rows_at x6 2048 (by omega) _ _ _)
  · exact part_at _ x5 x6 j 3072 _ _ _ (fun _ _ => columns_at x5 3072 (by omega) _ _ _) (fun _ _ => rows_at x6 3072 (by omega) _ _ _)

/-- An entry of the block: the grown row, normed. -/
theorem out_at (x0 : Vec Ideal S1024x1024 .f32) (x1 x2 : Vec Ideal S1024x1024 .bf16) (x3 x4 : Vec Ideal S1x1024 .f32)
    (x5 : Vec Ideal S1024x4096 .bf16) (x6 : Vec Ideal S4096x1024 .bf16) (x7 : Vec Ideal S1x1024 .f32) (r j : Fin 1024) :
    out0_8 (F := Ideal) x0 x1 x2 x3 x4 x5 x6 x7 (ix2 r j) =
      normed (grown (fun k => x0 (ix2 r k) + (∑ l : Fin 1024, x1 (ix2 r l) * x2 (ix2 l k)) + x3 (ix2 0 k)) (fun k => x4 (ix2 0 k))
        (fun k f => x5 (ix2 k f)) (fun f j => x6 (ix2 f j))) (fun k => x7 (ix2 0 k)) j := by
  rw [out_eq, pay1_at]
  exact congrArg (fun z => normed z _ j) (funext fun k => grown_at x0 x1 x2 x3 x4 x5 x6 r k)

end Cert.Kernel2Ideal.Mlp

end
-- ==== Proof.Mlp.LastArray.lean ====
/- The last layer's call: what each grid point stages, and its result array. -/
module

public import proofs.«01_k».proof.Proof.Mlp.LastBlock
public import Idealize.ShloMosaic.Lib.Pipeline.ValueKit
public import Idealize.ShloMosaic.Lib.StableHlo.RunRead
public import Idealize.ShloMosaic.Lib.Claim

@[expose] public section

set_option maxRecDepth 16384

noncomputable section

namespace Cert.Kernel2Ideal.Mlp

open Idealize.ShloMosaic Idealize.ShloMosaic.TcCoe Idealize.SL.Sem
open Idealize.ShloMosaic.Pipeline (Dat)
open Cert.Kernel2Ideal Cert.Kernel2Ideal.Gen Cert.Mlp

variable (m : (ℓ : Loc nD τ sig) → Buf (Elt Ideal) ℓ)

/-! ## The operands that the host prepares -/

/-- The layer's weights, cut out of the stacked ones. -/
def weights1 (x : FVec Ideal S2x1024x4096 .f32) : FVec Ideal S1024x4096 .bf16 :=
  truncf .bf16 (shapeCast S1024x4096 (extractStridedSlice S1x1024x4096 ![1, 0, 0] x slices_S2x1024x4096_S1x1024x4096_1_0_0)
    shapeCasts_S1x1024x4096_S1024x4096) bitsLt_bf16_f32

def weights2 (x : FVec Ideal S2x4096x1024 .f32) : FVec Ideal S4096x1024 .bf16 :=
  truncf .bf16 (shapeCast S4096x1024 (extractStridedSlice S1x4096x1024 ![1, 0, 0] x slices_S2x4096x1024_S1x4096x1024_1_0_0)
    shapeCasts_S1x4096x1024_S4096x1024) bitsLt_bf16_f32

def projection (x : FVec Ideal S1x1024x1024 .f32) : FVec Ideal S1024x1024 .bf16 :=
  truncf .bf16 (shapeCast S1024x1024 x shapeCasts_S1x1024x1024_S1024x1024) bitsLt_bf16_f32

/-- The bias is zero. -/
def bias : FVec Ideal S1x1024 .f32 :=
  shapeCast S1x1024 (broadcastInDim S1024 ![] bcast_S_S1024 (constant (F := Ideal) S_ .f32 0x00000000#32)) shapeCasts_S1024_S1x1024

/-- The layer's scales, and the final norm's. -/
def scales (x : FVec Ideal S2x1024 .f32) : FVec Ideal S1x1024 .f32 :=
  shapeCast S1x1024 (shapeCast S1024 (extractStridedSlice S1x1024 ![1, 0] x slices_S2x1024_S1x1024_1_0) shapeCasts_S1x1024_S1024)
    shapeCasts_S1024_S1x1024

def finalScales (x : FVec Ideal S1024 .f32) : FVec Ideal S1x1024 .f32 := shapeCast S1x1024 x shapeCasts_S1024_S1x1024

theorem weights1_at (x : FVec Ideal S2x1024x4096 .f32) (k : Fin 1024) (f : Fin 4096) : weights1 x (ix2 k f) = x (ix3 1 k f) := by
  pointwise [weights1]

theorem weights2_at (x : FVec Ideal S2x4096x1024 .f32) (f : Fin 4096) (j : Fin 1024) : weights2 x (ix2 f j) = x (ix3 1 f j) := by
  pointwise [weights2]

theorem projection_at (x : FVec Ideal S1x1024x1024 .f32) (k j : Fin 1024) : projection x (ix2 k j) = x (ix3 0 k j) := by
  pointwise [projection]

theorem bias_at (j : Fin 1024) : bias (ix2 0 j) = 0 := by
  pointwise [bias]

theorem scales_at (x : FVec Ideal S2x1024 .f32) (j : Fin 1024) : scales x (ix2 0 j) = x (ix2 1 j) := by
  pointwise [scales]

theorem finalScales_at (x : FVec Ideal S1024 .f32) (j : Fin 1024) : finalScales x (ix2 0 j) = x (ix1 j) := by
  pointwise [finalScales]

theorem weights1_eq (c : Dev nD) : V m c main_v3 = weights1 (m ((c.tc : Thread nD τ).loc main_arg4)) := by
  unfold V; after_reads_simp; rfl

theorem weights2_eq (c : Dev nD) : V m c main_v6 = weights2 (m ((c.tc : Thread nD τ).loc main_arg5)) := by
  unfold V; after_reads_simp; rfl

theorem projection_eq (c : Dev nD) : V m c main_v8 = projection (m ((c.tc : Thread nD τ).loc main_arg2)) := by
  unfold V; after_reads_simp; rfl

theorem bias_eq (c : Dev nD) : V m c main_v11 = bias := by
  unfold V; after_reads_simp; rfl

theorem scales_eq (c : Dev nD) : V m c main_v12 = scales (m ((c.tc : Thread nD τ).loc main_arg3)) := by
  unfold V; after_reads_simp; rfl

theorem finalScales_eq (c : Dev nD) : V m c main_v13 = finalScales (m ((c.tc : Thread nD τ).loc main_arg6)) := by
  unfold V; after_reads_simp; rfl

/-! ## The blocks: rows `1024 t` on of the row arrays, the other operands whole -/

theorem idx : ∀ t : Fin cfg0.N, win0_0.index t = ![t.val, 0] ∧ win0_1.index t = ![t.val, 0] ∧ win0_2.index t = ![0, 0] ∧
    win0_3.index t = ![0, 0] ∧ win0_4.index t = ![0, 0] ∧ win0_5.index t = ![0, 0] ∧ win0_6.index t = ![0, 0] ∧
    win0_7.index t = ![0, 0] ∧ win0_8.index t = ![t.val, 0] ∧ t.val < 64 :=
  (by decide +kernel : ∀ t : Fin grid0.N, _)

section Reads

variable (c : Dev nD) (W : (b : Ref sig .tc) → Buf (Elt Ideal) ((c : Thread nD τ).loc b)) (t : Fin cfg0.N)

theorem read0 (T : Vec Ideal S65536x1024 .f32) (h : W main_arg0 = T) (r l : Fin 1024) (r' : Fin 65536) (hr : (r' : Nat) = 1024 * t.val + r) :
    View.read (Elt Ideal) ((cfg0.win 0).blk t).view (W (Pipeline.arrRef spec0 0)) (ix2 r l : S1024x1024.Idx) = T (ix2 r' l) := by
  subst h
  refine congrArg (W main_arg0) ?_
  blk_ext [idx t]

theorem read1 (T : Vec Ideal S65536x1024 .bf16) (h : W main_arg1 = T) (r l : Fin 1024) (r' : Fin 65536) (hr : (r' : Nat) = 1024 * t.val + r) :
    View.read (Elt Ideal) ((cfg0.win 1).blk t).view (W (Pipeline.arrRef spec0 1)) (ix2 r l : S1024x1024.Idx) = T (ix2 r' l) := by
  subst h
  refine congrArg (W main_arg1) ?_
  blk_ext [idx t]

theorem read2 (T : Vec Ideal S1024x1024 .bf16) (h : W main_v8 = T) (r l : Fin 1024) :
    View.read (Elt Ideal) ((cfg0.win 2).blk t).view (W (Pipeline.arrRef spec0 2)) (ix2 r l : S1024x1024.Idx) = T (ix2 r l) := by
  subst h
  refine congrArg (W main_v8) ?_
  blk_ext [idx t]

theorem read3 (T : Vec Ideal S1x1024 .f32) (h : W main_v11 = T) (l : Fin 1024) :
    View.read (Elt Ideal) ((cfg0.win 3).blk t).view (W (Pipeline.arrRef spec0 3)) (ix2 0 l : S1x1024.Idx) = T (ix2 0 l) := by
  subst h
  refine congrArg (W main_v11) ?_
  blk_ext [idx t]

theorem read4 (T : Vec Ideal S1x1024 .f32) (h : W main_v12 = T) (l : Fin 1024) :
    View.read (Elt Ideal) ((cfg0.win 4).blk t).view (W (Pipeline.arrRef spec0 4)) (ix2 0 l : S1x1024.Idx) = T (ix2 0 l) := by
  subst h
  refine congrArg (W main_v12) ?_
  blk_ext [idx t]

theorem read5 (T : Vec Ideal S1024x4096 .bf16) (h : W main_v3 = T) (r : Fin 1024) (l : Fin 4096) :
    View.read (Elt Ideal) ((cfg0.win 5).blk t).view (W (Pipeline.arrRef spec0 5)) (ix2 r l : S1024x4096.Idx) = T (ix2 r l) := by
  subst h
  refine congrArg (W main_v3) ?_
  blk_ext [idx t]

theorem read6 (T : Vec Ideal S4096x1024 .bf16) (h : W main_v6 = T) (r : Fin 4096) (l : Fin 1024) :
    View.read (Elt Ideal) ((cfg0.win 6).blk t).view (W (Pipeline.arrRef spec0 6)) (ix2 r l : S4096x1024.Idx) = T (ix2 r l) := by
  subst h
  refine congrArg (W main_v6) ?_
  blk_ext [idx t]

theorem read7 (T : Vec Ideal S1x1024 .f32) (h : W main_v13 = T) (l : Fin 1024) :
    View.read (Elt Ideal) ((cfg0.win 7).blk t).view (W (Pipeline.arrRef spec0 7)) (ix2 0 l : S1x1024.Idx) = T (ix2 0 l) := by
  subst h
  refine congrArg (W main_v13) ?_
  blk_ext [idx t]

end Reads

/-- Where an index of the output block sits. -/
theorem place8 {α : Type} (T : S65536x1024.Idx → α) (t : Fin cfg0.N) (r l : Fin 1024) (r' : Fin 65536) (hr : (r' : Nat) = 1024 * t.val + r) :
    T ((win0_8.blk t).view.emb (ix2 r l)) = T (ix2 r' l) := by
  refine congrArg T ?_
  blk_ext [idx t]

/-! ## The result array -/

/-- An entry of the result, from the argument arrays. -/
def entry (x0 : FVec Ideal S65536x1024 .f32) (x1 : FVec Ideal S65536x1024 .bf16) (x2 : FVec Ideal S1x1024x1024 .f32) (x3 : FVec Ideal S2x1024 .f32)
    (x4 : FVec Ideal S2x1024x4096 .f32) (x5 : FVec Ideal S2x4096x1024 .f32) (x6 : FVec Ideal S1024 .f32) (r : Fin 65536) (j : Fin 1024) : EReal :=
  normed (grown (fun k => x0 (ix2 r k) + ∑ l : Fin 1024, x1 (ix2 r l) * x2 (ix3 0 l k)) (fun k => x3 (ix2 1 k))
    (fun k f => x4 (ix3 1 k f)) (fun f j => x5 (ix3 1 f j))) (fun k => x6 (ix1 k)) j

/-- One entry of the output block. -/
theorem block_at (c : Dev nD) (t : Fin cfg0.N) (r j : Fin 1024) (r' : Fin 65536) (hr : (r' : Nat) = 1024 * t.val + r) :
    out0_8 (F := Ideal) (iblk m c 0 t) (iblk m c 1 t) (iblk m c 2 t) (iblk m c 3 t) (iblk m c 4 t) (iblk m c 5 t) (iblk m c 6 t)
        (iblk m c 7 t) (ix2 r j) =
      entry (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) r' j := by
  have e0 : ∀ k : Fin 1024, (iblk m c 0 t : Vec Ideal S1024x1024 .f32) (ix2 r k) = _ :=
    fun k => read0 c (V m c) t _ (V_main_arg0 m c) r k r' hr
  have e1 : ∀ k : Fin 1024, (iblk m c 1 t : Vec Ideal S1024x1024 .bf16) (ix2 r k) = _ :=
    fun k => read1 c (V m c) t _ (V_main_arg1 m c) r k r' hr
  have e2 : ∀ l k : Fin 1024, (iblk m c 2 t : Vec Ideal S1024x1024 .bf16) (ix2 l k) = _ :=
    fun l k => (read2 c (V m c) t _ (projection_eq m c) l k).trans (projection_at _ l k)
  have e3 : ∀ k : Fin 1024, (iblk m c 3 t : Vec Ideal S1x1024 .f32) (ix2 0 k) = _ :=
    fun k => (read3 c (V m c) t _ (bias_eq m c) k).trans (bias_at k)
  have e4 : ∀ k : Fin 1024, (iblk m c 4 t : Vec Ideal S1x1024 .f32) (ix2 0 k) = _ :=
    fun k => (read4 c (V m c) t _ (scales_eq m c) k).trans (scales_at _ k)
  have e5 : ∀ (k : Fin 1024) (f : Fin 4096), (iblk m c 5 t : Vec Ideal S1024x4096 .bf16) (ix2 k f) = _ :=
    fun k f => (read5 c (V m c) t _ (weights1_eq m c) k f).trans (weights1_at _ k f)
  have e6 : ∀ (f : Fin 4096) (k : Fin 1024), (iblk m c 6 t : Vec Ideal S4096x1024 .bf16) (ix2 f k) = _ :=
    fun f k => (read6 c (V m c) t _ (weights2_eq m c) f k).trans (weights2_at _ f k)
  have e7 : ∀ k : Fin 1024, (iblk m c 7 t : Vec Ideal S1x1024 .f32) (ix2 0 k) = _ :=
    fun k => (read7 c (V m c) t _ (finalScales_eq m c) k).trans (finalScales_at _ k)
  rw [out_at]
  simp only [e0, e1, e2, e3, e4, e5, e6, e7, add_zero]
  rfl

/-- The result, from the argument arrays. -/
def result (x0 : FVec Ideal S65536x1024 .f32) (x1 : FVec Ideal S65536x1024 .bf16) (x2 : FVec Ideal S1x1024x1024 .f32) (x3 : FVec Ideal S2x1024 .f32)
    (x4 : FVec Ideal S2x1024x4096 .f32) (x5 : FVec Ideal S2x4096x1024 .f32) (x6 : FVec Ideal S1024 .f32) : FVec Ideal S65536x1024 .f32 :=
  fun y => entry x0 x1 x2 x3 x4 x5 x6 (y 0) (y 1)

/-- The result array after the run. -/
theorem final (c : Dev nD) : (dats m 0 c).arrAt 8 (cfgs 0).N =
    result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := by
  refine (dats m 0 c).arrAt_eq_of_covers 8 _ (by decide +kernel) fun t _ y => ?_
  have ht : t.val < 64 := t.isLt
  obtain ⟨r, l, rfl⟩ : ∃ (r l : Fin 1024), y = ix2 r l := ⟨y 0, y 1, by funext a; fin_cases a <;> rfl⟩
  blk_simp
  rw [after0_8]
  exact (block_at m c t r l ⟨1024 * t.val + r, by omega⟩ rfl).trans (place8 (result _ _ _ _ _ _ _) t r l _ rfl).symm

end Cert.Kernel2Ideal.Mlp

end
-- ==== Proof.Mlp.FirstBlock.lean ====
/- The block of 1024 rows that a grid point of the first layer's call writes: the last layer's rows before their final norm. -/
module

public import proofs.«01_k».proof.Proof.Gen.Kernel3Ideal.Frame
public import proofs.«01_k».proof.Proof.Mlp.LastBlock

@[expose] public section

set_option maxRecDepth 16384

noncomputable section

namespace Cert.Kernel3Ideal.Mlp

open Idealize.ShloMosaic Idealize.ShloMosaic.TcCoe Idealize.SL.Sem
open Cert.Kernel3Ideal Cert.Kernel3Ideal.Gen Cert.Mlp

/-- The block's only store covers it whole, and its whole loads are the blocks themselves. -/
theorem out_eq (x0 : Vec Ideal S1024x1024 .f32) (x1 x2 : Vec Ideal S1024x1024 .bf16) (x3 x4 : Vec Ideal S1x1024 .f32)
    (x5 : Vec Ideal S1024x4096 .bf16) (x6 : Vec Ideal S4096x1024 .bf16) (x7 : Vec Ideal S1x1024 .f32) :
    out0_8 (F := Ideal) x0 x1 x2 x3 x4 x5 x6 x7 =
      k0_pay1 (k0_pay3 x0 x1 x2 x3 x4) (k0_pay4 x0 x1 x2 x3 x4 (View.ld x5 r0_2) (View.ld x6 r0_3)) (View.ld x5 r0_4) (View.ld x6 r0_5)
        (View.ld x5 r0_6) (View.ld x6 r0_7) (View.ld x5 r0_8) (View.ld x6 r0_9) := by
  have z : (![0, 0] : Fin 2 → Nat) = fun _ => 0 := by
    funext a; fin_cases a <;> rfl
  unfold out0_8
  rw [View.canon_unit_zero z, View.ld_unit_zero z, View.ld_unit_zero z, View.ld_unit_zero z, View.ld_unit_zero z, View.ld_unit_zero z]

/-- The two calls' bodies agree up to the final norm. -/
theorem pay2_same : k0_pay2 (F := Ideal) = Cert.Kernel2Ideal.Gen.k0_pay2 (F := Ideal) := rfl

theorem pay3_same : k0_pay3 (F := Ideal) = Cert.Kernel2Ideal.Gen.k0_pay3 (F := Ideal) := by
  unfold k0_pay3 Cert.Kernel2Ideal.Gen.k0_pay3; rw [pay2_same]

theorem pay4_same : k0_pay4 (F := Ideal) = Cert.Kernel2Ideal.Gen.k0_pay4 (F := Ideal) := by
  unfold k0_pay4 Cert.Kernel2Ideal.Gen.k0_pay4; rw [pay2_same, pay3_same]; rfl

theorem pay1_same : k0_pay1 (F := Ideal) = Cert.Kernel2Ideal.Gen.k0_pay5 (F := Ideal) := rfl

/-- An entry of the block: the row grown by its projection, its bias and its MLP's output. -/
theorem out_at (x0 : Vec Ideal S1024x1024 .f32) (x1 x2 : Vec Ideal S1024x1024 .bf16) (x3 x4 : Vec Ideal S1x1024 .f32)
    (x5 : Vec Ideal S1024x4096 .bf16) (x6 : Vec Ideal S4096x1024 .bf16) (x7 : Vec Ideal S1x1024 .f32) (r j : Fin 1024) :
    out0_8 (F := Ideal) x0 x1 x2 x3 x4 x5 x6 x7 (ix2 r j) =
      grown (fun k => x0 (ix2 r k) + (∑ l : Fin 1024, x1 (ix2 r l) * x2 (ix2 l k)) + x3 (ix2 0 k)) (fun k => x4 (ix2 0 k))
        (fun k f => x5 (ix2 k f)) (fun f j => x6 (ix2 f j)) j := by
  rw [out_eq, pay1_same, pay3_same, pay4_same]
  exact Cert.Kernel2Ideal.Mlp.grown_at x0 x1 x2 x3 x4 x5 x6 r j

end Cert.Kernel3Ideal.Mlp

end
-- ==== Proof.Mlp.FirstArray.lean ====
/- The first layer's call: what each grid point stages, and its result array. -/
module

public import proofs.«01_k».proof.Proof.Mlp.FirstBlock
public import Idealize.ShloMosaic.Lib.Pipeline.ValueKit
public import Idealize.ShloMosaic.Lib.StableHlo.RunRead
public import Idealize.ShloMosaic.Lib.Claim

@[expose] public section

set_option maxRecDepth 16384

noncomputable section

namespace Cert.Kernel3Ideal.Mlp

open Idealize.ShloMosaic Idealize.ShloMosaic.TcCoe Idealize.SL.Sem
open Idealize.ShloMosaic.Pipeline (Dat)
open Cert.Kernel3Ideal Cert.Kernel3Ideal.Gen Cert.Mlp

variable (m : (ℓ : Loc nD τ sig) → Buf (Elt Ideal) ℓ)

/-! ## The operands that the host prepares -/

/-- The layer's weights, cut out of the stacked ones. -/
def weights1 (x : FVec Ideal S2x1024x4096 .f32) : FVec Ideal S1024x4096 .bf16 :=
  truncf .bf16 (shapeCast S1024x4096 (extractStridedSlice S1x1024x4096 ![0, 0, 0] x slices_S2x1024x4096_S1x1024x4096_0_0_0)
    shapeCasts_S1x1024x4096_S1024x4096) bitsLt_bf16_f32

def weights2 (x : FVec Ideal S2x4096x1024 .f32) : FVec Ideal S4096x1024 .bf16 :=
  truncf .bf16 (shapeCast S4096x1024 (extractStridedSlice S1x4096x1024 ![0, 0, 0] x slices_S2x4096x1024_S1x4096x1024_0_0_0)
    shapeCasts_S1x4096x1024_S4096x1024) bitsLt_bf16_f32

/-- The projection's weights and bias. -/
def projection (x : FVec Ideal S1x1024x1024 .f32) : FVec Ideal S1024x1024 .bf16 :=
  truncf .bf16 (shapeCast S1024x1024 x shapeCasts_S1x1024x1024_S1024x1024) bitsLt_bf16_f32

def bias (x : FVec Ideal S1x1024 .f32) : FVec Ideal S1x1024 .f32 :=
  shapeCast S1x1024 (shapeCast S1024 x shapeCasts_S1x1024_S1024) shapeCasts_S1024_S1x1024

/-- The layer's scales. -/
def scales (x : FVec Ideal S2x1024 .f32) : FVec Ideal S1x1024 .f32 :=
  shapeCast S1x1024 (shapeCast S1024 (extractStridedSlice S1x1024 ![0, 0] x slices_S2x1024_S1x1024_0_0) shapeCasts_S1x1024_S1024)
    shapeCasts_S1024_S1x1024

theorem weights1_at (x : FVec Ideal S2x1024x4096 .f32) (k : Fin 1024) (f : Fin 4096) : weights1 x (ix2 k f) = x (ix3 0 k f) := by
  pointwise [weights1]

theorem weights2_at (x : FVec Ideal S2x4096x1024 .f32) (f : Fin 4096) (j : Fin 1024) : weights2 x (ix2 f j) = x (ix3 0 f j) := by
  pointwise [weights2]

theorem projection_at (x : FVec Ideal S1x1024x1024 .f32) (k j : Fin 1024) : projection x (ix2 k j) = x (ix3 0 k j) := by
  pointwise [projection]

theorem bias_at (x : FVec Ideal S1x1024 .f32) (j : Fin 1024) : bias x (ix2 0 j) = x (ix2 0 j) := by
  pointwise [bias]

theorem scales_at (x : FVec Ideal S2x1024 .f32) (j : Fin 1024) : scales x (ix2 0 j) = x (ix2 0 j) := by
  pointwise [scales]

theorem weights1_eq (c : Dev nD) : V m c main_v3 = weights1 (m ((c.tc : Thread nD τ).loc main_arg5)) := by
  unfold V; after_reads_simp; rfl

theorem weights2_eq (c : Dev nD) : V m c main_v6 = weights2 (m ((c.tc : Thread nD τ).loc main_arg6)) := by
  unfold V; after_reads_simp; rfl

theorem projection_eq (c : Dev nD) : V m c main_v8 = projection (m ((c.tc : Thread nD τ).loc main_arg2)) := by
  unfold V; after_reads_simp; rfl

theorem bias_eq (c : Dev nD) : V m c main_v12 = bias (m ((c.tc : Thread nD τ).loc main_arg3)) := by
  unfold V; after_reads_simp; rfl

theorem scales_eq (c : Dev nD) : V m c main_v13 = scales (m ((c.tc : Thread nD τ).loc main_arg4)) := by
  unfold V; after_reads_simp; rfl

/-! ## The blocks: rows `1024 t` on of the row arrays, the other operands whole -/

theorem idx : ∀ t : Fin cfg0.N, win0_0.index t = ![t.val, 0] ∧ win0_1.index t = ![t.val, 0] ∧ win0_2.index t = ![0, 0] ∧
    win0_3.index t = ![0, 0] ∧ win0_4.index t = ![0, 0] ∧ win0_5.index t = ![0, 0] ∧ win0_6.index t = ![0, 0] ∧
    win0_7.index t = ![0, 0] ∧ win0_8.index t = ![t.val, 0] ∧ t.val < 64 :=
  (by decide +kernel : ∀ t : Fin grid0.N, _)

section Reads

variable (c : Dev nD) (W : (b : Ref sig .tc) → Buf (Elt Ideal) ((c : Thread nD τ).loc b)) (t : Fin cfg0.N)

theorem read0 (T : Vec Ideal S65536x1024 .f32) (h : W main_arg0 = T) (r l : Fin 1024) (r' : Fin 65536) (hr : (r' : Nat) = 1024 * t.val + r) :
    View.read (Elt Ideal) ((cfg0.win 0).blk t).view (W (Pipeline.arrRef spec0 0)) (ix2 r l : S1024x1024.Idx) = T (ix2 r' l) := by
  subst h
  refine congrArg (W main_arg0) ?_
  blk_ext [idx t]

theorem read1 (T : Vec Ideal S65536x1024 .bf16) (h : W main_arg1 = T) (r l : Fin 1024) (r' : Fin 65536) (hr : (r' : Nat) = 1024 * t.val + r) :
    View.read (Elt Ideal) ((cfg0.win 1).blk t).view (W (Pipeline.arrRef spec0 1)) (ix2 r l : S1024x1024.Idx) = T (ix2 r' l) := by
  subst h
  refine congrArg (W main_arg1) ?_
  blk_ext [idx t]

theorem read2 (T : Vec Ideal S1024x1024 .bf16) (h : W main_v8 = T) (r l : Fin 1024) :
    View.read (Elt Ideal) ((cfg0.win 2).blk t).view (W (Pipeline.arrRef spec0 2)) (ix2 r l : S1024x1024.Idx) = T (ix2 r l) := by
  subst h
  refine congrArg (W main_v8) ?_
  blk_ext [idx t]

theorem read3 (T : Vec Ideal S1x1024 .f32) (h : W main_v12 = T) (l : Fin 1024) :
    View.read (Elt Ideal) ((cfg0.win 3).blk t).view (W (Pipeline.arrRef spec0 3)) (ix2 0 l : S1x1024.Idx) = T (ix2 0 l) := by
  subst h
  refine congrArg (W main_v12) ?_
  blk_ext [idx t]

theorem read4 (T : Vec Ideal S1x1024 .f32) (h : W main_v13 = T) (l : Fin 1024) :
    View.read (Elt Ideal) ((cfg0.win 4).blk t).view (W (Pipeline.arrRef spec0 4)) (ix2 0 l : S1x1024.Idx) = T (ix2 0 l) := by
  subst h
  refine congrArg (W main_v13) ?_
  blk_ext [idx t]

theorem read5 (T : Vec Ideal S1024x4096 .bf16) (h : W main_v3 = T) (r : Fin 1024) (l : Fin 4096) :
    View.read (Elt Ideal) ((cfg0.win 5).blk t).view (W (Pipeline.arrRef spec0 5)) (ix2 r l : S1024x4096.Idx) = T (ix2 r l) := by
  subst h
  refine congrArg (W main_v3) ?_
  blk_ext [idx t]

theorem read6 (T : Vec Ideal S4096x1024 .bf16) (h : W main_v6 = T) (r : Fin 4096) (l : Fin 1024) :
    View.read (Elt Ideal) ((cfg0.win 6).blk t).view (W (Pipeline.arrRef spec0 6)) (ix2 r l : S4096x1024.Idx) = T (ix2 r l) := by
  subst h
  refine congrArg (W main_v6) ?_
  blk_ext [idx t]

end Reads

/-- Where an index of the output block sits. -/
theorem place8 {α : Type} (T : S65536x1024.Idx → α) (t : Fin cfg0.N) (r l : Fin 1024) (r' : Fin 65536) (hr : (r' : Nat) = 1024 * t.val + r) :
    T ((win0_8.blk t).view.emb (ix2 r l)) = T (ix2 r' l) := by
  refine congrArg T ?_
  blk_ext [idx t]

/-! ## The result array -/

/-- An entry of the result, from the argument arrays. -/
def entry (x0 : FVec Ideal S65536x1024 .f32) (x1 : FVec Ideal S65536x1024 .bf16) (x2 : FVec Ideal S1x1024x1024 .f32) (x3 : FVec Ideal S1x1024 .f32)
    (x4 : FVec Ideal S2x1024 .f32) (x5 : FVec Ideal S2x1024x4096 .f32) (x6 : FVec Ideal S2x4096x1024 .f32) (r : Fin 65536) (j : Fin 1024) : EReal :=
  grown (fun k => x0 (ix2 r k) + (∑ l : Fin 1024, x1 (ix2 r l) * x2 (ix3 0 l k)) + x3 (ix2 0 k)) (fun k => x4 (ix2 0 k))
    (fun k f => x5 (ix3 0 k f)) (fun f j => x6 (ix3 0 f j)) j

/-- One entry of the output block. -/
theorem block_at (c : Dev nD) (t : Fin cfg0.N) (r j : Fin 1024) (r' : Fin 65536) (hr : (r' : Nat) = 1024 * t.val + r) :
    out0_8 (F := Ideal) (iblk m c 0 t) (iblk m c 1 t) (iblk m c 2 t) (iblk m c 3 t) (iblk m c 4 t) (iblk m c 5 t) (iblk m c 6 t)
        (iblk m c 7 t) (ix2 r j) =
      entry (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) r' j := by
  have e0 : ∀ k : Fin 1024, (iblk m c 0 t : Vec Ideal S1024x1024 .f32) (ix2 r k) = _ :=
    fun k => read0 c (V m c) t _ (V_main_arg0 m c) r k r' hr
  have e1 : ∀ k : Fin 1024, (iblk m c 1 t : Vec Ideal S1024x1024 .bf16) (ix2 r k) = _ :=
    fun k => read1 c (V m c) t _ (V_main_arg1 m c) r k r' hr
  have e2 : ∀ l k : Fin 1024, (iblk m c 2 t : Vec Ideal S1024x1024 .bf16) (ix2 l k) = _ :=
    fun l k => (read2 c (V m c) t _ (projection_eq m c) l k).trans (projection_at _ l k)
  have e3 : ∀ k : Fin 1024, (iblk m c 3 t : Vec Ideal S1x1024 .f32) (ix2 0 k) = _ :=
    fun k => (read3 c (V m c) t _ (bias_eq m c) k).trans (bias_at _ k)
  have e4 : ∀ k : Fin 1024, (iblk m c 4 t : Vec Ideal S1x1024 .f32) (ix2 0 k) = _ :=
    fun k => (read4 c (V m c) t _ (scales_eq m c) k).trans (scales_at _ k)
  have e5 : ∀ (k : Fin 1024) (f : Fin 4096), (iblk m c 5 t : Vec Ideal S1024x4096 .bf16) (ix2 k f) = _ :=
    fun k f => (read5 c (V m c) t _ (weights1_eq m c) k f).trans (weights1_at _ k f)
  have e6 : ∀ (f : Fin 4096) (k : Fin 1024), (iblk m c 6 t : Vec Ideal S4096x1024 .bf16) (ix2 f k) = _ :=
    fun f k => (read6 c (V m c) t _ (weights2_eq m c) f k).trans (weights2_at _ f k)
  rw [out_at]
  simp only [e0, e1, e2, e3, e4, e5, e6]
  rfl

/-- The result, from the argument arrays. -/
def result (x0 : FVec Ideal S65536x1024 .f32) (x1 : FVec Ideal S65536x1024 .bf16) (x2 : FVec Ideal S1x1024x1024 .f32) (x3 : FVec Ideal S1x1024 .f32)
    (x4 : FVec Ideal S2x1024 .f32) (x5 : FVec Ideal S2x1024x4096 .f32) (x6 : FVec Ideal S2x4096x1024 .f32) : FVec Ideal S65536x1024 .f32 :=
  fun y => entry x0 x1 x2 x3 x4 x5 x6 (y 0) (y 1)

/-- The result array after the run. -/
theorem final (c : Dev nD) : (dats m 0 c).arrAt 8 (cfgs 0).N =
    result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := by
  refine (dats m 0 c).arrAt_eq_of_covers 8 _ (by decide +kernel) fun t _ y => ?_
  have ht : t.val < 64 := t.isLt
  obtain ⟨r, l, rfl⟩ : ∃ (r l : Fin 1024), y = ix2 r l := ⟨y 0, y 1, by funext a; fin_cases a <;> rfl⟩
  blk_simp
  rw [after0_8]
  exact (block_at m c t r l ⟨1024 * t.val + r, by omega⟩ rfl).trans (place8 (result _ _ _ _ _ _ _) t r l _ rfl).symm

end Cert.Kernel3Ideal.Mlp

end
-- ==== Proof.Mlp.RefTerms.lean ====
/- The reference's lines for the output projection and the MLP, as terms of arrays, and read at one entry. -/
module

public import proofs.«01_k».proof.Proof.Gen.Reference2Ideal
public import proofs.«01_k».proof.Proof.Mlp.Spec

@[expose] public section

set_option maxRecDepth 16384

noncomputable section

namespace Cert.Reference2Ideal.Mlp

open Idealize.ShloMosaic Idealize.ShloMosaic.TcCoe
open Cert.Reference2Ideal Cert.Reference2Ideal.Gen Cert.Mlp

/-- The mixer's output, projected. -/
def projected (z : FVec Ideal S65536x1024 .bf16) (w : FVec Ideal S1x1024x1024 .f32) : FVec Ideal S65536x1024 .f32 :=
  Host.dotGeneral dot_S65536x1024_S1024x1024_S65536x1024_1_0_0_1_n_n none (extf .f32 z bitsLt_bf16_f32)
    (shapeCast S1024x1024 w shapeCasts_S1x1024x1024_S1024x1024)

/-- The root mean square norm of every row. -/
def rms (h : FVec Ideal S65536x1024 .f32) (g : FVec Ideal S1024 .f32) : FVec Ideal S65536x1024 .f32 :=
  mulf (mulf h (broadcastInDim S65536x1024 ![0, 1] bcast_S65536x1_S65536x1024_0_1 (Host.rsqrt (addf
    (Host.divf (broadcastInDim S65536x1 ![0] bcast_S65536_S65536x1_0 (Host.reduceAdd (mulf h h) (constant S_ .f32 0x00000000#32)
      reducesTo_S65536x1024_S65536_d1 h_S_)) (broadcastInDim S65536x1 ![] bcast_S_S65536x1 (constant S_ .f32 0x44800000#32)))
    (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 g))

/-- The hidden layer before its activation. -/
def hidden (u : FVec Ideal S65536x1024 .f32) (w1 : FVec Ideal S1024x4096 .f32) : FVec Ideal S65536x4096 .f32 :=
  maximumf (Host.dotGeneral dot_S65536x1024_S1024x4096_S65536x4096_1_0_0_1_n_n none u w1)
    (broadcastInDim S65536x4096 ![] bcast_S_S65536x4096 (constant S_ .f32 0x00000000#32))

/-- The MLP. -/
def mlp (u : FVec Ideal S65536x1024 .f32) (w1 : FVec Ideal S1024x4096 .f32) (w2 : FVec Ideal S4096x1024 .f32) : FVec Ideal S65536x1024 .f32 :=
  Host.dotGeneral dot_S65536x4096_S4096x1024_S65536x1024_1_0_0_1_n_n none (mulf (hidden u w1) (hidden u w1)) w2

/-- The residual with the MLP of its norm added. -/
def block (h : FVec Ideal S65536x1024 .f32) (g : FVec Ideal S1024 .f32) (w1 : FVec Ideal S1024x4096 .f32) (w2 : FVec Ideal S4096x1024 .f32) :
    FVec Ideal S65536x1024 .f32 :=
  addf h (mlp (rms h g) w1 w2)

/-- The last layer's lines, the final norm among them. -/
def last (x0 : FVec Ideal S65536x1024 .f32) (x1 : FVec Ideal S65536x1024 .bf16) (x2 : FVec Ideal S1x1024x1024 .f32) (x3 : FVec Ideal S2x1024 .f32)
    (x4 : FVec Ideal S2x1024x4096 .f32) (x5 : FVec Ideal S2x4096x1024 .f32) (x6 : FVec Ideal S1024 .f32) : FVec Ideal S65536x1024 .f32 :=
  rms (block (addf x0 (projected x1 x2))
    (shapeCast S1024 (extractStridedSlice S1x1024 ![1, 0] x3 slices_S2x1024_S1x1024_1_0) shapeCasts_S1x1024_S1024)
    (shapeCast S1024x4096 (extractStridedSlice S1x1024x4096 ![1, 0, 0] x4 slices_S2x1024x4096_S1x1024x4096_1_0_0) shapeCasts_S1x1024x4096_S1024x4096)
    (shapeCast S4096x1024 (extractStridedSlice S1x4096x1024 ![1, 0, 0] x5 slices_S2x4096x1024_S1x4096x1024_1_0_0) shapeCasts_S1x4096x1024_S4096x1024)) x6

theorem projected_at (z : FVec Ideal S65536x1024 .bf16) (w : FVec Ideal S1x1024x1024 .f32) (r : Fin 65536) (j : Fin 1024) :
    projected z w (ix2 r j) = ∑ l : Fin 1024, z (ix2 r l) * w (ix3 0 l j) := by
  pointwise [projected]

theorem rms_at (h : FVec Ideal S65536x1024 .f32) (g : FVec Ideal S1024 .f32) (r : Fin 65536) (j : Fin 1024) :
    rms h g (ix2 r j) = normed (fun k => h (ix2 r k)) (fun k => g (ix1 k)) j := by
  pointwise [rms, normed]

theorem hidden_at (u : FVec Ideal S65536x1024 .f32) (w1 : FVec Ideal S1024x4096 .f32) (r : Fin 65536) (f : Fin 4096) :
    hidden u w1 (ix2 r f) = max (∑ k : Fin 1024, u (ix2 r k) * w1 (ix2 k f)) 0 := by
  pointwise [hidden]

theorem mlp_at (u : FVec Ideal S65536x1024 .f32) (w1 : FVec Ideal S1024x4096 .f32) (w2 : FVec Ideal S4096x1024 .f32) (r : Fin 65536) (j : Fin 1024) :
    mlp u w1 w2 (ix2 r j) = ffn (fun k => u (ix2 r k)) (fun k f => w1 (ix2 k f)) (fun f j => w2 (ix2 f j)) j := by
  pointwise [mlp, ffn, act]
  simp only [hidden_at]

theorem block_at (h : FVec Ideal S65536x1024 .f32) (g : FVec Ideal S1024 .f32) (w1 : FVec Ideal S1024x4096 .f32) (w2 : FVec Ideal S4096x1024 .f32)
    (r : Fin 65536) (j : Fin 1024) :
    block h g w1 w2 (ix2 r j) = grown (fun k => h (ix2 r k)) (fun k => g (ix1 k)) (fun k f => w1 (ix2 k f)) (fun f j => w2 (ix2 f j)) j := by
  show h (ix2 r j) + mlp (rms h g) w1 w2 (ix2 r j) = _
  rw [mlp_at]
  simp only [rms_at]
  rfl

/-- An entry of the last layer's result. -/
theorem last_at (x0 : FVec Ideal S65536x1024 .f32) (x1 : FVec Ideal S65536x1024 .bf16) (x2 : FVec Ideal S1x1024x1024 .f32) (x3 : FVec Ideal S2x1024 .f32)
    (x4 : FVec Ideal S2x1024x4096 .f32) (x5 : FVec Ideal S2x4096x1024 .f32) (x6 : FVec Ideal S1024 .f32) (r : Fin 65536) (j : Fin 1024) :
    last x0 x1 x2 x3 x4 x5 x6 (ix2 r j) =
      normed (grown (fun k => x0 (ix2 r k) + ∑ l : Fin 1024, x1 (ix2 r l) * x2 (ix3 0 l k)) (fun k => x3 (ix2 1 k))
        (fun k f => x4 (ix3 1 k f)) (fun f j => x5 (ix3 1 f j))) (fun k => x6 (ix1 k)) j := by
  unfold last
  rw [rms_at]
  refine congrArg (fun z => normed z _ j) (funext fun k => ?_)
  rw [block_at]
  have e0 : ∀ k : Fin 1024, addf x0 (projected x1 x2) (ix2 r k) = x0 (ix2 r k) + ∑ l : Fin 1024, x1 (ix2 r l) * x2 (ix3 0 l k) :=
    fun k => congrArg (x0 (ix2 r k) + ·) (projected_at x1 x2 r k)
  have e1 : ∀ k : Fin 1024, shapeCast S1024 (extractStridedSlice S1x1024 ![1, 0] x3 slices_S2x1024_S1x1024_1_0) shapeCasts_S1x1024_S1024 (ix1 k) =
      x3 (ix2 1 k) := fun k => by pointwise []
  have e2 : ∀ (k : Fin 1024) (f : Fin 4096), shapeCast S1024x4096 (extractStridedSlice S1x1024x4096 ![1, 0, 0] x4 slices_S2x1024x4096_S1x1024x4096_1_0_0)
      shapeCasts_S1x1024x4096_S1024x4096 (ix2 k f) = x4 (ix3 1 k f) := fun k f => by pointwise []
  have e3 : ∀ (f : Fin 4096) (k : Fin 1024), shapeCast S4096x1024 (extractStridedSlice S1x4096x1024 ![1, 0, 0] x5 slices_S2x4096x1024_S1x4096x1024_1_0_0)
      shapeCasts_S1x4096x1024_S4096x1024 (ix2 f k) = x5 (ix3 1 f k) := fun f k => by pointwise []
  simp only [e0, e1, e2, e3]

end Cert.Reference2Ideal.Mlp

end
-- ==== Proof.Mlp.RefLast.lean ====
/- The reference's run for the last layer: it ends, its result is `last` of its arguments, and these are unchanged. -/
module

public import proofs.«01_k».proof.Proof.Gen.Reference2Ideal.Run
public import proofs.«01_k».proof.Proof.Mlp.RefTerms
public import Idealize.ShloMosaic.Lib.Claim

@[expose] public section

set_option maxRecDepth 16384

noncomputable section

namespace Cert.Reference2Ideal.Mlp

open Idealize.ShloMosaic Idealize.ShloMosaic.TcCoe Idealize.SL.Sem
open Cert.Reference2Ideal Cert.Reference2Ideal.Gen

/-- The run's result. -/
theorem result_eq (m : (ℓ : Loc nD τ sig) → Buf (Elt Ideal) ℓ) (c : Dev nD) : Value.res_out0 (F := Ideal) m c =
    last (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40) =
        last (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) :=
  (θ_run defs _ _).mono (fun _ h c => ⟨(h c).1.trans (result_eq m c), (h c).2⟩) (Value.run m ρ)

end Cert.Reference2Ideal.Mlp

end
-- ==== Proof.Mlp.RefFirst.lean ====
/- The reference's lines for the first layer, and their run: it ends, its result is `first` of its arguments, and these
   are unchanged. -/
module

public import proofs.«01_k».proof.Proof.Gen.Reference3Ideal.Run
public import proofs.«01_k».proof.Proof.Mlp.RefTerms

@[expose] public section

set_option maxRecDepth 16384

noncomputable section

namespace Cert.Reference3Ideal.Mlp

open Idealize.ShloMosaic Idealize.ShloMosaic.TcCoe Idealize.SL.Sem
open Cert.Reference3Ideal Cert.Reference3Ideal.Gen Cert.Mlp
open Cert.Reference2Ideal.Mlp (projected projected_at block block_at)

/-- The residual with the projected mixer's output and the bias. -/
def residual (x0 : FVec Ideal S65536x1024 .f32) (x1 : FVec Ideal S65536x1024 .bf16) (x2 : FVec Ideal S1x1024x1024 .f32) (x3 : FVec Ideal S1x1024 .f32) :
    FVec Ideal S65536x1024 .f32 :=
  addf x0 (addf (projected x1 x2) (broadcastInDim S65536x1024 ![0, 1] bcast_S1x1024_S65536x1024_0_1
    (broadcastInDim S1x1024 ![1] bcast_S1024_S1x1024_1 (shapeCast S1024 x3 shapeCasts_S1x1024_S1024))))

/-- The first layer's lines. -/
def first (x0 : FVec Ideal S65536x1024 .f32) (x1 : FVec Ideal S65536x1024 .bf16) (x2 : FVec Ideal S1x1024x1024 .f32) (x3 : FVec Ideal S1x1024 .f32)
    (x4 : FVec Ideal S2x1024 .f32) (x5 : FVec Ideal S2x1024x4096 .f32) (x6 : FVec Ideal S2x4096x1024 .f32) : FVec Ideal S65536x1024 .f32 :=
  block (residual x0 x1 x2 x3)
    (shapeCast S1024 (extractStridedSlice S1x1024 ![0, 0] x4 slices_S2x1024_S1x1024_0_0) shapeCasts_S1x1024_S1024)
    (shapeCast S1024x4096 (extractStridedSlice S1x1024x4096 ![0, 0, 0] x5 slices_S2x1024x4096_S1x1024x4096_0_0_0) shapeCasts_S1x1024x4096_S1024x4096)
    (shapeCast S4096x1024 (extractStridedSlice S1x4096x1024 ![0, 0, 0] x6 slices_S2x4096x1024_S1x4096x1024_0_0_0) shapeCasts_S1x4096x1024_S4096x1024)

theorem residual_at (x0 : FVec Ideal S65536x1024 .f32) (x1 : FVec Ideal S65536x1024 .bf16) (x2 : FVec Ideal S1x1024x1024 .f32) (x3 : FVec Ideal S1x1024 .f32)
    (r : Fin 65536) (j : Fin 1024) :
    residual x0 x1 x2 x3 (ix2 r j) = x0 (ix2 r j) + (∑ l : Fin 1024, x1 (ix2 r l) * x2 (ix3 0 l j)) + x3 (ix2 0 j) := by
  have e : residual x0 x1 x2 x3 (ix2 r j) = x0 (ix2 r j) + (projected x1 x2 (ix2 r j) + x3 (ix2 0 j)) := by
    generalize hp : projected x1 x2 = p
    unfold residual
    rw [hp]
    pointwise []
  rw [e, projected_at, add_assoc]

/-- An entry of the first layer's result. -/
theorem first_at (x0 : FVec Ideal S65536x1024 .f32) (x1 : FVec Ideal S65536x1024 .bf16) (x2 : FVec Ideal S1x1024x1024 .f32) (x3 : FVec Ideal S1x1024 .f32)
    (x4 : FVec Ideal S2x1024 .f32) (x5 : FVec Ideal S2x1024x4096 .f32) (x6 : FVec Ideal S2x4096x1024 .f32) (r : Fin 65536) (j : Fin 1024) :
    first x0 x1 x2 x3 x4 x5 x6 (ix2 r j) =
      grown (fun k => x0 (ix2 r k) + (∑ l : Fin 1024, x1 (ix2 r l) * x2 (ix3 0 l k)) + x3 (ix2 0 k)) (fun k => x4 (ix2 0 k))
        (fun k f => x5 (ix3 0 k f)) (fun f j => x6 (ix3 0 f j)) j := by
  unfold first
  refine (block_at _ _ _ _ r j).trans ?_
  have e0 : (fun k : Fin 1024 => residual x0 x1 x2 x3 (ix2 r k)) = _ := funext fun k => residual_at x0 x1 x2 x3 r k
  have e1 : ∀ k : Fin 1024, shapeCast S1024 (extractStridedSlice S1x1024 ![0, 0] x4 slices_S2x1024_S1x1024_0_0) shapeCasts_S1x1024_S1024 (ix1 k) =
      x4 (ix2 0 k) := fun k => by pointwise []
  have e2 : ∀ (k : Fin 1024) (f : Fin 4096), shapeCast S1024x4096 (extractStridedSlice S1x1024x4096 ![0, 0, 0] x5 slices_S2x1024x4096_S1x1024x4096_0_0_0)
      shapeCasts_S1x1024x4096_S1024x4096 (ix2 k f) = x5 (ix3 0 k f) := fun k f => by pointwise []
  have e3 : ∀ (f : Fin 4096) (k : Fin 1024), shapeCast S4096x1024 (extractStridedSlice S1x4096x1024 ![0, 0, 0] x6 slices_S2x4096x1024_S1x4096x1024_0_0_0)
      shapeCasts_S1x4096x1024_S4096x1024 (ix2 f k) = x6 (ix3 0 f k) := fun f k => by pointwise []
  exact congr (congr (congr (congr (congrArg grown e0) (funext e1)) (funext fun k => funext (e2 k))) (funext fun f => funext (e3 f))) rfl

/-- The run's result. -/
theorem result_eq (m : (ℓ : Loc nD τ sig) → Buf (Elt Ideal) ℓ) (c : Dev nD) : Value.res_out0 (F := Ideal) m c =
    first (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) =
        first (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) :=
  (θ_run defs _ _).mono (fun _ h c => ⟨(h c).1.trans (result_eq m c), (h c).2⟩) (Value.run m ρ)

end Cert.Reference3Ideal.Mlp

end
-- ==== Proof.Mlp.Same.lean ====
/- The reference's results are the calls' result arrays. -/
module

public import proofs.«01_k».proof.Proof.Mlp.LastArray
public import proofs.«01_k».proof.Proof.Mlp.FirstArray
public import proofs.«01_k».proof.Proof.Mlp.RefLast
public import proofs.«01_k».proof.Proof.Mlp.RefFirst

@[expose] public section

set_option maxRecDepth 16384

noncomputable section

namespace Cert.Mlp

open Idealize.ShloMosaic Idealize.ShloMosaic.TcCoe
open Cert.Reference3Ideal

/-- Arrays of rows that agree at every entry are equal. -/
theorem rows_ext (f g : FVec Ideal S65536x1024 .f32) (h : ∀ (r : Fin 65536) (j : Fin 1024), f (ix2 r j) = g (ix2 r j)) : f = g := by
  funext y
  have hy : y = ix2 (y 0) (y 1) := by funext a; fin_cases a <;> rfl
  rw [hy]
  exact h (y 0) (y 1)

theorem last_same (x0 : FVec Ideal S65536x1024 .f32) (x1 : FVec Ideal S65536x1024 .bf16) (x2 : FVec Ideal S1x1024x1024 .f32) (x3 : FVec Ideal S2x1024 .f32)
    (x4 : FVec Ideal S2x1024x4096 .f32) (x5 : FVec Ideal S2x4096x1024 .f32) (x6 : FVec Ideal S1024 .f32) :
    Cert.Reference2Ideal.Mlp.last x0 x1 x2 x3 x4 x5 x6 = Cert.Kernel2Ideal.Mlp.result x0 x1 x2 x3 x4 x5 x6 :=
  rows_ext _ _ fun r j => Cert.Reference2Ideal.Mlp.last_at x0 x1 x2 x3 x4 x5 x6 r j

theorem first_same (x0 : FVec Ideal S65536x1024 .f32) (x1 : FVec Ideal S65536x1024 .bf16) (x2 : FVec Ideal S1x1024x1024 .f32) (x3 : FVec Ideal S1x1024 .f32)
    (x4 : FVec Ideal S2x1024 .f32) (x5 : FVec Ideal S2x1024x4096 .f32) (x6 : FVec Ideal S2x4096x1024 .f32) :
    Cert.Reference3Ideal.Mlp.first x0 x1 x2 x3 x4 x5 x6 = Cert.Kernel3Ideal.Mlp.result x0 x1 x2 x3 x4 x5 x6 :=
  rows_ext _ _ fun r j => Cert.Reference3Ideal.Mlp.first_at x0 x1 x2 x3 x4 x5 x6 r j

end Cert.Mlp

end
-- ==== Proof.Mlp.Claims.lean ====
/- The frames and the value claims of the two calls that project a mixer's output and apply the MLP. -/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Mlp.Same
public import Idealize.ShloMosaic.Lib.Claim
public import Idealize.ShloMosaic.Lib.Quiescent

@[expose] public section

set_option maxRecDepth 16384

noncomputable section

namespace Cert.Mlp

open Idealize.ShloMosaic Idealize.ShloMosaic.TcCoe Idealize.SL.Sem

theorem frameK2 : Cert.quiescent_Kernel2 := fun m g _ => Cert.Kernel2.Gen.frame m g

theorem frameI2 : Cert.quiescent_Kernel2Ideal := fun m g _ => Cert.Kernel2Ideal.Gen.frame m g

theorem frameR2 : Cert.quiescent_Reference2Ideal := fun m g _ =>
  (θ_run Cert.Reference2Ideal.defs _ _).mono (fun r h => ⟨fun c => (h c).2, sem_eq_zero_of_no_sems (by decide) r.2⟩)
    (Cert.Reference2Ideal.Mlp.run m g)

theorem frameK3 : Cert.quiescent_Kernel3 := fun m g _ => Cert.Kernel3.Gen.frame m g

theorem frameI3 : Cert.quiescent_Kernel3Ideal := fun m g _ => Cert.Kernel3Ideal.Gen.frame m g

theorem frameR3 : Cert.quiescent_Reference3Ideal := fun m g _ =>
  (θ_run Cert.Reference3Ideal.defs _ _).mono (fun r h => ⟨fun c => (h c).2, sem_eq_zero_of_no_sems (by decide) r.2⟩)
    (Cert.Reference3Ideal.Mlp.run m g)

/-- The last layer: both programs' results are `result` of the arguments. -/
theorem algebraic2 : Cert.algebraic_Kernel2Ideal_Reference2Ideal := by
  pair_intro
  · run_from Cert.Kernel2Ideal.Value.run_blocks m g
  · run_from Cert.Reference2Ideal.Mlp.run m' g'
    exact (last_same _ _ _ _ _ _ _).trans (Cert.Kernel2Ideal.Mlp.final m c).symm

/-- The first layer: the same. -/
theorem algebraic3 : Cert.algebraic_Kernel3Ideal_Reference3Ideal := by
  pair_intro
  · run_from Cert.Kernel3Ideal.Value.run_blocks m g
  · run_from Cert.Reference3Ideal.Mlp.run m' g'
    exact (first_same _ _ _ _ _ _ _).trans (Cert.Kernel3Ideal.Mlp.final m c).symm

end Cert.Mlp

end
-- ==== Proof.Projections.Spec.lean ====
/- One entry of a projection into a layer, as a function of the row, the norm's scales and the weights' column. -/
module

public import proofs.«01_k».proof.Proof.Mlp.Spec
public import Mathlib.Data.EReal.Operations

@[expose] public section

noncomputable section

namespace Cert.Projections

open Idealize.ShloMosaic Cert.Mlp

/-- The normed row times one column of the weights. -/
def entry (x g w : Fin 1024 → EReal) : EReal := ∑ k : Fin 1024, normed x g k * w k

/-- A column scaled by a nonnegative finite factor: the entry is scaled. -/
theorem entry_scaled (x g w : Fin 1024 → EReal) (s : EReal) (h0 : 0 ≤ s) (ht : s ≠ ⊤) :
    entry x g (fun k => w k * s) = entry x g w * s := by
  have key : ∀ (S : Finset (Fin 1024)) (f : Fin 1024 → EReal), ∑ k ∈ S, f k * s = (∑ k ∈ S, f k) * s := by
    intro S f
    induction S using Finset.induction_on with
    | empty => simp
    | insert a S ha ih => rw [Finset.sum_insert ha, Finset.sum_insert ha, ih, EReal.right_distrib_of_nonneg_of_ne_top h0 ht]
  unfold entry
  rw [← key]
  exact Finset.sum_congr rfl fun k _ => (mul_assoc _ _ _).symm

/-- The queries' scale. -/
def eighth : EReal := Ideal.ofBits .f32 0x3E000000#32

/-- The column of the weights that lane `c` of the rows' results comes from: the queries' lanes in place, then for each group of
    heads its 64 values before its 64 keys. -/
def source (c : Nat) : Nat :=
  if c < 1024 then c
  else if (c - 1024) % 128 < 64 then 1280 + (64 * ((c - 1024) / 128) + (c - 1024) % 64)
  else 1024 + (64 * ((c - 1024) / 128) + (c - 1024) % 64)

theorem source_lt (c : Fin 1536) : source c < 1536 := by
  unfold source
  split_ifs <;> omega

theorem source_query {c : Nat} (h : c < 1024) : source c = c := if_pos h

theorem source_value {j : Nat} (h : j / 64 % 2 < 1) : source (1024 + j) = 1280 + (j / 128 * 64 + j % 64) := by
  unfold source
  rw [if_neg (by omega), if_pos (by omega)]
  omega

theorem source_key {j : Nat} (h : ¬ j / 64 % 2 < 1) : source (1024 + j) = 1024 + (j / 128 * 64 + j % 64) := by
  unfold source
  rw [if_neg (by omega), if_neg (by omega)]
  omega

theorem eighth_eq : eighth = ((1 / 8 : ℝ) : EReal) := by
  unfold eighth
  simp [Ideal.ofBits, Ideal.ieee, -EReal.coe_mul]; norm_num

theorem eighth_nonneg : 0 ≤ eighth := by
  rw [eighth_eq]; exact EReal.coe_nonneg.mpr (by norm_num)

theorem eighth_ne_top : eighth ≠ ⊤ := by
  rw [eighth_eq]; exact EReal.coe_ne_top _

/-- One lane of a row's results: the queries' lanes are scaled. -/
def lane (x g : Fin 1024 → EReal) (w : Fin 1024 → Fin 1536 → EReal) (c : Fin 1536) : EReal :=
  if (c : Nat) < 1024 then entry x g (fun k => w k ⟨source c, source_lt c⟩) * eighth
  else entry x g fun k => w k ⟨source c, source_lt c⟩

/-- The same lane from weights whose queries' columns are scaled. -/
theorem entry_lane (x g : Fin 1024 → EReal) (w : Fin 1024 → Fin 1536 → EReal) (c : Fin 1536) :
    (entry x g fun k => if (c : Nat) < 1024 then w k ⟨source c, source_lt c⟩ * eighth else w k ⟨source c, source_lt c⟩) = lane x g w c := by
  unfold lane
  by_cases h : (c : Nat) < 1024
  · simp only [if_pos h]
    exact entry_scaled x g _ eighth eighth_nonneg eighth_ne_top
  · simp only [if_neg h]

end Cert.Projections

end
-- ==== Proof.Projections.InBlock.lean ====
/- The block of 1024 rows that a grid point of the first layer's projection writes. -/
module

public import proofs.«01_k».proof.Proof.Gen.Kernel4Ideal.Frame
public import proofs.«01_k».proof.Proof.Projections.Spec
public import Idealize.ShloMosaic.Lib.Pipeline.Value

@[expose] public section

set_option maxRecDepth 16384

noncomputable section

namespace Cert.Kernel4Ideal.Projections

open Idealize.ShloMosaic Idealize.ShloMosaic.TcCoe Idealize.SL.Sem
open Cert.Kernel4Ideal Cert.Kernel4Ideal.Gen Cert.Mlp Cert.Projections

theorem pay1_at (v0 : Vec Ideal S1024x1024 .f32) (v1 : Vec Ideal S1x1024 .f32) (w : Vec Ideal S1024x3072 .bf16) (r : Fin 1024) (j : Fin 3072) :
    k0_pay1 (F := Ideal) v0 v1 w (ix2 r j) = entry (fun k => v0 (ix2 r k)) (fun k => v1 (ix2 0 k)) fun k => w (ix2 k j) := by
  pointwise [k0_pay1, entry, normed]

/-- The block's only store covers it whole, and its loads are the blocks themselves. -/
theorem out_at (x0 : Vec Ideal S1024x1024 .f32) (x1 : Vec Ideal S1x1024 .f32) (x2 : Vec Ideal S1024x3072 .bf16) (r : Fin 1024) (j : Fin 3072) :
    out0_3 (F := Ideal) x0 x1 x2 (ix2 r j) = entry (fun k => x0 (ix2 r k)) (fun k => x1 (ix2 0 k)) fun k => x2 (ix2 k j) := by
  have z : (![0, 0] : Fin 2 → Nat) = fun _ => 0 := by
    funext a; fin_cases a <;> rfl
  unfold out0_3
  rw [View.canon_unit_zero z, View.ld_unit_zero z, View.ld_unit_zero z, View.ld_unit_zero z]
  exact pay1_at x0 x1 x2 r j

end Cert.Kernel4Ideal.Projections

end
-- ==== Proof.Projections.InArray.lean ====
/- The first layer's projection: what each grid point stages, and its result array. -/
module

public import proofs.«01_k».proof.Proof.Projections.InBlock
public import Idealize.ShloMosaic.Lib.Pipeline.ValueKit
public import Idealize.ShloMosaic.Lib.StableHlo.RunRead
public import Idealize.ShloMosaic.Lib.Claim

@[expose] public section

set_option maxRecDepth 16384

noncomputable section

namespace Cert.Kernel4Ideal.Projections

open Idealize.ShloMosaic Idealize.ShloMosaic.TcCoe Idealize.SL.Sem
open Idealize.ShloMosaic.Pipeline (Dat)
open Cert.Kernel4Ideal Cert.Kernel4Ideal.Gen Cert.Projections

variable (m : (ℓ : Loc nD τ sig) → Buf (Elt Ideal) ℓ)

/-! ## The operands that the host prepares -/

def scales (x : FVec Ideal S2x1024 .f32) : FVec Ideal S1x1024 .f32 :=
  shapeCast S1x1024 (shapeCast S1024 (extractStridedSlice S1x1024 ![0, 0] x slices_S2x1024_S1x1024_0_0) shapeCasts_S1x1024_S1024)
    shapeCasts_S1024_S1x1024

def weights (x : FVec Ideal S1x1024x3072 .f32) : FVec Ideal S1024x3072 .bf16 :=
  truncf .bf16 (shapeCast S1024x3072 x shapeCasts_S1x1024x3072_S1024x3072) bitsLt_bf16_f32

theorem scales_at (x : FVec Ideal S2x1024 .f32) (j : Fin 1024) : scales x (ix2 0 j) = x (ix2 0 j) := by
  pointwise [scales]

theorem weights_at (x : FVec Ideal S1x1024x3072 .f32) (k : Fin 1024) (j : Fin 3072) : weights x (ix2 k j) = x (ix3 0 k j) := by
  pointwise [weights]

theorem scales_eq (c : Dev nD) : V m c main_v4 = scales (m ((c.tc : Thread nD τ).loc main_arg1)) := by
  unfold V; after_reads_simp; rfl

theorem weights_eq (c : Dev nD) : V m c main_v3 = weights (m ((c.tc : Thread nD τ).loc main_arg2)) := by
  unfold V; after_reads_simp; rfl

/-! ## The blocks: rows `1024 t` on of the row arrays, the other operands whole -/

theorem idx : ∀ t : Fin cfg0.N, win0_0.index t = ![t.val, 0] ∧ win0_1.index t = ![0, 0] ∧ win0_2.index t = ![0, 0] ∧
    win0_3.index t = ![t.val, 0] ∧ t.val < 64 :=
  (by decide +kernel : ∀ t : Fin grid0.N, _)

section Reads

variable (c : Dev nD) (W : (b : Ref sig .tc) → Buf (Elt Ideal) ((c : Thread nD τ).loc b)) (t : Fin cfg0.N)

theorem read0 (T : Vec Ideal S65536x1024 .f32) (h : W main_arg0 = T) (r l : Fin 1024) (r' : Fin 65536) (hr : (r' : Nat) = 1024 * t.val + r) :
    View.read (Elt Ideal) ((cfg0.win 0).blk t).view (W (Pipeline.arrRef spec0 0)) (ix2 r l : S1024x1024.Idx) = T (ix2 r' l) := by
  subst h
  refine congrArg (W main_arg0) ?_
  blk_ext [idx t]

theorem read1 (T : Vec Ideal S1x1024 .f32) (h : W main_v4 = T) (l : Fin 1024) :
    View.read (Elt Ideal) ((cfg0.win 1).blk t).view (W (Pipeline.arrRef spec0 1)) (ix2 0 l : S1x1024.Idx) = T (ix2 0 l) := by
  subst h
  refine congrArg (W main_v4) ?_
  blk_ext [idx t]

theorem read2 (T : Vec Ideal S1024x3072 .bf16) (h : W main_v3 = T) (r : Fin 1024) (l : Fin 3072) :
    View.read (Elt Ideal) ((cfg0.win 2).blk t).view (W (Pipeline.arrRef spec0 2)) (ix2 r l : S1024x3072.Idx) = T (ix2 r l) := by
  subst h
  refine congrArg (W main_v3) ?_
  blk_ext [idx t]

end Reads

/-- Where an index of the output block sits. -/
theorem place3 {α : Type} (T : S65536x3072.Idx → α) (t : Fin cfg0.N) (r : Fin 1024) (l : Fin 3072) (r' : Fin 65536) (hr : (r' : Nat) = 1024 * t.val + r) :
    T ((win0_3.blk t).view.emb (ix2 r l)) = T (ix2 r' l) := by
  refine congrArg T ?_
  blk_ext [idx t]

/-! ## The result array -/

/-- The result, from the argument arrays. -/
def result (x0 : FVec Ideal S65536x1024 .f32) (x1 : FVec Ideal S2x1024 .f32) (x2 : FVec Ideal S1x1024x3072 .f32) : FVec Ideal S65536x3072 .bf16 :=
  fun y => entry (fun k => x0 (ix2 (y 0) k)) (fun k => x1 (ix2 0 k)) fun k => x2 (ix3 0 k (y 1))

/-- One entry of the output block. -/
theorem block_at (c : Dev nD) (t : Fin cfg0.N) (r : Fin 1024) (j : Fin 3072) (r' : Fin 65536) (hr : (r' : Nat) = 1024 * t.val + r) :
    out0_3 (F := Ideal) (iblk m c 0 t) (iblk m c 1 t) (iblk m c 2 t) (ix2 r j) =
      result (m ((c.tc : Thread nD τ).loc main_arg0)) (m ((c.tc : Thread nD τ).loc main_arg1)) (m ((c.tc : Thread nD τ).loc main_arg2)) (ix2 r' j) := by
  have e0 : ∀ k : Fin 1024, (iblk m c 0 t : Vec Ideal S1024x1024 .f32) (ix2 r k) = _ :=
    fun k => read0 c (V m c) t _ (V_main_arg0 m c) r k r' hr
  have e1 : ∀ k : Fin 1024, (iblk m c 1 t : Vec Ideal S1x1024 .f32) (ix2 0 k) = _ :=
    fun k => (read1 c (V m c) t _ (scales_eq m c) k).trans (scales_at _ k)
  have e2 : ∀ k : Fin 1024, (iblk m c 2 t : Vec Ideal S1024x3072 .bf16) (ix2 k j) = _ :=
    fun k => (read2 c (V m c) t _ (weights_eq m c) k j).trans (weights_at _ k j)
  rw [out_at]
  simp only [e0, e1, e2]
  rfl

/-- The result array after the run. -/
theorem final (c : Dev nD) : (dats m 0 c).arrAt 3 (cfgs 0).N =
    result (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  have ht : t.val < 64 := t.isLt
  obtain ⟨r, l, rfl⟩ : ∃ (r : Fin 1024) (l : Fin 3072), y = ix2 r l := ⟨y 0, y 1, by funext a; fin_cases a <;> rfl⟩
  blk_simp
  rw [after0_3]
  exact (block_at m c t r l ⟨1024 * t.val + r, by omega⟩ rfl).trans (place3 (result _ _ _) t r l _ rfl).symm

end Cert.Kernel4Ideal.Projections

end
-- ==== Proof.Projections.LastBlock.lean ====
/- The blocks that a grid point of the last layer's projection writes: 1024 rows of queries, values and keys, and the
   transposed keys' 1024 columns. -/
module

public import proofs.«01_k».proof.Proof.Gen.Kernel5Ideal.Frame
public import proofs.«01_k».proof.Proof.Projections.Spec
public import Idealize.ShloMosaic.Lib.Pipeline.Value

@[expose] public section

set_option maxRecDepth 16384

noncomputable section

namespace Cert.Kernel5Ideal.Projections

open Idealize.ShloMosaic Idealize.ShloMosaic.TcCoe Idealize.SL.Sem
open Cert.Kernel5Ideal Cert.Kernel5Ideal.Gen Cert.Mlp Cert.Projections

theorem pay3_at (v0 : Vec Ideal S1024x1024 .f32) (v1 : Vec Ideal S1x1024 .f32) (w : Vec Ideal S1024x1536 .bf16) (r : Fin 1024) (j : Fin 1536) :
    k0_pay3 (F := Ideal) v0 v1 w (ix2 r j) = entry (fun k => v0 (ix2 r k)) (fun k => v1 (ix2 0 k)) fun k => w (ix2 k j) := by
  pointwise [k0_pay3, k0_pay1, entry, normed]

/-- The transposed keys: the product's factors are the other way round. -/
theorem pay2_at (v0 : Vec Ideal S1024x1024 .f32) (v1 : Vec Ideal S1x1024 .f32) (w : Vec Ideal S256x1024 .bf16) (j : Fin 256) (r : Fin 1024) :
    k0_pay2 (F := Ideal) v0 v1 w (ix2 j r) = entry (fun k => v0 (ix2 r k)) (fun k => v1 (ix2 0 k)) fun k => w (ix2 j k) := by
  have h : k0_pay2 (F := Ideal) v0 v1 w (ix2 j r) = ∑ k : Fin 1024, w (ix2 j k) * normed (fun k => v0 (ix2 r k)) (fun k => v1 (ix2 0 k)) k := by
    pointwise [k0_pay2, k0_pay1, normed]
  rw [h]
  exact Finset.sum_congr rfl fun k _ => mul_comm _ _

/-- Each block's only store covers it whole, and its loads are the blocks themselves. -/
theorem rows_at (x0 : Vec Ideal S1024x1024 .f32) (x1 : Vec Ideal S1x1024 .f32) (x2 : Vec Ideal S1024x1536 .bf16) (x3 : Vec Ideal S256x1024 .bf16)
    (r : Fin 1024) (j : Fin 1536) :
    out0_4 (F := Ideal) x0 x1 x2 x3 (ix2 r j) = entry (fun k => x0 (ix2 r k)) (fun k => x1 (ix2 0 k)) fun k => x2 (ix2 k j) := by
  have z : (![0, 0] : Fin 2 → Nat) = fun _ => 0 := by
    funext a; fin_cases a <;> rfl
  unfold out0_4
  rw [View.canon_unit_zero z, View.ld_unit_zero z, View.ld_unit_zero z, View.ld_unit_zero z]
  exact pay3_at x0 x1 x2 r j

theorem columns_at (x0 : Vec Ideal S1024x1024 .f32) (x1 : Vec Ideal S1x1024 .f32) (x2 : Vec Ideal S1024x1536 .bf16) (x3 : Vec Ideal S256x1024 .bf16)
    (j : Fin 256) (r : Fin 1024) :
    out0_5 (F := Ideal) x0 x1 x2 x3 (ix2 j r) = entry (fun k => x0 (ix2 r k)) (fun k => x1 (ix2 0 k)) fun k => x3 (ix2 j k) := by
  have z : (![0, 0] : Fin 2 → Nat) = fun _ => 0 := by
    funext a; fin_cases a <;> rfl
  unfold out0_5
  rw [View.canon_unit_zero z, View.ld_unit_zero z, View.ld_unit_zero z, View.ld_unit_zero z]
  exact pay2_at x0 x1 x3 j r

end Cert.Kernel5Ideal.Projections

end
-- ==== Proof.Projections.LastWeights.lean ====
/- The weights as the host lays them out for the last layer's projection: the queries' columns scaled by an eighth, then for each group of
   heads its values' columns before its keys'; and the keys' columns transposed. -/
module

public import proofs.«01_k».proof.Proof.Projections.LastBlock
public import Idealize.ShloMosaic.Lib.StableHlo.RunRead
public import Idealize.ShloMosaic.Lib.Claim

@[expose] public section

set_option maxRecDepth 16384

noncomputable section

namespace Cert.Kernel5Ideal.Projections

open Idealize.ShloMosaic Idealize.ShloMosaic.TcCoe Idealize.SL.Sem
open Cert.Kernel5Ideal Cert.Kernel5Ideal.Gen Cert.Projections

def scales (x : FVec Ideal S2x1024 .f32) : FVec Ideal S1x1024 .f32 :=
  shapeCast S1x1024 (shapeCast S1024 (extractStridedSlice S1x1024 ![1, 0] x slices_S2x1024_S1x1024_1_0) shapeCasts_S1x1024_S1024)
    shapeCasts_S1024_S1x1024

theorem scales_at (x : FVec Ideal S2x1024 .f32) (j : Fin 1024) : scales x (ix2 0 j) = x (ix2 1 j) := by
  pointwise [scales]

/-- The weights as a matrix. -/
def matrix (x : FVec Ideal S1x1024x1536 .f32) : FVec Ideal S1024x1536 .f32 := shapeCast S1024x1536 x shapeCasts_S1x1024x1536_S1024x1536

/-- The queries' columns, scaled. -/
def queries (w : FVec Ideal S1024x1536 .f32) : FVec Ideal S1024x1024 .f32 :=
  mulf (extractStridedSlice S1024x1024 ![0, 0] w slices_S1024x1536_S1024x1024_0_0)
    (broadcastInDim S1024x1024 ![] bcast_S_S1024x1024 (constant (F := Ideal) S_ .f32 0x3E000000#32))

/-- A group's columns, with an axis for values and keys. -/
def group (w : FVec Ideal S1024x256 .f32) : FVec Ideal S1024x4x1x64 .f32 :=
  broadcastInDim S1024x4x1x64 ![0, 1, 3] bcast_S1024x4x64_S1024x4x1x64_0_1_3 (shapeCast S1024x4x64 w shapeCasts_S1024x256_S1024x4x64)

/-- For each group its values' columns, then its keys'. -/
def pairs (w : FVec Ideal S1024x1536 .f32) : FVec Ideal S1024x512 .f32 :=
  shapeCast S1024x512 (concatenate S1024x4x2x64 2
    [⟨S1024x4x1x64, group (extractStridedSlice S1024x256 ![0, 1280] w slices_S1024x1536_S1024x256_0_1280)⟩,
      ⟨S1024x4x1x64, group (extractStridedSlice S1024x256 ![0, 1024] w slices_S1024x1536_S1024x256_0_1024)⟩]
    concatenates_S1024x4x1x64_S1024x4x1x64_S1024x4x2x64_d2) shapeCasts_S1024x4x2x64_S1024x512

def rowWeights (x : FVec Ideal S1x1024x1536 .f32) : FVec Ideal S1024x1536 .bf16 :=
  truncf .bf16 (concatenate S1024x1536 1 [⟨S1024x1024, queries (matrix x)⟩, ⟨S1024x512, pairs (matrix x)⟩]
    concatenates_S1024x1024_S1024x512_S1024x1536_d1) bitsLt_bf16_f32

def keyWeights (x : FVec Ideal S1x1024x1536 .f32) : FVec Ideal S256x1024 .bf16 :=
  truncf .bf16 (transpose S256x1024 [1, 0] (extractStridedSlice S1024x256 ![0, 1024] (matrix x) slices_S1024x1536_S1024x256_0_1024)
    transposes_S1024x256_S256x1024_1_0) bitsLt_bf16_f32

theorem scales_eq (m : (ℓ : Loc nD τ sig) → Buf (Elt Ideal) ℓ) (c : Dev nD) : V m c main_v18 = scales (m ((c.tc : Thread nD τ).loc main_arg1)) := by
  unfold V; after_reads_simp; rfl

theorem rowWeights_eq (m : (ℓ : Loc nD τ sig) → Buf (Elt Ideal) ℓ) (c : Dev nD) : V m c main_v13 = rowWeights (m ((c.tc : Thread nD τ).loc main_arg2)) := by
  unfold V; after_reads_simp; rfl

theorem keyWeights_eq (m : (ℓ : Loc nD τ sig) → Buf (Elt Ideal) ℓ) (c : Dev nD) : V m c main_v15 = keyWeights (m ((c.tc : Thread nD τ).loc main_arg2)) := by
  unfold V; after_reads_simp; rfl

theorem matrix_at (x : FVec Ideal S1x1024x1536 .f32) (k : Fin 1024) (j : Fin 1536) : matrix x (ix2 k j) = x (ix3 0 k j) := by
  pointwise [matrix]

theorem queries_at (w : FVec Ideal S1024x1536 .f32) (k j : Fin 1024) : queries w (ix2 k j) = w (ix2 k ⟨j, by omega⟩) * eighth := by
  pointwise [queries, eighth]

theorem pairs_at (w : FVec Ideal S1024x1536 .f32) (k : Fin 1024) (j : Fin 512) :
    pairs w (ix2 k j) = w (ix2 k ⟨source (1024 + j), source_lt ⟨1024 + j, by omega⟩⟩) := by
  pointwise [pairs, group]
  split_ifs with h
  · exact congrArg (fun l => w (ix2 k l)) (Fin.ext (source_value h).symm)
  · exact congrArg (fun l => w (ix2 k l)) (Fin.ext (source_key h).symm)

theorem rowWeights_at (x : FVec Ideal S1x1024x1536 .f32) (k : Fin 1024) (j : Fin 1536) :
    rowWeights x (ix2 k j) = if (j : Nat) < 1024 then x (ix3 0 k ⟨source j, source_lt j⟩) * eighth else x (ix3 0 k ⟨source j, source_lt j⟩) := by
  pointwise [rowWeights]
  by_cases h : (j : Nat) < 1024
  · rw [dif_pos h, if_pos h, queries_at, matrix_at]
    exact congrArg (fun l => x (ix3 0 k l) * eighth) (Fin.ext (source_query h).symm)
  · rw [dif_neg h, if_neg h, pairs_at, matrix_at]
    exact congrArg (fun l => x (ix3 0 k l)) (Fin.ext (congrArg source (by simp only; omega)))

theorem keyWeights_at (x : FVec Ideal S1x1024x1536 .f32) (j : Fin 256) (k : Fin 1024) :
    keyWeights x (ix2 j k) = x (ix3 0 k ⟨1024 + j, by omega⟩) := by
  pointwise [keyWeights, matrix]

end Cert.Kernel5Ideal.Projections

end
-- ==== Proof.Projections.LastArray.lean ====
/- The last layer's projection: what each grid point stages, and its result arrays. -/
module

public import proofs.«01_k».proof.Proof.Projections.LastWeights
public import Idealize.ShloMosaic.Lib.Pipeline.ValueKit
public import Idealize.ShloMosaic.Lib.Claim

@[expose] public section

set_option maxRecDepth 16384

noncomputable section

namespace Cert.Kernel5Ideal.Projections

open Idealize.ShloMosaic Idealize.ShloMosaic.TcCoe Idealize.SL.Sem
open Idealize.ShloMosaic.Pipeline (Dat)
open Cert.Kernel5Ideal Cert.Kernel5Ideal.Gen Cert.Projections

variable (m : (ℓ : Loc nD τ sig) → Buf (Elt Ideal) ℓ)

/-! ## The blocks: rows `1024 t` on of the row arrays, columns `1024 t` on of the transposed keys, the
  other operands whole -/

theorem idx : ∀ t : Fin cfg0.N, win0_0.index t = ![t.val, 0] ∧ win0_1.index t = ![0, 0] ∧ win0_2.index t = ![0, 0] ∧
    win0_3.index t = ![0, 0] ∧ win0_4.index t = ![t.val, 0] ∧ win0_5.index t = ![0, t.val] ∧ t.val < 64 :=
  (by decide +kernel : ∀ t : Fin grid0.N, _)

section Reads

variable (c : Dev nD) (W : (b : Ref sig .tc) → Buf (Elt Ideal) ((c : Thread nD τ).loc b)) (t : Fin cfg0.N)

theorem read0 (T : Vec Ideal S65536x1024 .f32) (h : W main_arg0 = T) (r l : Fin 1024) (r' : Fin 65536) (hr : (r' : Nat) = 1024 * t.val + r) :
    View.read (Elt Ideal) ((cfg0.win 0).blk t).view (W (Pipeline.arrRef spec0 0)) (ix2 r l : S1024x1024.Idx) = T (ix2 r' l) := by
  subst h
  refine congrArg (W main_arg0) ?_
  blk_ext [idx t]

theorem read1 (T : Vec Ideal S1x1024 .f32) (h : W main_v18 = T) (l : Fin 1024) :
    View.read (Elt Ideal) ((cfg0.win 1).blk t).view (W (Pipeline.arrRef spec0 1)) (ix2 0 l : S1x1024.Idx) = T (ix2 0 l) := by
  subst h
  refine congrArg (W main_v18) ?_
  blk_ext [idx t]

theorem read2 (T : Vec Ideal S1024x1536 .bf16) (h : W main_v13 = T) (r : Fin 1024) (l : Fin 1536) :
    View.read (Elt Ideal) ((cfg0.win 2).blk t).view (W (Pipeline.arrRef spec0 2)) (ix2 r l : S1024x1536.Idx) = T (ix2 r l) := by
  subst h
  refine congrArg (W main_v13) ?_
  blk_ext [idx t]

theorem read3 (T : Vec Ideal S256x1024 .bf16) (h : W main_v15 = T) (r : Fin 256) (l : Fin 1024) :
    View.read (Elt Ideal) ((cfg0.win 3).blk t).view (W (Pipeline.arrRef spec0 3)) (ix2 r l : S256x1024.Idx) = T (ix2 r l) := by
  subst h
  refine congrArg (W main_v15) ?_
  blk_ext [idx t]

end Reads

/-- Where an index of an output block sits. -/
theorem place4 {α : Type} (T : S65536x1536.Idx → α) (t : Fin cfg0.N) (r : Fin 1024) (l : Fin 1536) (r' : Fin 65536) (hr : (r' : Nat) = 1024 * t.val + r) :
    T ((win0_4.blk t).view.emb (ix2 r l)) = T (ix2 r' l) := by
  refine congrArg T ?_
  blk_ext [idx t]

theorem place5 {α : Type} (T : S256x65536.Idx → α) (t : Fin cfg0.N) (l : Fin 256) (r : Fin 1024) (r' : Fin 65536) (hr : (r' : Nat) = 1024 * t.val + r) :
    T ((win0_5.blk t).view.emb (ix2 l r)) = T (ix2 l r') := by
  refine congrArg T ?_
  blk_ext [idx t]

/-! ## The result arrays -/

/-- The results, from the argument arrays. -/
def rows (x0 : FVec Ideal S65536x1024 .f32) (x1 : FVec Ideal S2x1024 .f32) (x2 : FVec Ideal S1x1024x1536 .f32) : FVec Ideal S65536x1536 .bf16 :=
  fun y => lane (fun k => x0 (ix2 (y 0) k)) (fun k => x1 (ix2 1 k)) (fun k l => x2 (ix3 0 k l)) (y 1)

def keyColumn (j : Fin 256) : Fin 1536 := ⟨1024 + j, by omega⟩

def keys (x0 : FVec Ideal S65536x1024 .f32) (x1 : FVec Ideal S2x1024 .f32) (x2 : FVec Ideal S1x1024x1536 .f32) : FVec Ideal S256x65536 .bf16 :=
  fun y => entry (fun k => x0 (ix2 (y 1) k)) (fun k => x1 (ix2 1 k)) fun k => x2 (ix3 0 k (keyColumn (y 0)))

section Entries

variable (c : Dev nD) (t : Fin cfg0.N) (r : Fin 1024) (r' : Fin 65536) (hr : (r' : Nat) = 1024 * t.val + r)

include hr

theorem row_at (k : Fin 1024) : (iblk m c 0 t : Vec Ideal S1024x1024 .f32) (ix2 r k) = m ((c.tc : Thread nD τ).loc main_arg0) (ix2 r' k) :=
  read0 c (V m c) t _ (V_main_arg0 m c) r k r' hr

omit hr

theorem scale_at (k : Fin 1024) : (iblk m c 1 t : Vec Ideal S1x1024 .f32) (ix2 0 k) = m ((c.tc : Thread nD τ).loc main_arg1) (ix2 1 k) :=
  (read1 c (V m c) t _ (scales_eq m c) k).trans (scales_at _ k)

include hr

/-- One entry of an output block. -/
theorem rows_block_at (j : Fin 1536) :
    out0_4 (F := Ideal) (iblk m c 0 t) (iblk m c 1 t) (iblk m c 2 t) (iblk m c 3 t) (ix2 r j) =
      rows (m ((c.tc : Thread nD τ).loc main_arg0)) (m ((c.tc : Thread nD τ).loc main_arg1)) (m ((c.tc : Thread nD τ).loc main_arg2)) (ix2 r' j) := by
  have e2 : ∀ k : Fin 1024, (iblk m c 2 t : Vec Ideal S1024x1536 .bf16) (ix2 k j) = _ :=
    fun k => (read2 c (V m c) t _ (rowWeights_eq m c) k j).trans (rowWeights_at _ k j)
  rw [rows_at]
  simp only [row_at m c t r r' hr, scale_at, e2]
  exact entry_lane _ _ (fun k l => m ((c.tc : Thread nD τ).loc main_arg2) (ix3 0 k l)) j

theorem keys_block_at (j : Fin 256) :
    out0_5 (F := Ideal) (iblk m c 0 t) (iblk m c 1 t) (iblk m c 2 t) (iblk m c 3 t) (ix2 j r) =
      keys (m ((c.tc : Thread nD τ).loc main_arg0)) (m ((c.tc : Thread nD τ).loc main_arg1)) (m ((c.tc : Thread nD τ).loc main_arg2)) (ix2 j r') := by
  have e3 : ∀ k : Fin 1024, (iblk m c 3 t : Vec Ideal S256x1024 .bf16) (ix2 j k) = _ :=
    fun k => (read3 c (V m c) t _ (keyWeights_eq m c) j k).trans (keyWeights_at _ j k)
  rw [columns_at]
  simp only [row_at m c t r r' hr, scale_at, e3]
  rfl

end Entries

/-- The result arrays after the run. -/
theorem final_rows (c : Dev nD) : (dats m 0 c).arrAt 4 (cfgs 0).N =
    rows (m ((c.tc : Thread nD τ).loc main_arg0)) (m ((c.tc : Thread nD τ).loc main_arg1)) (m ((c.tc : Thread nD τ).loc main_arg2)) := by
  refine (dats m 0 c).arrAt_eq_of_covers 4 _ (by decide +kernel) fun t _ y => ?_
  have ht : t.val < 64 := t.isLt
  obtain ⟨r, l, rfl⟩ : ∃ (r : Fin 1024) (l : Fin 1536), y = ix2 r l := ⟨y 0, y 1, by funext a; fin_cases a <;> rfl⟩
  blk_simp
  rw [after0_4]
  exact (rows_block_at m c t r ⟨1024 * t.val + r, by omega⟩ rfl l).trans (place4 (rows _ _ _) t r l _ rfl).symm

theorem final_keys (c : Dev nD) : (dats m 0 c).arrAt 5 (cfgs 0).N =
    keys (m ((c.tc : Thread nD τ).loc main_arg0)) (m ((c.tc : Thread nD τ).loc main_arg1)) (m ((c.tc : Thread nD τ).loc main_arg2)) := by
  refine (dats m 0 c).arrAt_eq_of_covers 5 _ (by decide +kernel) fun t _ y => ?_
  have ht : t.val < 64 := t.isLt
  obtain ⟨l, r, rfl⟩ : ∃ (l : Fin 256) (r : Fin 1024), y = ix2 l r := ⟨y 0, y 1, by funext a; fin_cases a <;> rfl⟩
  blk_simp
  rw [after0_5]
  exact (keys_block_at m c t r ⟨1024 * t.val + r, by omega⟩ rfl l).trans (place5 (keys _ _ _) t l r _ rfl).symm

end Cert.Kernel5Ideal.Projections

end
-- ==== Proof.Projections.RefIn.lean ====
/- The reference's lines for the first layer's projection: their run, and their result at one entry. -/
module

public import proofs.«01_k».proof.Proof.Gen.Reference4Ideal.Run
public import proofs.«01_k».proof.Proof.Mlp.RefTerms
public import proofs.«01_k».proof.Proof.Projections.Spec

@[expose] public section

set_option maxRecDepth 16384

noncomputable section

namespace Cert.Reference4Ideal.Projections

open Idealize.ShloMosaic Idealize.ShloMosaic.TcCoe Idealize.SL.Sem
open Cert.Reference4Ideal Cert.Reference4Ideal.Gen Cert.Mlp Cert.Projections
open Cert.Reference2Ideal.Mlp (rms rms_at)

/-- The rows times the weights, in the results' format. -/
def product (u : FVec Ideal S65536x1024 .f32) (w : FVec Ideal S1x1024x3072 .f32) : FVec Ideal S65536x3072 .bf16 :=
  truncf .bf16 (Host.dotGeneral dot_S65536x1024_S1024x3072_S65536x3072_1_0_0_1_n_n none u
    (shapeCast S1024x3072 w shapeCasts_S1x1024x3072_S1024x3072)) bitsLt_bf16_f32

/-- The layer's scales. -/
def scales (x1 : FVec Ideal S2x1024 .f32) : FVec Ideal S1024 .f32 :=
  shapeCast S1024 (extractStridedSlice S1x1024 ![0, 0] x1 slices_S2x1024_S1x1024_0_0) shapeCasts_S1x1024_S1024

/-- The reference's lines. -/
def lines (x0 : FVec Ideal S65536x1024 .f32) (x1 : FVec Ideal S2x1024 .f32) (x2 : FVec Ideal S1x1024x3072 .f32) : FVec Ideal S65536x3072 .bf16 :=
  product (rms x0 (scales x1)) x2

theorem product_at (u : FVec Ideal S65536x1024 .f32) (w : FVec Ideal S1x1024x3072 .f32) (r : Fin 65536) (j : Fin 3072) :
    product u w (ix2 r j) = ∑ k : Fin 1024, u (ix2 r k) * w (ix3 0 k j) := by
  pointwise [product]

theorem scales_at (x1 : FVec Ideal S2x1024 .f32) (k : Fin 1024) : scales x1 (ix1 k) = x1 (ix2 0 k) := by
  pointwise [scales]

theorem lines_at (x0 : FVec Ideal S65536x1024 .f32) (x1 : FVec Ideal S2x1024 .f32) (x2 : FVec Ideal S1x1024x3072 .f32) (r : Fin 65536) (j : Fin 3072) :
    lines x0 x1 x2 (ix2 r j) = entry (fun k => x0 (ix2 r k)) (fun k => x1 (ix2 0 k)) fun k => x2 (ix3 0 k j) := by
  have e : (fun k : Fin 1024 => scales x1 (ix1 k)) = fun k => x1 (ix2 0 k) := funext fun k => scales_at x1 k
  unfold lines entry
  rw [product_at, ← e]
  exact Finset.sum_congr rfl fun k _ => congrArg (· * x2 (ix3 0 k j)) (rms_at x0 (scales x1) r k)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) =
        lines (m ((c.tc : Thread nD τ).loc main_arg0)) (m ((c.tc : Thread nD τ).loc main_arg1)) (m ((c.tc : Thread nD τ).loc main_arg2)) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) :=
  Value.run m ρ

end Cert.Reference4Ideal.Projections

end
-- ==== Proof.Projections.RefLast.lean ====
/- The reference's lines for the last layer's projection: their run, and their results at one entry. -/
module

public import proofs.«01_k».proof.Proof.Gen.Reference5Ideal.Run
public import proofs.«01_k».proof.Proof.Mlp.RefTerms
public import proofs.«01_k».proof.Proof.Projections.Spec

@[expose] public section

set_option maxRecDepth 16384

noncomputable section

namespace Cert.Reference5Ideal.Projections

open Idealize.ShloMosaic Idealize.ShloMosaic.TcCoe Idealize.SL.Sem
open Cert.Reference5Ideal Cert.Reference5Ideal.Gen Cert.Mlp Cert.Projections
open Cert.Reference2Ideal.Mlp (rms rms_at)

/-- The rows times the weights. -/
def product (u : FVec Ideal S65536x1024 .f32) (w : FVec Ideal S1x1024x1536 .f32) : FVec Ideal S65536x1536 .f32 :=
  Host.dotGeneral dot_S65536x1024_S1024x1536_S65536x1536_1_0_0_1_n_n none u
    (shapeCast S1024x1536 w shapeCasts_S1x1024x1536_S1024x1536)

/-- The layer's scales. -/
def scales (x1 : FVec Ideal S2x1024 .f32) : FVec Ideal S1024 .f32 :=
  shapeCast S1024 (extractStridedSlice S1x1024 ![1, 0] x1 slices_S2x1024_S1x1024_1_0) shapeCasts_S1x1024_S1024

/-- The queries, scaled. -/
def queries (p : FVec Ideal S65536x1536 .f32) : FVec Ideal S65536x1024 .f32 :=
  mulf (extractStridedSlice S65536x1024 ![0, 0] p slices_S65536x1536_S65536x1024_0_0)
    (broadcastInDim S65536x1024 ![] bcast_S_S65536x1024 (constant (F := Ideal) S_ .f32 0x3E000000#32))

/-- For each group its values, then its keys. -/
def pairs (p : FVec Ideal S65536x1536 .f32) : FVec Ideal S65536x512 .f32 :=
  shapeCast S65536x512 (concatenate S65536x4x2x64 2
    [⟨S65536x4x1x64, shapeCast S65536x4x1x64 (extractStridedSlice S65536x256 ![0, 1280] p slices_S65536x1536_S65536x256_0_1280)
        shapeCasts_S65536x256_S65536x4x1x64⟩,
      ⟨S65536x4x1x64, shapeCast S65536x4x1x64 (extractStridedSlice S65536x256 ![0, 1024] p slices_S65536x1536_S65536x256_0_1024)
        shapeCasts_S65536x256_S65536x4x1x64⟩]
    concatenates_S65536x4x1x64_S65536x4x1x64_S65536x4x2x64_d2) shapeCasts_S65536x4x2x64_S65536x512

/-- The rows' results: queries, values and keys. -/
def rows (p : FVec Ideal S65536x1536 .f32) : FVec Ideal S65536x1536 .bf16 :=
  truncf .bf16 (concatenate S65536x1536 1 [⟨S65536x1024, queries p⟩, ⟨S65536x512, pairs p⟩]
    concatenates_S65536x1024_S65536x512_S65536x1536_d1) bitsLt_bf16_f32

/-- The keys, transposed. -/
def columns (p : FVec Ideal S65536x1536 .f32) : FVec Ideal S256x65536 .bf16 :=
  truncf .bf16 (transpose S256x65536 [1, 0] (extractStridedSlice S65536x256 ![0, 1024] p slices_S65536x1536_S65536x256_0_1024)
    transposes_S65536x256_S256x65536_1_0) bitsLt_bf16_f32

/-- The reference's product. -/
def projected (x0 : FVec Ideal S65536x1024 .f32) (x1 : FVec Ideal S2x1024 .f32) (x2 : FVec Ideal S1x1024x1536 .f32) : FVec Ideal S65536x1536 .f32 :=
  product (rms x0 (scales x1)) x2

theorem product_at (u : FVec Ideal S65536x1024 .f32) (w : FVec Ideal S1x1024x1536 .f32) (r : Fin 65536) (j : Fin 1536) :
    product u w (ix2 r j) = ∑ k : Fin 1024, u (ix2 r k) * w (ix3 0 k j) := by
  pointwise [product]

theorem scales_at (x1 : FVec Ideal S2x1024 .f32) (k : Fin 1024) : scales x1 (ix1 k) = x1 (ix2 1 k) := by
  pointwise [scales]

theorem projected_at (x0 : FVec Ideal S65536x1024 .f32) (x1 : FVec Ideal S2x1024 .f32) (x2 : FVec Ideal S1x1024x1536 .f32) (r : Fin 65536) (j : Fin 1536) :
    projected x0 x1 x2 (ix2 r j) = entry (fun k => x0 (ix2 r k)) (fun k => x1 (ix2 1 k)) fun k => x2 (ix3 0 k j) := by
  have e : (fun k : Fin 1024 => scales x1 (ix1 k)) = fun k => x1 (ix2 1 k) := funext fun k => scales_at x1 k
  unfold projected entry
  rw [product_at, ← e]
  exact Finset.sum_congr rfl fun k _ => congrArg (· * x2 (ix3 0 k j)) (rms_at x0 (scales x1) r k)

theorem queries_at (p : FVec Ideal S65536x1536 .f32) (r : Fin 65536) (j : Fin 1024) : queries p (ix2 r j) = p (ix2 r ⟨j, by omega⟩) * eighth := by
  pointwise [queries, eighth]

theorem pairs_at (p : FVec Ideal S65536x1536 .f32) (r : Fin 65536) (j : Fin 512) :
    pairs p (ix2 r j) = p (ix2 r ⟨source (1024 + j), source_lt ⟨1024 + j, by omega⟩⟩) := by
  pointwise [pairs]
  split_ifs with h
  · exact congrArg (fun l => p (ix2 r l)) (Fin.ext (source_value h).symm)
  · exact congrArg (fun l => p (ix2 r l)) (Fin.ext (source_key h).symm)

theorem rows_at (p : FVec Ideal S65536x1536 .f32) (r : Fin 65536) (j : Fin 1536) :
    rows p (ix2 r j) = if (j : Nat) < 1024 then p (ix2 r ⟨source j, source_lt j⟩) * eighth else p (ix2 r ⟨source j, source_lt j⟩) := by
  pointwise [rows]
  by_cases h : (j : Nat) < 1024
  · rw [dif_pos h, if_pos h, queries_at]
    exact congrArg (fun l => p (ix2 r l) * eighth) (Fin.ext (source_query h).symm)
  · rw [dif_neg h, if_neg h, pairs_at]
    exact congrArg (fun l => p (ix2 r l)) (Fin.ext (congrArg source (by simp only; omega)))

theorem columns_at (p : FVec Ideal S65536x1536 .f32) (j : Fin 256) (r : Fin 65536) : columns p (ix2 j r) = p (ix2 r ⟨1024 + j, by omega⟩) := by
  pointwise [columns]

theorem lines_rows_at (x0 : FVec Ideal S65536x1024 .f32) (x1 : FVec Ideal S2x1024 .f32) (x2 : FVec Ideal S1x1024x1536 .f32) (r : Fin 65536) (j : Fin 1536) :
    rows (projected x0 x1 x2) (ix2 r j) = lane (fun k => x0 (ix2 r k)) (fun k => x1 (ix2 1 k)) (fun k l => x2 (ix3 0 k l)) j := by
  rw [rows_at, projected_at]
  rfl

theorem lines_columns_at (x0 : FVec Ideal S65536x1024 .f32) (x1 : FVec Ideal S2x1024 .f32) (x2 : FVec Ideal S1x1024x1536 .f32) (j : Fin 256) (r : Fin 65536) :
    columns (projected x0 x1 x2) (ix2 j r) =
      entry (fun k => x0 (ix2 r k)) (fun k => x1 (ix2 1 k)) fun k => x2 (ix3 0 k ⟨1024 + j, by omega⟩) := by
  rw [columns_at, projected_at]

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) =
        rows (projected (m ((c.tc : Thread nD τ).loc main_arg0)) (m ((c.tc : Thread nD τ).loc main_arg1)) (m ((c.tc : Thread nD τ).loc main_arg2))) ∧
      r.2.mem ((c.tc : Thread nD τ).loc main_v29) =
        columns (projected (m ((c.tc : Thread nD τ).loc main_arg0)) (m ((c.tc : Thread nD τ).loc main_arg1)) (m ((c.tc : Thread nD τ).loc main_arg2))) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) :=
  Value.run m ρ

end Cert.Reference5Ideal.Projections

end
-- ==== Proof.Projections.Same.lean ====
/- The reference's results are the projections' result arrays. -/
module

public import proofs.«01_k».proof.Proof.Projections.InArray
public import proofs.«01_k».proof.Proof.Projections.LastArray
public import proofs.«01_k».proof.Proof.Projections.RefIn
public import proofs.«01_k».proof.Proof.Projections.RefLast

@[expose] public section

set_option maxRecDepth 16384

noncomputable section

namespace Cert.Projections

open Idealize.ShloMosaic Idealize.ShloMosaic.TcCoe

/-- Matrices that agree at every entry are equal. -/
theorem matrix_ext {α : Type} {a b : Nat} (f g : (⟨2, ![a, b]⟩ : Shape).Idx → α) (h : ∀ (r : Fin a) (j : Fin b), f (ix2 r j) = g (ix2 r j)) : f = g := by
  funext y
  have hy : y = ix2 (y 0) (y 1) := by funext a; fin_cases a <;> rfl
  rw [hy]
  exact h (y 0) (y 1)

section In

open Cert.Reference4Ideal

theorem in_same (x0 : FVec Ideal S65536x1024 .f32) (x1 : FVec Ideal S2x1024 .f32) (x2 : FVec Ideal S1x1024x3072 .f32) :
    Cert.Reference4Ideal.Projections.lines x0 x1 x2 = Cert.Kernel4Ideal.Projections.result x0 x1 x2 :=
  matrix_ext _ _ fun r j => Cert.Reference4Ideal.Projections.lines_at x0 x1 x2 r j

end In

section Last

open Cert.Reference5Ideal

variable (x0 : FVec Ideal S65536x1024 .f32) (x1 : FVec Ideal S2x1024 .f32) (x2 : FVec Ideal S1x1024x1536 .f32)

theorem rows_same : Cert.Reference5Ideal.Projections.rows (Cert.Reference5Ideal.Projections.projected x0 x1 x2) =
    Cert.Kernel5Ideal.Projections.rows x0 x1 x2 :=
  matrix_ext _ _ fun r j => Cert.Reference5Ideal.Projections.lines_rows_at x0 x1 x2 r j

theorem keys_same : Cert.Reference5Ideal.Projections.columns (Cert.Reference5Ideal.Projections.projected x0 x1 x2) =
    Cert.Kernel5Ideal.Projections.keys x0 x1 x2 :=
  matrix_ext _ _ fun j r => Cert.Reference5Ideal.Projections.lines_columns_at x0 x1 x2 j r

end Last

end Cert.Projections

end
-- ==== Proof.Projections.Claims.lean ====
/- The frames and the value claims of the two calls that norm the rows and project them into a layer. -/
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Projections.Same
public import Idealize.ShloMosaic.Lib.Claim
public import Idealize.ShloMosaic.Lib.Quiescent

@[expose] public section

set_option maxRecDepth 16384

noncomputable section

namespace Cert.Projections

open Idealize.ShloMosaic Idealize.ShloMosaic.TcCoe Idealize.SL.Sem

theorem frameK4 : Cert.quiescent_Kernel4 := fun m g _ => Cert.Kernel4.Gen.frame m g

theorem frameI4 : Cert.quiescent_Kernel4Ideal := fun m g _ => Cert.Kernel4Ideal.Gen.frame m g

theorem frameR4 : Cert.quiescent_Reference4Ideal := fun m g _ =>
  (θ_run Cert.Reference4Ideal.defs _ _).mono (fun r h => ⟨fun c => (h c).2, sem_eq_zero_of_no_sems (by decide) r.2⟩)
    (Cert.Reference4Ideal.Projections.run m g)

theorem frameK5 : Cert.quiescent_Kernel5 := fun m g _ => Cert.Kernel5.Gen.frame m g

theorem frameI5 : Cert.quiescent_Kernel5Ideal := fun m g _ => Cert.Kernel5Ideal.Gen.frame m g

theorem frameR5 : Cert.quiescent_Reference5Ideal := fun m g _ =>
  (θ_run Cert.Reference5Ideal.defs _ _).mono (fun r h => ⟨fun c => (h c).2.2, sem_eq_zero_of_no_sems (by decide) r.2⟩)
    (Cert.Reference5Ideal.Projections.run m g)

/-- The first layer's projection: both programs' results are `result` of the arguments. -/
theorem algebraic4 : Cert.algebraic_Kernel4Ideal_Reference4Ideal := by
  pair_intro
  · run_from Cert.Kernel4Ideal.Value.run_blocks m g
  · run_from Cert.Reference4Ideal.Projections.run m' g'
    exact (in_same _ _ _).trans (Cert.Kernel4Ideal.Projections.final m c).symm

/-- The last layer's: both programs' results are `rows` and `keys` of the arguments. -/
theorem algebraic5 : Cert.algebraic_Kernel5Ideal_Reference5Ideal := by
  pair_intro
  · run_from Cert.Kernel5Ideal.Value.run_blocks m g
  · run_from Cert.Reference5Ideal.Projections.run m' g'
    · exact (rows_same _ _ _).trans (Cert.Kernel5Ideal.Projections.final_rows m c).symm
    · exact (keys_same _ _ _).trans (Cert.Kernel5Ideal.Projections.final_keys m c).symm

end Cert.Projections

end
-- ==== Proof.Filters.Spec.lean ====
/- The convolution's filters: a small network of three sine layers, on a position's time and on the cosines and sines of its
   bands, then a linear map whose result decays with time. -/
module

public import proofs.«01_k».proof.Proof.Attention.Spec

@[expose] public section

set_option maxRecDepth 16384

noncomputable section

namespace Cert.Filters

open Idealize.ShloMosaic Idealize.ShloMosaic.TcCoe

/-- The first layer, of the time `t`, the bands' cosines `c` and their negated sines `s`. -/
def first (t : EReal) (c s : Fin 16 → EReal) (w : Fin 33 → Fin 64 → EReal) (b fr : Fin 64 → EReal) (j : Fin 64) : EReal :=
  Ideal.sin (fr j * ((t * w 0 j + ∑ i : Fin 16, c i * w ⟨1 + i, by omega⟩ j + ∑ i : Fin 16, s i * w ⟨17 + i, by omega⟩ j) + b j))

/-- A further layer. -/
def dense (h : Fin 64 → EReal) (w : Fin 64 → Fin 64 → EReal) (b fr : Fin 64 → EReal) (j : Fin 64) : EReal :=
  Ideal.sin (fr j * ((∑ k : Fin 64, h k * w k j) + b j))

/-- The time of a position: the first is 0, and one per 4111. -/
def time (l : Nat) : EReal := Ideal.div ((l : ℝ) : EReal) (Ideal.ofBits .f32 0x45807800#32)

/-- The angle of a position: 4112 make a turn. -/
def angle (l : Nat) : EReal := Ideal.div (Ideal.ofBits .f32 0x40C90FDB#32 * ((l : ℝ) : EReal)) (Ideal.ofBits .f32 0x45808000#32)

/-- The layers at a position, `band` the bands. -/
def hidden (band : Fin 16 → EReal) (w1 : Fin 33 → Fin 64 → EReal) (b1 : Fin 64 → EReal) (w2 : Fin 64 → Fin 64 → EReal) (b2 : Fin 64 → EReal)
    (w3 : Fin 64 → Fin 64 → EReal) (b3 fr : Fin 64 → EReal) (l : Nat) : Fin 64 → EReal :=
  dense (dense (first (time l) (fun i => Ideal.cos (band i * angle l)) (fun i => -Ideal.sin (band i * angle l)) w1 b1 fr) w2 b2 fr) w3 b3 fr

/-- A filter's value: the last map's, decaying at the rate `d`. -/
def value (h wo : Fin 64 → EReal) (t d : EReal) : EReal := (∑ k : Fin 64, h k * wo k) * Ideal.exp (-t * d)

/-- The position that a row of the circular layout holds: the forward filter's first half, then the backward one's, back to front. -/
def lag (r : Nat) : Nat := if r < 4096 then r else 8192 - r

theorem lag_le (r : Fin 8192) : lag r ≤ 4096 := by unfold lag; split_ifs <;> omega

/-- The filter that a row of the circular layout is of: 0 the forward one, 1 the backward one. -/
def direction (r : Nat) : Nat := if r < 4096 then 0 else 1

theorem direction_lt (r : Nat) : direction r < 2 := by unfold direction; split_ifs <;> omega

/-- The last map's column for an order, a filter and a channel. -/
def column (o : Fin 2) (r : Fin 8192) (j : Fin 1024) : Fin 4096 := ⟨o * 2048 + direction r * 1024 + j, by unfold direction; split_ifs <;> omega⟩

/-- A sum over 33 inputs, by kind. -/
theorem sum_33 (f : Fin 33 → EReal) : ∑ k : Fin 33, f k = f 0 + ∑ i : Fin 16, f ⟨1 + i, by omega⟩ + ∑ i : Fin 16, f ⟨17 + i, by omega⟩ := by
  rw [Fin.sum_univ_add (a := 17) (b := 16) f, Fin.sum_univ_add (a := 1) (b := 16) fun i => f (Fin.castAdd 16 i), Fin.sum_univ_one]
  rfl

/-- A sum over 40 inputs the last seven of which are 0. -/
theorem sum_40 (f : Fin 40 → EReal) (h : ∀ i : Fin 7, f ⟨33 + i, by omega⟩ = 0) :
    ∑ k : Fin 40, f k = f 0 + ∑ i : Fin 16, f ⟨1 + i, by omega⟩ + ∑ i : Fin 16, f ⟨17 + i, by omega⟩ := by
  have e : ∑ i : Fin 7, f (Fin.natAdd 33 i) = 0 := Finset.sum_eq_zero fun i _ => h i
  rw [Fin.sum_univ_add (a := 33) (b := 7) f, e, add_zero]
  exact sum_33 fun i => f (Fin.castAdd 7 i)

end Cert.Filters

end
-- ==== Proof.Filters.Block.lean ====
/- The block that a grid point of the filter kernel writes: 512 positions' filters, of both orders. -/
module

public import proofs.«01_k».proof.Proof.Gen.Kernel6Ideal.Frame
public import proofs.«01_k».proof.Proof.Filters.Spec
public import Idealize.ShloMosaic.Lib.Pipeline.Value
public import Idealize.ShloMosaic.Lib.Pipeline.ValueKit

@[expose] public section

set_option maxRecDepth 16384

noncomputable section

namespace Cert.Kernel6Ideal.Filters

open Idealize.ShloMosaic Idealize.ShloMosaic.TcCoe Idealize.SL.Sem
open Cert.Kernel6Ideal Cert.Kernel6Ideal.Gen Cert.Filters

/-- The first layer, of the kernel's 40 inputs. -/
def first40 (z : Fin 40 → EReal) (w : Fin 40 → Fin 64 → EReal) (b fr : Fin 64 → EReal) (j : Fin 64) : EReal :=
  Ideal.sin (fr j * ((∑ k : Fin 40, z k * w k j) + b j))

theorem layers_at (fr : Vec Ideal S1x64 .f32) (z : Vec Ideal S512x40 .f32) (w1 : Vec Ideal S40x64 .f32) (b1 : Vec Ideal S1x64 .f32)
    (w2 : Vec Ideal S64x64 .f32) (b2 : Vec Ideal S1x64 .f32) (w3 : Vec Ideal S64x64 .f32) (b3 : Vec Ideal S1x64 .f32) (r : Fin 512) (j : Fin 64) :
    k0_pay5 (F := Ideal) fr z w1 b1 w2 b2 w3 b3 (ix2 r j) =
      dense (dense (first40 (fun k => z (ix2 r k)) (fun k j => w1 (ix2 k j)) (fun j => b1 (ix2 0 j)) fun j => fr (ix2 0 j))
        (fun k j => w2 (ix2 k j)) (fun j => b2 (ix2 0 j)) fun j => fr (ix2 0 j)) (fun k j => w3 (ix2 k j)) (fun j => b3 (ix2 0 j)) (fun j => fr (ix2 0 j)) j := by
  pointwise [k0_pay5, dense, first40]

theorem order0_at (h : FVec Ideal S512x64 .bf16) (wo : FVec Ideal S64x2048 .bf16) (t : Vec Ideal S512x1 .f32) (d : Vec Ideal S1x1024 .f32)
    (r : Fin 512) (j : Fin 1024) :
    k0_pay3 (F := Ideal) h wo t d (ix3 0 r j) = value (fun k => h (ix2 r k)) (fun k => wo (ix2 k ⟨j, by omega⟩)) (t (ix2 r 0)) (d (ix2 0 j)) := by
  pointwise [k0_pay3, k0_pay1, k0_pay2, value]
  rw [zero_sub]

theorem order1_at (h : FVec Ideal S512x64 .bf16) (wo : FVec Ideal S64x2048 .bf16) (t : Vec Ideal S512x1 .f32) (d : Vec Ideal S1x1024 .f32)
    (r : Fin 512) (j : Fin 1024) :
    k0_pay4 (F := Ideal) h wo t d (ix3 0 r j) = value (fun k => h (ix2 r k)) (fun k => wo (ix2 k ⟨1024 + j, by omega⟩)) (t (ix2 r 0)) (d (ix2 0 j)) := by
  pointwise [k0_pay4, k0_pay1, k0_pay2, value]
  rw [zero_sub]

theorem weights_at (wo : Vec Ideal S1x64x2048 .bf16) (k : Fin 64) (j : Fin 2048) : k0_pay6 (F := Ideal) wo (ix2 k j) = wo (ix3 0 k j) := by
  pointwise [k0_pay6]

/-- The block: its two stores are the two orders'. -/
theorem block_at (x0 : Vec Ideal S512x40 .f32) (x1 : Vec Ideal S40x64 .f32) (x2 : Vec Ideal S1x64 .f32) (x3 : Vec Ideal S64x64 .f32)
    (x4 : Vec Ideal S1x64 .f32) (x5 : Vec Ideal S64x64 .f32) (x6 x7 : Vec Ideal S1x64 .f32) (x8 : Vec Ideal S1x64x2048 .bf16) (x9 : Vec Ideal S1x1024 .f32)
    (o : Fin 2) (r : Fin 512) (j : Fin 1024) :
    out0_10 (F := Ideal) x0 x1 x2 x3 x4 x5 x6 x7 x8 x9 (ix3 o r j) =
      value (dense (dense (first40 (fun k => x0 (ix2 r k)) (fun k j => x1 (ix2 k j)) (fun j => x2 (ix2 0 j)) fun j => x7 (ix2 0 j))
        (fun k j => x3 (ix2 k j)) (fun j => x4 (ix2 0 j)) fun j => x7 (ix2 0 j)) (fun k j => x5 (ix2 k j)) (fun j => x6 (ix2 0 j)) fun j => x7 (ix2 0 j))
        (fun k => x8 (ix3 0 k ⟨1024 * o + j, by omega⟩)) (x0 (ix2 r 0)) (x9 (ix2 0 j)) := by
  have z : (![0, 0] : Fin 2 → Nat) = fun _ => 0 := by
    funext a; fin_cases a <;> rfl
  have z3 : (![0, 0, 0] : Fin 3 → Nat) = fun _ => 0 := by
    funext a; fin_cases a <;> rfl
  unfold_out out0_10
  canon_tiles x h
  · obtain rfl : x = ix3 0 r j := by
      funext a; apply Fin.ext; fin_cases a
      · show (x 0 : Nat) = 0; omega
      · exact h1.symm
      · exact h2.symm
    obtain rfl : o = 1 := Fin.ext (h0.trans (by simp))
    rw [order1_at, View.ld_unit_zero z, View.ld_unit_zero z, View.ld_unit_zero z, View.ld_unit_zero z, View.ld_unit_zero z, View.ld_unit_zero z,
      View.ld_unit_zero z, View.ld_unit_zero z, View.ld_unit_zero z3, View.ld_unit_zero z]
    simp only [layers_at, weights_at]
    refine congrArg₂ (fun w t => value _ w t _) (funext fun k => congrArg x8 ?_) ?_
    · exact congrArg (ix3 0 k) (Fin.ext (by simp))
    · exact congrArg x0 (funext fun a => Fin.ext ((Rect.idx_unit_val _ _ _ (ix2 r 0 : S512x1.Idx) a).trans (by fin_cases a <;> simp)))
  · obtain rfl : x = ix3 0 r j := by
      funext a; apply Fin.ext; fin_cases a
      · show (x 0 : Nat) = 0; omega
      · exact h1.symm
      · exact h2.symm
    obtain rfl : o = 0 := Fin.ext (h0.trans (by simp))
    rw [order0_at, View.ld_unit_zero z, View.ld_unit_zero z, View.ld_unit_zero z, View.ld_unit_zero z, View.ld_unit_zero z, View.ld_unit_zero z,
      View.ld_unit_zero z, View.ld_unit_zero z, View.ld_unit_zero z3, View.ld_unit_zero z]
    simp only [layers_at, weights_at]
    refine congrArg₂ (fun w t => value _ w t _) (funext fun k => congrArg x8 ?_) ?_
    · exact congrArg (ix3 0 k) (Fin.ext (by simp))
    · exact congrArg x0 (funext fun a => Fin.ext ((Rect.idx_unit_val _ _ _ (ix2 r 0 : S512x1.Idx) a).trans (by fin_cases a <;> simp)))

end Cert.Kernel6Ideal.Filters

end
-- ==== Proof.Filters.Host.lean ====
/- What the host prepares for the filter kernel: the positions' features, the first layer's weights with seven rows of zeros more,
   the last map's columns by direction, the decay rates. -/
module

public import proofs.«01_k».proof.Proof.Gen.Kernel6Ideal.Frame
public import proofs.«01_k».proof.Proof.Filters.Spec
public import Idealize.ShloMosaic.Lib.StableHlo.RunRead
public import Idealize.ShloMosaic.Lib.Claim

@[expose] public section

set_option maxRecDepth 16384

noncomputable section

namespace Cert.Kernel6Ideal.Filters

open Idealize.ShloMosaic Idealize.ShloMosaic.TcCoe Idealize.SL.Sem
open Cert.Kernel6Ideal Cert.Kernel6Ideal.Gen Cert.Filters

/-- Evenly spaced values of 16 lines, the first `a`, the last `b`. -/
def spaced16 (a b : FVec Ideal S_ .f32) : FVec Ideal S16 .f32 :=
  concatenate S16 0 [⟨S15, addf (mulf (broadcastInDim S15 ![0] bcast_S1_S15_0 (shapeCast S1 a shapeCasts_S_S1))
      (subf (broadcastInDim S15 ![] bcast_S_S15 (constant (F := Ideal) S_ .f32 0x3F800000#32))
        (Host.divf (sitofp .f32 (iotaInDim S15 32 0)) (broadcastInDim S15 ![] bcast_S_S15 (constant (F := Ideal) S_ .f32 0x41700000#32)))))
      (mulf (broadcastInDim S15 ![0] bcast_S1_S15_0 (shapeCast S1 b shapeCasts_S_S1))
        (Host.divf (sitofp .f32 (iotaInDim S15 32 0)) (broadcastInDim S15 ![] bcast_S_S15 (constant (F := Ideal) S_ .f32 0x41700000#32))))⟩,
    ⟨S1, broadcastInDim S1 ![] bcast_S_S1 b⟩] concatenates_S15_S1_S16_d0

/-- The bands. -/
def bands : FVec Ideal S16 .f32 := spaced16 (id (constant (F := Ideal) S_ .f32 0x38D1B717#32)) (sitofp .f32 (constantI S_ 32 15#32))

/-- Evenly spaced values of 1024 lines but the last, the first `a` and the one after the last `b`. -/
def spaced1023 (a b : FVec Ideal S_ .f32) : FVec Ideal S1023 .f32 :=
  addf (mulf (broadcastInDim S1023 ![0] bcast_S1_S1023_0 (shapeCast S1 a shapeCasts_S_S1))
      (subf (broadcastInDim S1023 ![] bcast_S_S1023 (constant (F := Ideal) S_ .f32 0x3F800000#32))
        (Host.divf (sitofp .f32 (iotaInDim S1023 32 0)) (broadcastInDim S1023 ![] bcast_S_S1023 (constant (F := Ideal) S_ .f32 0x447FC000#32)))))
      (mulf (broadcastInDim S1023 ![0] bcast_S1_S1023_0 (shapeCast S1 b shapeCasts_S_S1))
        (Host.divf (sitofp .f32 (iotaInDim S1023 32 0)) (broadcastInDim S1023 ![] bcast_S_S1023 (constant (F := Ideal) S_ .f32 0x447FC000#32))))

/-- The decay rates from their parts. -/
def ratesOf (a : FVec Ideal S1023 .f32) (b : FVec Ideal S1 .f32) : FVec Ideal S1024 .f32 :=
  Host.absf (concatenate S1024 0 [⟨S1023, a⟩, ⟨S1, b⟩] concatenates_S1023_S1_S1024_d0)

/-- The decay rates. -/
def rates : FVec Ideal S1024 .f32 :=
  ratesOf (spaced1023 (id (constant (F := Ideal) S_ .f32 0xC0447CBD#32)) (id (constant (F := Ideal) S_ .f32 0xC1759BEC#32)))
    (broadcastInDim S1 ![] bcast_S_S1 (id (constant (F := Ideal) S_ .f32 0xC1759BEC#32)))

/-- The rates as a row. -/
def rowOf (x : FVec Ideal S1024 .f32) : FVec Ideal S1x1024 .f32 := broadcastInDim S1x1024 ![1] bcast_S1024_S1x1024_1 x

def rateRow : FVec Ideal S1x1024 .f32 := rowOf rates

/-- The rows' positions. -/
def lags : IVec S8192 32 :=
  select (cmpi .slt (iotaInDim S8192 32 0) (broadcastInDim S8192 ![] bcast_S_S8192 (constantI S_ 32 4096#32))) (iotaInDim S8192 32 0)
    (subi (broadcastInDim S8192 ![] bcast_S_S8192 (constantI S_ 32 8192#32)) (iotaInDim S8192 32 0))

def times : FVec Ideal S8192 .f32 :=
  Host.divf (sitofp .f32 lags) (broadcastInDim S8192 ![] bcast_S_S8192 (constant (F := Ideal) S_ .f32 0x45807800#32))

def angles : FVec Ideal S8192 .f32 :=
  Host.divf (mulf (broadcastInDim S8192 ![] bcast_S_S8192 (constant (F := Ideal) S_ .f32 0x40C90FDB#32)) (sitofp .f32 lags))
    (broadcastInDim S8192 ![] bcast_S_S8192 (constant (F := Ideal) S_ .f32 0x45808000#32))

/-- The bands' phases. -/
def phases (f : FVec Ideal S16 .f32) (w : FVec Ideal S8192 .f32) : FVec Ideal S8192x16 .f32 :=
  mulf (broadcastInDim S8192x16 ![0, 1] bcast_S1x16_S8192x16_0_1 (broadcastInDim S1x16 ![1] bcast_S16_S1x16_1 f))
    (broadcastInDim S8192x16 ![0, 1] bcast_S8192x1_S8192x16_0_1 (broadcastInDim S8192x1 ![0] bcast_S8192_S8192x1_0 w))

/-- The features from their parts. -/
def joined (t : FVec Ideal S8192 .f32) (f : FVec Ideal S16 .f32) (w : FVec Ideal S8192 .f32) : FVec Ideal S8192x40 .f32 :=
  concatenate S8192x40 1 [⟨S8192x1, broadcastInDim S8192x1 ![0] bcast_S8192_S8192x1_0 t⟩, ⟨S8192x16, Host.cos (phases f w)⟩,
    ⟨S8192x16, Host.negf (Host.sin (phases f w))⟩,
    ⟨S8192x7, broadcastInDim S8192x7 ![] bcast_S_S8192x7 (constant (F := Ideal) S_ .f32 0x00000000#32)⟩]
    concatenates_S8192x1_S8192x16_S8192x16_S8192x7_S8192x40_d1

def features : FVec Ideal S8192x40 .f32 := joined times bands angles

def firstWeights (x : FVec Ideal S1x33x64 .f32) : FVec Ideal S40x64 .f32 :=
  pad S40x64 ![0, 0] ![7, 0] ![0, 0] (shapeCast S33x64 x shapeCasts_S1x33x64_S33x64) (sitofp (F := Ideal) .f32 (constantI S_ 32 0#32))
    pads_S33x64_S40x64_070_000 h_S_

def layerWeights (x : FVec Ideal S1x64x64 .f32) : FVec Ideal S64x64 .f32 := shapeCast S64x64 x shapeCasts_S1x64x64_S64x64

def row (x : FVec Ideal S1x64 .f32) : FVec Ideal S1x64 .f32 := broadcastInDim S1x64 ![1] bcast_S64_S1x64_1 (shapeCast S64 x shapeCasts_S1x64_S64)

def lastWeights (x : FVec Ideal S1x64x4096 .f32) : FVec Ideal S2x64x2048 .bf16 :=
  truncf .bf16 (shapeCast S2x64x2048 (transpose S2x64x2x1024 [2, 0, 1, 3] (shapeCast S64x2x2x1024
    (shapeCast S64x4096 x shapeCasts_S1x64x4096_S64x4096) shapeCasts_S64x4096_S64x2x2x1024) transposes_S64x2x2x1024_S2x64x2x1024_2_0_1_3)
    shapeCasts_S2x64x2x1024_S2x64x2048) bitsLt_bf16_f32

section Operands

variable (m : (ℓ : Loc nD τ sig) → Buf (Elt Ideal) ℓ) (c : Dev nD)

theorem features_eq : V m c main_v36 = features := by
  unfold V; after_reads_simp
  unfold features joined phases times angles lags bands spaced16
  exact rfl

theorem firstWeights_eq : V m c main_v37 = firstWeights (m ((c.tc : Thread nD τ).loc main_arg0)) := by
  unfold V; after_reads_simp; rfl

theorem row1_eq : V m c main_v45 = row (m ((c.tc : Thread nD τ).loc main_arg1)) := by
  unfold V; after_reads_simp; rfl

theorem weights2_eq : V m c main_v2 = layerWeights (m ((c.tc : Thread nD τ).loc main_arg2)) := by
  unfold V; after_reads_simp; rfl

theorem row2_eq : V m c main_v46 = row (m ((c.tc : Thread nD τ).loc main_arg3)) := by
  unfold V; after_reads_simp; rfl

theorem weights3_eq : V m c main_v4 = layerWeights (m ((c.tc : Thread nD τ).loc main_arg4)) := by
  unfold V; after_reads_simp; rfl

theorem row3_eq : V m c main_v47 = row (m ((c.tc : Thread nD τ).loc main_arg5)) := by
  unfold V; after_reads_simp; rfl

theorem rowFreq_eq : V m c main_v48 = row (m ((c.tc : Thread nD τ).loc main_arg7)) := by
  unfold V; after_reads_simp; rfl

theorem lastWeights_eq : V m c main_v44 = lastWeights (m ((c.tc : Thread nD τ).loc main_arg6)) := by
  unfold V; after_reads_simp; rfl

theorem rates_eq : V m c main_v40 = rateRow := by
  unfold V; after_reads_simp
  unfold rateRow rates
  refine congrArg rowOf (congrArg₂ ratesOf ?_ ?_)
  · after_reads_simp; exact rfl
  · after_reads_simp; exact rfl

end Operands

end Cert.Kernel6Ideal.Filters

end
-- ==== Proof.Filters.HostReads.lean ====
/- What the host prepares for the filter kernel, read at an index. -/
module

public import proofs.«01_k».proof.Proof.Filters.Host

@[expose] public section

set_option maxRecDepth 16384

noncomputable section

namespace Cert.Kernel6Ideal.Filters

open Idealize.ShloMosaic Idealize.ShloMosaic.TcCoe Idealize.SL.Sem
open Cert.Kernel6Ideal Cert.Kernel6Ideal.Gen Cert.Filters

theorem lags_at (r : Fin 8192) : lags (ix1 r) = BitVec.ofNat 32 (lag r) := by
  have e : ¬ (r : Nat) < 4096 → IntOp.subi (8192#32) (BitVec.ofNat 32 r) = BitVec.ofNat 32 (8192 - r) := fun h => by
    unfold IntOp.subi; bv_omega
  pointwise [lags]
  rw [WordCmp.cmpi_slt_ofNat (by omega) (by omega)]
  unfold lag
  by_cases h : (r : Nat) < 4096
  · rw [decide_eq_true h, if_pos h]; rfl
  · rw [decide_eq_false h, if_neg h, e h]; rfl

theorem position_at (r : Fin 8192) : (FloatOps.sitofp FTy.f32 (lags (ix1 r)) : Ideal .f32) = ((lag r : ℝ) : EReal) := by
  rw [lags_at]
  exact Attention.real_ofNat _ (by have := lag_le r; omega)

theorem times_at (r : Fin 8192) : times (ix1 r) = time (lag r) := by
  have h := position_at r
  pointwise [times, time]
  rw [h]

theorem angles_at (r : Fin 8192) : angles (ix1 r) = angle (lag r) := by
  have h := position_at r
  pointwise [angles, angle]
  rw [h]

theorem joined_time (t : FVec Ideal S8192 .f32) (f : FVec Ideal S16 .f32) (w : FVec Ideal S8192 .f32) (r : Fin 8192) :
    joined t f w (ix2 r 0) = t (ix1 r) := by
  pointwise [joined]

theorem joined_cos (t : FVec Ideal S8192 .f32) (f : FVec Ideal S16 .f32) (w : FVec Ideal S8192 .f32) (r : Fin 8192) (i : Fin 16) :
    joined t f w (ix2 r ⟨1 + i, by omega⟩) = Ideal.cos (f (ix1 i) * w (ix1 r)) := by
  pointwise [joined, phases]

theorem joined_sin (t : FVec Ideal S8192 .f32) (f : FVec Ideal S16 .f32) (w : FVec Ideal S8192 .f32) (r : Fin 8192) (i : Fin 16) :
    joined t f w (ix2 r ⟨17 + i, by omega⟩) = -Ideal.sin (f (ix1 i) * w (ix1 r)) := by
  pointwise [joined, phases]
  rw [dif_neg (by omega), dif_neg (by omega), dif_pos (by omega)]
  exact congrArg (fun i => -Ideal.sin (f (ix1 i) * w (ix1 r))) (Fin.ext (by simp only; omega))

theorem joined_zero (t : FVec Ideal S8192 .f32) (f : FVec Ideal S16 .f32) (w : FVec Ideal S8192 .f32) (r : Fin 8192) (i : Fin 7) :
    joined t f w (ix2 r ⟨33 + i, by omega⟩) = 0 := by
  pointwise [joined, phases]
  rw [dif_neg (by omega), dif_neg (by omega), dif_neg (by omega)]

theorem firstWeights_at (x : FVec Ideal S1x33x64 .f32) (k : Fin 33) (j : Fin 64) :
    firstWeights x (ix2 ⟨k, by omega⟩ j) = x (ix3 0 k j) := by
  pointwise [firstWeights]

theorem layerWeights_at (x : FVec Ideal S1x64x64 .f32) (k j : Fin 64) : layerWeights x (ix2 k j) = x (ix3 0 k j) := by
  pointwise [layerWeights]

theorem row_at (x : FVec Ideal S1x64 .f32) (j : Fin 64) : row x (ix2 0 j) = x (ix2 0 j) := by
  pointwise [row]

theorem lastWeights_at (x : FVec Ideal S1x64x4096 .f32) (o d : Fin 2) (k : Fin 64) (j : Fin 1024) :
    lastWeights x (ix3 d k ⟨1024 * o + j, by omega⟩) = x (ix3 0 k ⟨o * 2048 + d * 1024 + j, by omega⟩) := by
  pointwise [lastWeights]

theorem rateRow_at (j : Fin 1024) : rateRow (ix2 0 j) = rates (ix1 j) := by
  pointwise [rateRow, rowOf]

end Cert.Kernel6Ideal.Filters

end
-- ==== Proof.Filters.Array.lean ====
/- The filter kernel: what each grid point stages, and its result array. -/
module

public import proofs.«01_k».proof.Proof.Filters.Block
public import proofs.«01_k».proof.Proof.Filters.HostReads
public import Idealize.ShloMosaic.Lib.Pipeline.ValueKit
public import Idealize.ShloMosaic.Lib.Claim

@[expose] public section

set_option maxRecDepth 16384

noncomputable section

namespace Cert.Kernel6Ideal.Filters

open Idealize.ShloMosaic Idealize.ShloMosaic.TcCoe Idealize.SL.Sem
open Idealize.ShloMosaic.Pipeline (Dat)
open Cert.Kernel6Ideal Cert.Kernel6Ideal.Gen Cert.Filters

variable (m : (ℓ : Loc nD τ sig) → Buf (Elt Ideal) ℓ)

/-! ## The blocks: rows `512 t` on of the features, the last map's columns of the rows' direction, the other operands whole -/

theorem idx : ∀ t : Fin cfg0.N, win0_0.index t = ![t.val, 0] ∧ win0_1.index t = ![0, 0] ∧ win0_2.index t = ![0, 0] ∧
    win0_3.index t = ![0, 0] ∧ win0_4.index t = ![0, 0] ∧ win0_5.index t = ![0, 0] ∧ win0_6.index t = ![0, 0] ∧ win0_7.index t = ![0, 0] ∧
    win0_8.index t = ![direction (512 * t.val), 0, 0] ∧ win0_9.index t = ![0, 0] ∧ win0_10.index t = ![0, t.val, 0] ∧ t.val < 16 :=
  (by decide +kernel : ∀ t : Fin grid0.N, _)

section Reads

variable (c : Dev nD) (W : (b : Ref sig .tc) → Buf (Elt Ideal) ((c : Thread nD τ).loc b)) (t : Fin cfg0.N)

theorem read0 (T : Vec Ideal S8192x40 .f32) (h : W main_v36 = T) (r : Fin 512) (l : Fin 40) (r' : Fin 8192) (hr : (r' : Nat) = 512 * t.val + r) :
    View.read (Elt Ideal) ((cfg0.win 0).blk t).view (W (Pipeline.arrRef spec0 0)) (ix2 r l : S512x40.Idx) = T (ix2 r' l) := by
  subst h
  refine congrArg (W main_v36) ?_
  blk_ext [idx t]

theorem read1 (T : Vec Ideal S40x64 .f32) (h : W main_v37 = T) (r : Fin 40) (l : Fin 64) :
    View.read (Elt Ideal) ((cfg0.win 1).blk t).view (W (Pipeline.arrRef spec0 1)) (ix2 r l : S40x64.Idx) = T (ix2 r l) := by
  subst h
  refine congrArg (W main_v37) ?_
  blk_ext [idx t]

theorem read2 (T : Vec Ideal S1x64 .f32) (h : W main_v45 = T) (l : Fin 64) :
    View.read (Elt Ideal) ((cfg0.win 2).blk t).view (W (Pipeline.arrRef spec0 2)) (ix2 0 l : S1x64.Idx) = T (ix2 0 l) := by
  subst h
  refine congrArg (W main_v45) ?_
  blk_ext [idx t]

theorem read3 (T : Vec Ideal S64x64 .f32) (h : W main_v2 = T) (r l : Fin 64) :
    View.read (Elt Ideal) ((cfg0.win 3).blk t).view (W (Pipeline.arrRef spec0 3)) (ix2 r l : S64x64.Idx) = T (ix2 r l) := by
  subst h
  refine congrArg (W main_v2) ?_
  blk_ext [idx t]

theorem read4 (T : Vec Ideal S1x64 .f32) (h : W main_v46 = T) (l : Fin 64) :
    View.read (Elt Ideal) ((cfg0.win 4).blk t).view (W (Pipeline.arrRef spec0 4)) (ix2 0 l : S1x64.Idx) = T (ix2 0 l) := by
  subst h
  refine congrArg (W main_v46) ?_
  blk_ext [idx t]

theorem read5 (T : Vec Ideal S64x64 .f32) (h : W main_v4 = T) (r l : Fin 64) :
    View.read (Elt Ideal) ((cfg0.win 5).blk t).view (W (Pipeline.arrRef spec0 5)) (ix2 r l : S64x64.Idx) = T (ix2 r l) := by
  subst h
  refine congrArg (W main_v4) ?_
  blk_ext [idx t]

theorem read6 (T : Vec Ideal S1x64 .f32) (h : W main_v47 = T) (l : Fin 64) :
    View.read (Elt Ideal) ((cfg0.win 6).blk t).view (W (Pipeline.arrRef spec0 6)) (ix2 0 l : S1x64.Idx) = T (ix2 0 l) := by
  subst h
  refine congrArg (W main_v47) ?_
  blk_ext [idx t]

theorem read7 (T : Vec Ideal S1x64 .f32) (h : W main_v48 = T) (l : Fin 64) :
    View.read (Elt Ideal) ((cfg0.win 7).blk t).view (W (Pipeline.arrRef spec0 7)) (ix2 0 l : S1x64.Idx) = T (ix2 0 l) := by
  subst h
  refine congrArg (W main_v48) ?_
  blk_ext [idx t]

theorem read8 (T : Vec Ideal S2x64x2048 .bf16) (h : W main_v44 = T) (k : Fin 64) (l : Fin 2048) :
    View.read (Elt Ideal) ((cfg0.win 8).blk t).view (W (Pipeline.arrRef spec0 8)) (ix3 0 k l : S1x64x2048.Idx) =
      T (ix3 ⟨direction (512 * t.val), direction_lt _⟩ k l) := by
  subst h
  refine congrArg (W main_v44) ?_
  blk_ext [idx t]

theorem read9 (T : Vec Ideal S1x1024 .f32) (h : W main_v40 = T) (l : Fin 1024) :
    View.read (Elt Ideal) ((cfg0.win 9).blk t).view (W (Pipeline.arrRef spec0 9)) (ix2 0 l : S1x1024.Idx) = T (ix2 0 l) := by
  subst h
  refine congrArg (W main_v40) ?_
  blk_ext [idx t]

end Reads

/-- Where an index of the output block sits. -/
theorem place10 {α : Type} (T : S2x8192x1024.Idx → α) (t : Fin cfg0.N) (o : Fin 2) (r : Fin 512) (l : Fin 1024) (r' : Fin 8192)
    (hr : (r' : Nat) = 512 * t.val + r) : T ((win0_10.blk t).view.emb (ix3 o r l)) = T (ix3 o r' l) := by
  refine congrArg T ?_
  blk_ext [idx t]

/-- A point's rows are all of one direction. -/
theorem direction_block (t : Fin cfg0.N) (r : Fin 512) (r' : Fin 8192) (hr : (r' : Nat) = 512 * t.val + r) :
    direction (512 * t.val) = direction r' := by
  unfold direction
  split_ifs <;> omega

/-! ## The result array -/

/-- The result, from the argument arrays. -/
def filters (x0 : FVec Ideal S1x33x64 .f32) (x1 : FVec Ideal S1x64 .f32) (x2 : FVec Ideal S1x64x64 .f32) (x3 : FVec Ideal S1x64 .f32)
    (x4 : FVec Ideal S1x64x64 .f32) (x5 : FVec Ideal S1x64 .f32) (x6 : FVec Ideal S1x64x4096 .f32) (x7 : FVec Ideal S1x64 .f32) : FVec Ideal S2x8192x1024 .f32 :=
  fun y => value (hidden (fun i => bands (ix1 i)) (fun k j => x0 (ix3 0 k j)) (fun j => x1 (ix2 0 j)) (fun k j => x2 (ix3 0 k j)) (fun j => x3 (ix2 0 j))
    (fun k j => x4 (ix3 0 k j)) (fun j => x5 (ix2 0 j)) (fun j => x7 (ix2 0 j)) (lag (y 1).val))
    (fun k => x6 (ix3 0 k (column (y 0) (y 1) (y 2)))) (time (lag (y 1).val)) (rates (ix1 (y 2)))

/-- The first layer of the features: the last seven of the 40 inputs are 0. -/
theorem first40_features (x0 : FVec Ideal S1x33x64 .f32) (b fr : Fin 64 → EReal) (r : Fin 8192) :
    first40 (fun k => features (ix2 r k)) (fun k j => firstWeights x0 (ix2 k j)) b fr =
      first (time (lag r)) (fun i => Ideal.cos (bands (ix1 i) * angle (lag r))) (fun i => -Ideal.sin (bands (ix1 i) * angle (lag r)))
        (fun k j => x0 (ix3 0 k j)) b fr := by
  funext j
  have h := sum_40 (fun k => joined times bands angles (ix2 r k) * firstWeights x0 (ix2 k j)) fun i => by
    simp only [joined_zero, zero_mul]
  have e0 : firstWeights x0 (ix2 0 j) = x0 (ix3 0 0 j) := firstWeights_at x0 0 j
  have e1 : ∀ i : Fin 16, firstWeights x0 (ix2 ⟨1 + i, by omega⟩ j) = x0 (ix3 0 ⟨1 + i, by omega⟩ j) := fun i => firstWeights_at x0 ⟨1 + i, by omega⟩ j
  have e2 : ∀ i : Fin 16, firstWeights x0 (ix2 ⟨17 + i, by omega⟩ j) = x0 (ix3 0 ⟨17 + i, by omega⟩ j) := fun i => firstWeights_at x0 ⟨17 + i, by omega⟩ j
  show Ideal.sin (fr j * ((∑ k : Fin 40, joined times bands angles (ix2 r k) * firstWeights x0 (ix2 k j)) + b j)) = _
  rw [h]
  simp only [joined_time, joined_cos, joined_sin, times_at, angles_at, e0, e1, e2]
  rfl

section Entries

variable (c : Dev nD) (t : Fin cfg0.N)

theorem weights1_at (k : Fin 40) (j : Fin 64) : (iblk m c 1 t : Vec Ideal S40x64 .f32) (ix2 k j) = firstWeights (m ((c.tc : Thread nD τ).loc main_arg0)) (ix2 k j) :=
  read1 c (V m c) t _ (firstWeights_eq m c) k j

theorem bias1_at (j : Fin 64) : (iblk m c 2 t : Vec Ideal S1x64 .f32) (ix2 0 j) = m ((c.tc : Thread nD τ).loc main_arg1) (ix2 0 j) :=
  (read2 c (V m c) t _ (row1_eq m c) j).trans (row_at _ j)

theorem weights2_at (k j : Fin 64) : (iblk m c 3 t : Vec Ideal S64x64 .f32) (ix2 k j) = m ((c.tc : Thread nD τ).loc main_arg2) (ix3 0 k j) :=
  (read3 c (V m c) t _ (weights2_eq m c) k j).trans (layerWeights_at _ k j)

theorem bias2_at (j : Fin 64) : (iblk m c 4 t : Vec Ideal S1x64 .f32) (ix2 0 j) = m ((c.tc : Thread nD τ).loc main_arg3) (ix2 0 j) :=
  (read4 c (V m c) t _ (row2_eq m c) j).trans (row_at _ j)

theorem weights3_at (k j : Fin 64) : (iblk m c 5 t : Vec Ideal S64x64 .f32) (ix2 k j) = m ((c.tc : Thread nD τ).loc main_arg4) (ix3 0 k j) :=
  (read5 c (V m c) t _ (weights3_eq m c) k j).trans (layerWeights_at _ k j)

theorem bias3_at (j : Fin 64) : (iblk m c 6 t : Vec Ideal S1x64 .f32) (ix2 0 j) = m ((c.tc : Thread nD τ).loc main_arg5) (ix2 0 j) :=
  (read6 c (V m c) t _ (row3_eq m c) j).trans (row_at _ j)

theorem freq_at (j : Fin 64) : (iblk m c 7 t : Vec Ideal S1x64 .f32) (ix2 0 j) = m ((c.tc : Thread nD τ).loc main_arg7) (ix2 0 j) :=
  (read7 c (V m c) t _ (rowFreq_eq m c) j).trans (row_at _ j)

theorem rate_at (j : Fin 1024) : (iblk m c 9 t : Vec Ideal S1x1024 .f32) (ix2 0 j) = rates (ix1 j) :=
  (read9 c (V m c) t _ (rates_eq m c) j).trans (rateRow_at j)

variable (r : Fin 512) (r' : Fin 8192) (hr : (r' : Nat) = 512 * t.val + r)

include hr

theorem feature_at (k : Fin 40) : (iblk m c 0 t : Vec Ideal S512x40 .f32) (ix2 r k) = features (ix2 r' k) :=
  read0 c (V m c) t _ (features_eq m c) r k r' hr

theorem column_at (o : Fin 2) (k : Fin 64) (j : Fin 1024) : (iblk m c 8 t : Vec Ideal S1x64x2048 .bf16) (ix3 0 k ⟨1024 * o + j, by omega⟩) =
    m ((c.tc : Thread nD τ).loc main_arg6) (ix3 0 k (column o r' j)) := by
  refine (read8 c (V m c) t _ (lastWeights_eq m c) k ⟨1024 * o + j, by omega⟩).trans
    ((lastWeights_at _ o ⟨direction (512 * t.val), direction_lt _⟩ k j).trans
      (congrArg (fun l => m ((c.tc : Thread nD τ).loc main_arg6) (ix3 0 k l)) (Fin.ext ?_)))
  exact congrArg (fun d => o * 2048 + d * 1024 + (j : Nat)) (direction_block t r r' hr)

/-- One entry of the output block. -/
theorem filters_block_at (o : Fin 2) (j : Fin 1024) :
    out0_10 (F := Ideal) (iblk m c 0 t) (iblk m c 1 t) (iblk m c 2 t) (iblk m c 3 t) (iblk m c 4 t) (iblk m c 5 t) (iblk m c 6 t) (iblk m c 7 t)
        (iblk m c 8 t) (iblk m c 9 t) (ix3 o r j) =
      filters (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (ix3 o r' j) := by
  have e0 : features (ix2 r' 0) = time (lag r') := (joined_time _ _ _ _).trans (times_at r')
  rw [block_at]
  simp only [feature_at m c t r r' hr, weights1_at, bias1_at, weights2_at, bias2_at, weights3_at, bias3_at, freq_at, rate_at, column_at m c t r r' hr, e0,
    first40_features]
  rfl

end Entries

/-- The result array after the run. -/
theorem final (c : Dev nD) : (dats m 0 c).arrAt 10 (cfgs 0).N =
    filters (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  refine (dats m 0 c).arrAt_eq_of_covers 10 _ (by decide +kernel) fun t _ y => ?_
  have ht : t.val < 16 := t.isLt
  obtain ⟨o, r, l, rfl⟩ : ∃ (o : Fin 2) (r : Fin 512) (l : Fin 1024), y = ix3 o r l := ⟨y 0, y 1, y 2, by funext a; fin_cases a <;> rfl⟩
  blk_simp
  rw [after0_10]
  exact (filters_block_at m c t r ⟨512 * t.val + r, by omega⟩ rfl o l).trans (place10 (filters _ _ _ _ _ _ _ _) t o r l _ rfl).symm

end Cert.Kernel6Ideal.Filters

end
-- ==== Proof.Filters.RefTerms.lean ====
/- The reference's lines for the filters: their operations, named, and what their run leaves. -/
module

public import proofs.«01_k».proof.Proof.Gen.Reference6Ideal.Run
public import proofs.«01_k».proof.Proof.Filters.Spec

@[expose] public section

set_option maxRecDepth 16384

noncomputable section

namespace Cert.Reference6Ideal.Filters

open Idealize.ShloMosaic Idealize.ShloMosaic.TcCoe Idealize.SL.Sem
open Cert.Reference6Ideal Cert.Reference6Ideal.Gen Cert.Filters

/-- A row repeated for every position. -/
def spread (x : FVec Ideal S1x64 .f32) : FVec Ideal S4112x64 .f32 :=
  broadcastInDim S4112x64 ![0, 1] bcast_S1x64_S4112x64_0_1 (broadcastInDim S1x64 ![1] bcast_S64_S1x64_1 (shapeCast S64 x shapeCasts_S1x64_S64))

/-- Evenly spaced values of 16 lines. -/
def spaced16 (a b : FVec Ideal S_ .f32) : FVec Ideal S16 .f32 :=
  concatenate S16 0 [⟨S15, addf (mulf (broadcastInDim S15 ![0] bcast_S1_S15_0 (shapeCast S1 a shapeCasts_S_S1))
      (subf (broadcastInDim S15 ![] bcast_S_S15 (constant (F := Ideal) S_ .f32 0x3F800000#32))
        (Host.divf (sitofp .f32 (iotaInDim S15 32 0)) (broadcastInDim S15 ![] bcast_S_S15 (constant (F := Ideal) S_ .f32 0x41700000#32)))))
      (mulf (broadcastInDim S15 ![0] bcast_S1_S15_0 (shapeCast S1 b shapeCasts_S_S1))
        (Host.divf (sitofp .f32 (iotaInDim S15 32 0)) (broadcastInDim S15 ![] bcast_S_S15 (constant (F := Ideal) S_ .f32 0x41700000#32))))⟩,
    ⟨S1, broadcastInDim S1 ![] bcast_S_S1 b⟩] concatenates_S15_S1_S16_d0

/-- The bands. -/
def bands : FVec Ideal S16 .f32 := spaced16 (id (constant (F := Ideal) S_ .f32 0x38D1B717#32)) (sitofp .f32 (constantI S_ 32 15#32))

/-- Evenly spaced values of 1024 lines. -/
def spaced1024 (a b : FVec Ideal S_ .f32) : FVec Ideal S1024 .f32 :=
  concatenate S1024 0 [⟨S1023, addf (mulf (broadcastInDim S1023 ![0] bcast_S1_S1023_0 (shapeCast S1 a shapeCasts_S_S1))
      (subf (broadcastInDim S1023 ![] bcast_S_S1023 (constant (F := Ideal) S_ .f32 0x3F800000#32))
        (Host.divf (sitofp .f32 (iotaInDim S1023 32 0)) (broadcastInDim S1023 ![] bcast_S_S1023 (constant (F := Ideal) S_ .f32 0x447FC000#32)))))
      (mulf (broadcastInDim S1023 ![0] bcast_S1_S1023_0 (shapeCast S1 b shapeCasts_S_S1))
        (Host.divf (sitofp .f32 (iotaInDim S1023 32 0)) (broadcastInDim S1023 ![] bcast_S_S1023 (constant (F := Ideal) S_ .f32 0x447FC000#32))))⟩,
    ⟨S1, broadcastInDim S1 ![] bcast_S_S1 b⟩] concatenates_S1023_S1_S1024_d0

/-- The decay rates. -/
def rates : FVec Ideal S1024 .f32 :=
  Host.absf (spaced1024 (id (constant (F := Ideal) S_ .f32 0xC0447CBD#32)) (id (constant (F := Ideal) S_ .f32 0xC1759BEC#32)))

/-- The positions' times: 4112 evenly spaced values from 0 to 1. -/
def times : FVec Ideal S4112 .f32 :=
  concatenate S4112 0 [⟨S4111, addf (mulf (broadcastInDim S4111 ![0] bcast_S1_S4111_0 (shapeCast S1 (id (constant (F := Ideal) S_ .f32 0x00000000#32)) shapeCasts_S_S1))
      (subf (broadcastInDim S4111 ![] bcast_S_S4111 (constant (F := Ideal) S_ .f32 0x3F800000#32))
        (Host.divf (sitofp .f32 (iotaInDim S4111 32 0)) (broadcastInDim S4111 ![] bcast_S_S4111 (constant (F := Ideal) S_ .f32 0x45807800#32)))))
      (mulf (broadcastInDim S4111 ![0] bcast_S1_S4111_0 (shapeCast S1 (id (constant (F := Ideal) S_ .f32 0x3F800000#32)) shapeCasts_S_S1))
        (Host.divf (sitofp .f32 (iotaInDim S4111 32 0)) (broadcastInDim S4111 ![] bcast_S_S4111 (constant (F := Ideal) S_ .f32 0x45807800#32))))⟩,
    ⟨S1, broadcastInDim S1 ![] bcast_S_S1 (id (constant (F := Ideal) S_ .f32 0x3F800000#32))⟩] concatenates_S4111_S1_S4112_d0

def angles : FVec Ideal S4112x1 .f32 :=
  Host.divf (mulf (broadcastInDim S4112x1 ![] bcast_S_S4112x1 (constant (F := Ideal) S_ .f32 0x40C90FDB#32))
    (broadcastInDim S4112x1 ![0] bcast_S4112_S4112x1_0 (sitofp .f32 (iotaInDim S4112 32 0))))
    (broadcastInDim S4112x1 ![] bcast_S_S4112x1 (constant (F := Ideal) S_ .f32 0x45808000#32))

/-- The bands' phases. -/
def phases (f : FVec Ideal S16 .f32) (w : FVec Ideal S4112x1 .f32) : FVec Ideal S4112x16 .f32 :=
  mulf (broadcastInDim S4112x16 ![0, 1] bcast_S1x16_S4112x16_0_1 (broadcastInDim S1x16 ![1] bcast_S16_S1x16_1 f))
    (broadcastInDim S4112x16 ![0, 1] bcast_S4112x1_S4112x16_0_1 w)

/-- The times as a column. -/
def timeColumn (t : FVec Ideal S4112 .f32) : FVec Ideal S4112x1 .f32 := broadcastInDim S4112x1 ![0] bcast_S4112_S4112x1_0 t

/-- The features from their parts. -/
def joined (t : FVec Ideal S4112 .f32) (f : FVec Ideal S16 .f32) (w : FVec Ideal S4112x1 .f32) : FVec Ideal S4112x33 .f32 :=
  concatenate S4112x33 1 [⟨S4112x1, timeColumn t⟩, ⟨S4112x16, Host.cos (phases f w)⟩, ⟨S4112x16, Host.negf (Host.sin (phases f w))⟩]
    concatenates_S4112x1_S4112x16_S4112x16_S4112x33_d1

def firstLayer (z : FVec Ideal S4112x33 .f32) (w : FVec Ideal S1x33x64 .f32) (b fr : FVec Ideal S1x64 .f32) : FVec Ideal S4112x64 .f32 :=
  Host.sin (mulf (spread fr) (addf (Host.dotGeneral dot_S4112x33_S33x64_S4112x64_1_0_0_1_n_n none z (shapeCast S33x64 w shapeCasts_S1x33x64_S33x64)) (spread b)))

def layer (h : FVec Ideal S4112x64 .f32) (w : FVec Ideal S1x64x64 .f32) (b fr : FVec Ideal S1x64 .f32) : FVec Ideal S4112x64 .f32 :=
  Host.sin (mulf (spread fr) (addf (Host.dotGeneral dot_S4112x64_S64x64_S4112x64_1_0_0_1_n_n none h (shapeCast S64x64 w shapeCasts_S1x64x64_S64x64)) (spread b)))

/-- The decay. -/
def decay (t : FVec Ideal S4112 .f32) (d : FVec Ideal S1024 .f32) : FVec Ideal S4112x2x2x1024 .f32 :=
  broadcastInDim S4112x2x2x1024 ![0, 1, 2, 3] bcast_S4112x1x1x1024_S4112x2x2x1024_0_1_2_3 (broadcastInDim S4112x1x1x1024 ![0, 3] bcast_S4112x1024_S4112x1x1x1024_0_3
    (Host.exp (mulf (broadcastInDim S4112x1024 ![0, 1] bcast_S4112x1_S4112x1024_0_1 (Host.negf (timeColumn t)))
      (broadcastInDim S4112x1024 ![0, 1] bcast_S1x1024_S4112x1024_0_1 (broadcastInDim S1x1024 ![1] bcast_S1024_S1x1024_1 d)))))

/-- The filters from the layers. -/
def mapped (h : FVec Ideal S4112x64 .f32) (w : FVec Ideal S1x64x4096 .f32) (t : FVec Ideal S4112 .f32) (d : FVec Ideal S1024 .f32) : FVec Ideal S4112x2x2x1024 .f32 :=
  mulf (shapeCast S4112x2x2x1024 (Host.dotGeneral dot_S4112x64_S64x4096_S4112x4096_1_0_0_1_n_n none h (shapeCast S64x4096 w shapeCasts_S1x64x4096_S64x4096))
    shapeCasts_S4112x4096_S4112x2x2x1024) (decay t d)

/-- The forward filters' first half. -/
def forward (x : FVec Ideal S4112x2x2x1024 .f32) : FVec Ideal S4096x2x1024 .f32 :=
  shapeCast S4096x2x1024 (extractStridedSlice S4096x2x1x1024 ![0, 0, 0, 0] x slices_S4112x2x2x1024_S4096x2x1x1024_0_0_0_0)
    shapeCasts_S4096x2x1x1024_S4096x2x1024

/-- The backward filters, back to front. -/
def backward (x : FVec Ideal S4112x2x2x1024 .f32) : FVec Ideal S4096x2x1024 .f32 :=
  shapeCast S4096x2x1024 (Host.reverse [0] (extractStridedSlice S4096x2x1x1024 ![1, 0, 1, 0] x slices_S4112x2x2x1024_S4096x2x1x1024_1_0_1_0))
    shapeCasts_S4096x2x1x1024_S4096x2x1024

/-- The filters laid out circularly. -/
def laid (x : FVec Ideal S4112x2x2x1024 .f32) : FVec Ideal S2x8192x1024 .f32 :=
  transpose S2x8192x1024 [1, 0, 2] (concatenate S8192x2x1024 0 [⟨S4096x2x1024, forward x⟩, ⟨S4096x2x1024, backward x⟩]
    concatenates_S4096x2x1024_S4096x2x1024_S8192x2x1024_d0) transposes_S8192x2x1024_S2x8192x1024_1_0_2

/-- The layers' values. -/
def layers (x0 : FVec Ideal S1x33x64 .f32) (x1 : FVec Ideal S1x64 .f32) (x2 : FVec Ideal S1x64x64 .f32) (x3 : FVec Ideal S1x64 .f32)
    (x4 : FVec Ideal S1x64x64 .f32) (x5 x7 : FVec Ideal S1x64 .f32) : FVec Ideal S4112x64 .f32 :=
  layer (layer (firstLayer (joined times bands angles) x0 x1 x7) x2 x3 x7) x4 x5 x7

/-- The reference's result, from the argument arrays. -/
def result (x0 : FVec Ideal S1x33x64 .f32) (x1 : FVec Ideal S1x64 .f32) (x2 : FVec Ideal S1x64x64 .f32) (x3 : FVec Ideal S1x64 .f32)
    (x4 : FVec Ideal S1x64x64 .f32) (x5 : FVec Ideal S1x64 .f32) (x6 : FVec Ideal S1x64x4096 .f32) (x7 : FVec Ideal S1x64 .f32) : FVec Ideal S2x8192x1024 .f32 :=
  laid (mapped (layers x0 x1 x2 x3 x4 x5 x7) x6 times rates)

theorem result_eq (m : (ℓ : Loc nD τ sig) → Buf (Elt Ideal) ℓ) (c : Dev nD) : Value.res_out0 (F := Ideal) m c =
    result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  unfold Value.res_out0 Value.res_main_v71 result laid forward backward mapped decay layers layer firstLayer joined timeColumn phases angles times rates spaced1024 bands spaced16 spread
  exact rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v71) =
        result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) :=
  (θ_run defs _ _).mono (fun _ h c => ⟨(h c).1.trans (result_eq m c), (h c).2⟩) (Value.run m ρ)

end Cert.Reference6Ideal.Filters

end
-- ==== Proof.Filters.RefReads.lean ====
/- The reference's filters, read at an index. -/
module

public import proofs.«01_k».proof.Proof.Filters.RefTerms

@[expose] public section

set_option maxRecDepth 16384

noncomputable section

namespace Cert.Reference6Ideal.Filters

open Idealize.ShloMosaic Idealize.ShloMosaic.TcCoe Idealize.SL.Sem
open Cert.Reference6Ideal Cert.Reference6Ideal.Gen Cert.Filters

theorem times_at (l : Fin 4112) (h : (l : Nat) < 4111) : times (ix1 l) = time l := by
  have e := Attention.real_ofNat l (by omega)
  unfold times
  simp only [id_eq]
  pointwise [time]
  rw [dif_pos h, zero_mul, zero_add, e]

theorem angles_at (l : Fin 4112) : angles (ix2 l 0) = angle l := by
  have e := Attention.real_ofNat l (by omega)
  pointwise [angles, angle]
  rw [e]

theorem timeColumn_at (t : FVec Ideal S4112 .f32) (l : Fin 4112) : timeColumn t (ix2 l 0) = t (ix1 l) := by
  pointwise [timeColumn]

theorem joined_time (t : FVec Ideal S4112 .f32) (f : FVec Ideal S16 .f32) (w : FVec Ideal S4112x1 .f32) (l : Fin 4112) :
    joined t f w (ix2 l 0) = t (ix1 l) := by
  pointwise [joined, timeColumn]

theorem joined_cos (t : FVec Ideal S4112 .f32) (f : FVec Ideal S16 .f32) (w : FVec Ideal S4112x1 .f32) (l : Fin 4112) (i : Fin 16) :
    joined t f w (ix2 l ⟨1 + i, by omega⟩) = Ideal.cos (f (ix1 i) * w (ix2 l 0)) := by
  pointwise [joined, phases]

theorem joined_sin (t : FVec Ideal S4112 .f32) (f : FVec Ideal S16 .f32) (w : FVec Ideal S4112x1 .f32) (l : Fin 4112) (i : Fin 16) :
    joined t f w (ix2 l ⟨17 + i, by omega⟩) = -Ideal.sin (f (ix1 i) * w (ix2 l 0)) := by
  pointwise [joined, phases]
  rw [dif_neg (by omega), dif_neg (by omega)]
  exact congrArg (fun i => -Ideal.sin (f (ix1 i) * w (ix2 l 0))) (Fin.ext (by simp only; omega))

theorem firstLayer_at (z : FVec Ideal S4112x33 .f32) (w : FVec Ideal S1x33x64 .f32) (b fr : FVec Ideal S1x64 .f32) (l : Fin 4112) (j : Fin 64) :
    firstLayer z w b fr (ix2 l j) = Ideal.sin (fr (ix2 0 j) * ((∑ k : Fin 33, z (ix2 l k) * w (ix3 0 k j)) + b (ix2 0 j))) := by
  pointwise [firstLayer, spread]

theorem layer_at (h : FVec Ideal S4112x64 .f32) (w : FVec Ideal S1x64x64 .f32) (b fr : FVec Ideal S1x64 .f32) (l : Fin 4112) (j : Fin 64) :
    layer h w b fr (ix2 l j) = dense (fun k => h (ix2 l k)) (fun k j => w (ix3 0 k j)) (fun j => b (ix2 0 j)) (fun j => fr (ix2 0 j)) j := by
  pointwise [layer, spread, dense]

theorem decay_at (t : FVec Ideal S4112 .f32) (d : FVec Ideal S1024 .f32) (l : Fin 4112) (o e : Fin 2) (j : Fin 1024) :
    decay t d (ix4 l o e j) = Ideal.exp (-t (ix1 l) * d (ix1 j)) := by
  pointwise [decay, timeColumn]

theorem mapped_at (h : FVec Ideal S4112x64 .f32) (w : FVec Ideal S1x64x4096 .f32) (t : FVec Ideal S4112 .f32) (d : FVec Ideal S1024 .f32)
    (l : Fin 4112) (o e : Fin 2) (j : Fin 1024) :
    mapped h w t d (ix4 l o e j) = value (fun k => h (ix2 l k)) (fun k => w (ix3 0 k ⟨o * 2048 + e * 1024 + j, by omega⟩)) (t (ix1 l)) (d (ix1 j)) := by
  have hd := decay_at t d l o e j
  pointwise [mapped, value]
  rw [hd]

theorem forward_at (x : FVec Ideal S4112x2x2x1024 .f32) (r : Fin 4096) (o : Fin 2) (j : Fin 1024) :
    forward x (ix3 r o j) = x (ix4 ⟨r, by omega⟩ o 0 j) := by
  pointwise [forward]

theorem backward_at (x : FVec Ideal S4112x2x2x1024 .f32) (r : Fin 4096) (o : Fin 2) (j : Fin 1024) :
    backward x (ix3 r o j) = x (ix4 ⟨4096 - r, by omega⟩ o 1 j) := by
  pointwise [backward]
  have e : 1 + (r.rev : Nat) = 4096 - r := by rw [Fin.val_rev]; omega
  exact congrArg (fun l => x (ix4 l o 1 j)) (Fin.ext e : (⟨1 + r.rev, by omega⟩ : Fin 4112) = ⟨4096 - r, by omega⟩)

theorem laid_at (x : FVec Ideal S4112x2x2x1024 .f32) (o : Fin 2) (r : Fin 8192) (j : Fin 1024) :
    laid x (ix3 o r j) = x (ix4 ⟨lag r, by have := lag_le r; omega⟩ o ⟨direction r, direction_lt r⟩ j) := by
  by_cases h : (r : Nat) < 4096
  · have e : lag r = r := if_pos h
    have e' : direction r = 0 := if_pos h
    have e2 : laid x (ix3 o r j) = forward x (ix3 ⟨r, h⟩ o j) := by
      pointwise [laid]
      rw [dif_pos h]
    rw [e2, forward_at]
    exact congrArg₂ (fun l e => x (ix4 l o e j)) (Fin.ext e.symm) (Fin.ext e'.symm)
  · have e : lag r = 8192 - r := if_neg h
    have e' : direction r = 1 := if_neg h
    have e2 : laid x (ix3 o r j) = backward x (ix3 ⟨r - 4096, by omega⟩ o j) := by
      pointwise [laid]
      rw [dif_neg h]
    rw [e2, backward_at]
    exact congrArg₂ (fun l e => x (ix4 l o e j)) (Fin.ext (Eq.trans (by simp only; omega) e.symm)) (Fin.ext e'.symm)

variable (x0 : FVec Ideal S1x33x64 .f32) (x1 : FVec Ideal S1x64 .f32) (x2 : FVec Ideal S1x64x64 .f32) (x3 : FVec Ideal S1x64 .f32)
  (x4 : FVec Ideal S1x64x64 .f32) (x5 : FVec Ideal S1x64 .f32) (x6 : FVec Ideal S1x64x4096 .f32) (x7 : FVec Ideal S1x64 .f32)

theorem firstLayer_joined (l : Fin 4112) (h : (l : Nat) < 4111) (j : Fin 64) :
    firstLayer (joined times bands angles) x0 x1 x7 (ix2 l j) =
      first (time l) (fun i => Ideal.cos (bands (ix1 i) * angle l)) (fun i => -Ideal.sin (bands (ix1 i) * angle l))
        (fun k j => x0 (ix3 0 k j)) (fun j => x1 (ix2 0 j)) (fun j => x7 (ix2 0 j)) j := by
  rw [firstLayer_at, sum_33, joined_time, times_at l h]
  simp only [joined_cos, joined_sin, angles_at]
  rfl

theorem layers_at (l : Fin 4112) (h : (l : Nat) < 4111) (j : Fin 64) :
    layers x0 x1 x2 x3 x4 x5 x7 (ix2 l j) =
      hidden (fun i => bands (ix1 i)) (fun k j => x0 (ix3 0 k j)) (fun j => x1 (ix2 0 j)) (fun k j => x2 (ix3 0 k j)) (fun j => x3 (ix2 0 j))
        (fun k j => x4 (ix3 0 k j)) (fun j => x5 (ix2 0 j)) (fun j => x7 (ix2 0 j)) l j := by
  unfold layers
  simp only [layer_at, firstLayer_joined x0 x1 x7 l h]
  rfl

theorem result_at (o : Fin 2) (r : Fin 8192) (j : Fin 1024) :
    result x0 x1 x2 x3 x4 x5 x6 x7 (ix3 o r j) =
      value (hidden (fun i => bands (ix1 i)) (fun k j => x0 (ix3 0 k j)) (fun j => x1 (ix2 0 j)) (fun k j => x2 (ix3 0 k j)) (fun j => x3 (ix2 0 j))
        (fun k j => x4 (ix3 0 k j)) (fun j => x5 (ix2 0 j)) (fun j => x7 (ix2 0 j)) (lag r))
        (fun k => x6 (ix3 0 k (column o r j))) (time (lag r)) (rates (ix1 j)) := by
  have hl := lag_le r
  unfold result
  rw [laid_at, mapped_at, times_at _ (show (lag r : Nat) < 4111 by omega)]
  simp only [layers_at x0 x1 x2 x3 x4 x5 x7 ⟨lag r, by omega⟩ (show (lag r : Nat) < 4111 by omega)]
  rfl

end Cert.Reference6Ideal.Filters

end
-- ==== Proof.Filters.Claims.lean ====
/- The frames and the value claim of the call that evaluates the convolution's filters. -/
module

public import proofs.«01_k».proof.Defs
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Filters.Array
public import proofs.«01_k».proof.Proof.Filters.RefReads
public import Idealize.ShloMosaic.Lib.Claim
public import Idealize.ShloMosaic.Lib.Quiescent

@[expose] public section

set_option maxRecDepth 16384

noncomputable section

namespace Cert.Filters

open Idealize.ShloMosaic Idealize.ShloMosaic.TcCoe Idealize.SL.Sem

theorem frameK6 : Cert.quiescent_Kernel6 := fun m g _ => Cert.Kernel6.Gen.frame m g

theorem frameI6 : Cert.quiescent_Kernel6Ideal := fun m g _ => Cert.Kernel6Ideal.Gen.frame m g

theorem frameR6 : Cert.quiescent_Reference6Ideal := fun m g _ =>
  (θ_run Cert.Reference6Ideal.defs _ _).mono (fun r h => ⟨fun c => (h c).2, sem_eq_zero_of_no_sems (by decide) r.2⟩)
    (Cert.Reference6Ideal.Filters.run m g)

theorem bands_same : Cert.Reference6Ideal.Filters.bands = Cert.Kernel6Ideal.Filters.bands := rfl

theorem rates_same : Cert.Reference6Ideal.Filters.rates = Cert.Kernel6Ideal.Filters.rates := rfl

/-- Arrays of rank 3 that agree at every entry are equal. -/
theorem array_ext {α : Type} {a b d : Nat} (f g : (⟨3, ![a, b, d]⟩ : Shape).Idx → α)
    (h : ∀ (o : Fin a) (r : Fin b) (j : Fin d), f (ix3 o r j) = g (ix3 o r j)) : f = g := by
  funext y
  have hy : y = ix3 (y 0) (y 1) (y 2) := by funext a; fin_cases a <;> rfl
  rw [hy]
  exact h (y 0) (y 1) (y 2)

section Same

open Cert.Reference6Ideal

theorem same (x0 : FVec Ideal S1x33x64 .f32) (x1 : FVec Ideal S1x64 .f32) (x2 : FVec Ideal S1x64x64 .f32) (x3 : FVec Ideal S1x64 .f32)
    (x4 : FVec Ideal S1x64x64 .f32) (x5 : FVec Ideal S1x64 .f32) (x6 : FVec Ideal S1x64x4096 .f32) (x7 : FVec Ideal S1x64 .f32) :
    Cert.Reference6Ideal.Filters.result x0 x1 x2 x3 x4 x5 x6 x7 = Cert.Kernel6Ideal.Filters.filters x0 x1 x2 x3 x4 x5 x6 x7 :=
  array_ext _ _ fun o r j => by
    rw [Cert.Reference6Ideal.Filters.result_at, bands_same, rates_same]
    rfl

end Same

/-- The filters: both programs' results are `filters` of the arguments. -/
theorem algebraic6 : Cert.algebraic_Kernel6Ideal_Reference6Ideal := by
  pair_intro
  · run_from Cert.Kernel6Ideal.Value.run_blocks m g
  · run_from Cert.Reference6Ideal.Filters.run m' g'
    exact (same _ _ _ _ _ _ _ _).trans (Cert.Kernel6Ideal.Filters.final m c).symm

end Cert.Filters

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Attention.RefRun
public import proofs.«01_k».proof.Proof.Attention.Array
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Mlp.Claims
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Projections.Claims
public import proofs.«01_k».proof.Proof.Gen.Kernel6
public import proofs.«01_k».proof.Proof.Gen.Kernel6Ideal
public import proofs.«01_k».proof.Proof.Gen.Reference6Ideal
public import proofs.«01_k».proof.Proof.Filters.Claims
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- The precondition's shapes. -/
instance preFacts : Cert.Pre_scores_finite.Facts := by
  constructor <;> decide

theorem frameK : Cert.quiescent_Kernel := fun m g _ => Cert.Kernel.Gen.frame m g

theorem frameI : Cert.quiescent_KernelIdeal := fun m g _ => Cert.KernelIdeal.Gen.frame m g

theorem frameI' : Cert.quiescent_KernelIdeal_pre_scores_finite := fun m g _ => Cert.KernelIdeal.Gen.frame m g

theorem frameR : Cert.quiescent_ReferenceIdeal := fun m g _ =>
  (θ_run Cert.ReferenceIdeal.defs _ _).mono (fun r h => ⟨fun c => (h c).2, sem_eq_zero_of_no_sems (by decide) r.2⟩)
    (Cert.ReferenceIdeal.Attention.run m g)

theorem frameR' : Cert.quiescent_ReferenceIdeal_pre_scores_finite := fun m g _ =>
  (θ_run Cert.ReferenceIdeal.defs _ _).mono (fun r h => ⟨fun c => (h c).2, sem_eq_zero_of_no_sems (by decide) r.2⟩)
    (Cert.ReferenceIdeal.Attention.run m g)

/-- The precondition, as the facts the value proof uses. -/
theorem finite_at (m : (ℓ : Loc Cert.KernelIdeal.nD Cert.KernelIdeal.τ Cert.KernelIdeal.sig) → Buf (Elt Ideal) ℓ)
    (hpre : Cert.Pre_KernelIdeal_scores_finite m) (c : Dev Cert.KernelIdeal.nD) :
    Cert.KernelIdeal.Attention.Finite (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) :=
  Cert.KernelIdeal.Attention.finite_of _ _ _ _ (hpre c).1 (hpre c).2.1 (hpre c).2.2.1 (hpre c).2.2.2

/-- Both programs' results are `attention` of the arguments. -/
theorem algebraic : Cert.algebraic_KernelIdeal_ReferenceIdeal_pre_scores_finite := by
  pair_intro
  · run_from Cert.KernelIdeal.Value.run_blocks m g
  · run_from Cert.ReferenceIdeal.Attention.run m' g'
    exact (Cert.KernelIdeal.Attention.final m c rfl rfl rfl rfl (finite_at m hpre c)).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, preFacts,
    frameK, frameI, frameI', frameR, frameR',
    Cert.Mlp.frameK2, Cert.Mlp.frameI2, Cert.Mlp.frameR2, Cert.Mlp.frameK3, Cert.Mlp.frameI3, Cert.Mlp.frameR3,
    Cert.Projections.frameK4, Cert.Projections.frameI4, Cert.Projections.frameR4,
    Cert.Projections.frameK5, Cert.Projections.frameI5, Cert.Projections.frameR5,
    Cert.Filters.frameK6, Cert.Filters.frameI6, Cert.Filters.frameR6,
    trivial, algebraic, trivial, Cert.Mlp.algebraic2, trivial, Cert.Mlp.algebraic3,
    trivial, Cert.Projections.algebraic4, trivial, Cert.Projections.algebraic5,
    trivial, Cert.Filters.algebraic6⟩

end Cert.Proof

end
